-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastRefIdeal (m : (ℓ : Loc Cert.LastRefIdeal.nD Cert.LastRefIdeal.τ Cert.LastRefIdeal.sig) → Buf (Elt Ideal) ℓ) : Prop :=
  True

def Pre_OddIn (m : (ℓ : Loc Cert.OddIn.nD Cert.OddIn.τ Cert.OddIn.sig) → Buf (Elt Bits) ℓ) : Prop :=
  True

def Pre_OddInIdeal (m : (ℓ : Loc Cert.OddInIdeal.nD Cert.OddInIdeal.τ Cert.OddInIdeal.sig) → Buf (Elt Ideal) ℓ) : Prop :=
  True

def Pre_OddInRefIdeal (m : (ℓ : Loc Cert.OddInRefIdeal.nD Cert.OddInRefIdeal.τ Cert.OddInRefIdeal.sig) → Buf (Elt Ideal) ℓ) : Prop :=
  True

def Pre_OddOut (m : (ℓ : Loc Cert.OddOut.nD Cert.OddOut.τ Cert.OddOut.sig) → Buf (Elt Bits) ℓ) : Prop :=
  True

def Pre_OddOutIdeal (m : (ℓ : Loc Cert.OddOutIdeal.nD Cert.OddOutIdeal.τ Cert.OddOutIdeal.sig) → Buf (Elt Ideal) ℓ) : Prop :=
  True

def Pre_OddOutRefIdeal (m : (ℓ : Loc Cert.OddOutRefIdeal.nD Cert.OddOutRefIdeal.τ Cert.OddOutRefIdeal.sig) → Buf (Elt Ideal) ℓ) : Prop :=
  True

def Pre_EvenOut (m : (ℓ : Loc Cert.EvenOut.nD Cert.EvenOut.τ Cert.EvenOut.sig) → Buf (Elt Bits) ℓ) : Prop :=
  True

def Pre_EvenOutIdeal (m : (ℓ : Loc Cert.EvenOutIdeal.nD Cert.EvenOutIdeal.τ Cert.EvenOutIdeal.sig) → Buf (Elt Ideal) ℓ) : Prop :=
  True

def Pre_EvenOutRefIdeal (m : (ℓ : Loc Cert.EvenOutRefIdeal.nD Cert.EvenOutRefIdeal.τ Cert.EvenOutRefIdeal.sig) → Buf (Elt Ideal) ℓ) : Prop :=
  True

def Pre_EvenIn (m : (ℓ : Loc Cert.EvenIn.nD Cert.EvenIn.τ Cert.EvenIn.sig) → Buf (Elt Bits) ℓ) : Prop :=
  True

def Pre_EvenInIdeal (m : (ℓ : Loc Cert.EvenInIdeal.nD Cert.EvenInIdeal.τ Cert.EvenInIdeal.sig) → Buf (Elt Ideal) ℓ) : Prop :=
  True

def Pre_EvenInRefIdeal (m : (ℓ : Loc Cert.EvenInRefIdeal.nD Cert.EvenInRefIdeal.τ Cert.EvenInRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2)
      ∧ r.2.mem ((c.tc : Thread Cert.Last.nD Cert.Last.τ).loc Cert.Last.main_arg3) = m ((c.tc : Thread Cert.Last.nD Cert.Last.τ).loc Cert.Last.main_arg3)
      ∧ r.2.mem ((c.tc : Thread Cert.Last.nD Cert.Last.τ).loc Cert.Last.main_arg4) = m ((c.tc : Thread Cert.Last.nD Cert.Last.τ).loc Cert.Last.main_arg4)
      ∧ r.2.mem ((c.tc : Thread Cert.Last.nD Cert.Last.τ).loc Cert.Last.main_arg5) = m ((c.tc : Thread Cert.Last.nD Cert.Last.τ).loc Cert.Last.main_arg5))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
      ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
      ∧ r.2.mem ((c.tc : Thread Cert.LastIdeal.nD Cert.LastIdeal.τ).loc Cert.LastIdeal.main_arg5) = m ((c.tc : Thread Cert.LastIdeal.nD Cert.LastIdeal.τ).loc Cert.LastIdeal.main_arg5))
      ∧ r.2.sem = fun _ => 0)

def quiescent_LastRefIdeal [hLastRefIdeal : Cert.LastRefIdeal.Facts] : Prop :=
  ∀ (m : (ℓ : Loc Cert.LastRefIdeal.nD Cert.LastRefIdeal.τ Cert.LastRefIdeal.sig) → Buf (Elt Ideal) ℓ) (g : Dev Cert.LastRefIdeal.nD → PrngReg), Pre_LastRefIdeal m →
    θ_run (Cert.LastRefIdeal.defs (F := Ideal)) (onTc (τ := Cert.LastRefIdeal.τ) (Cert.LastRefIdeal.main (F := Ideal))) ⟨m, fun _ => 0, g⟩ (fun r => (∀ c : Dev Cert.LastRefIdeal.nD,
      r.2.mem ((c.tc : Thread Cert.LastRefIdeal.nD Cert.LastRefIdeal.τ).loc Cert.LastRefIdeal.main_arg0) = m ((c.tc : Thread Cert.LastRefIdeal.nD Cert.LastRefIdeal.τ).loc Cert.LastRefIdeal.main_arg0)
      ∧ r.2.mem ((c.tc : Thread Cert.LastRefIdeal.nD Cert.LastRefIdeal.τ).loc Cert.LastRefIdeal.main_arg1) = m ((c.tc : Thread Cert.LastRefIdeal.nD Cert.LastRefIdeal.τ).loc Cert.LastRefIdeal.main_arg1)
      ∧ r.2.mem ((c.tc : Thread Cert.LastRefIdeal.nD Cert.LastRefIdeal.τ).loc Cert.LastRefIdeal.main_arg2) = m ((c.tc : Thread Cert.LastRefIdeal.nD Cert.LastRefIdeal.τ).loc Cert.LastRefIdeal.main_arg2)
      ∧ r.2.mem ((c.tc : Thread Cert.LastRefIdeal.nD Cert.LastRefIdeal.τ).loc Cert.LastRefIdeal.main_arg3) = m ((c.tc : Thread Cert.LastRefIdeal.nD Cert.LastRefIdeal.τ).loc Cert.LastRefIdeal.main_arg3)
      ∧ r.2.mem ((c.tc : Thread Cert.LastRefIdeal.nD Cert.LastRefIdeal.τ).loc Cert.LastRefIdeal.main_arg4) = m ((c.tc : Thread Cert.LastRefIdeal.nD Cert.LastRefIdeal.τ).loc Cert.LastRefIdeal.main_arg4)
      ∧ r.2.mem ((c.tc : Thread Cert.LastRefIdeal.nD Cert.LastRefIdeal.τ).loc Cert.LastRefIdeal.main_arg5) = m ((c.tc : Thread Cert.LastRefIdeal.nD Cert.LastRefIdeal.τ).loc Cert.LastRefIdeal.main_arg5))
      ∧ r.2.sem = fun _ => 0)

def quiescent_OddIn [hOddIn : Cert.OddIn.Facts] : Prop :=
  ∀ (m : (ℓ : Loc Cert.OddIn.nD Cert.OddIn.τ Cert.OddIn.sig) → Buf (Elt Bits) ℓ) (g : Dev Cert.OddIn.nD → PrngReg), Pre_OddIn m →
    θ_run (Cert.OddIn.defs (F := Bits)) (onTc (τ := Cert.OddIn.τ) (Cert.OddIn.main (F := Bits))) ⟨m, fun _ => 0, g⟩ (fun r => (∀ c : Dev Cert.OddIn.nD,
      r.2.mem ((c.tc : Thread Cert.OddIn.nD Cert.OddIn.τ).loc Cert.OddIn.main_arg0) = m ((c.tc : Thread Cert.OddIn.nD Cert.OddIn.τ).loc Cert.OddIn.main_arg0)
      ∧ r.2.mem ((c.tc : Thread Cert.OddIn.nD Cert.OddIn.τ).loc Cert.OddIn.main_arg1) = m ((c.tc : Thread Cert.OddIn.nD Cert.OddIn.τ).loc Cert.OddIn.main_arg1)
      ∧ r.2.mem ((c.tc : Thread Cert.OddIn.nD Cert.OddIn.τ).loc Cert.OddIn.main_arg2) = m ((c.tc : Thread Cert.OddIn.nD Cert.OddIn.τ).loc Cert.OddIn.main_arg2)
      ∧ r.2.mem ((c.tc : Thread Cert.OddIn.nD Cert.OddIn.τ).loc Cert.OddIn.main_arg3) = m ((c.tc : Thread Cert.OddIn.nD Cert.OddIn.τ).loc Cert.OddIn.main_arg3)
      ∧ r.2.mem ((c.tc : Thread Cert.OddIn.nD Cert.OddIn.τ).loc Cert.OddIn.main_arg4) = m ((c.tc : Thread Cert.OddIn.nD Cert.OddIn.τ).loc Cert.OddIn.main_arg4)
      ∧ r.2.mem ((c.tc : Thread Cert.OddIn.nD Cert.OddIn.τ).loc Cert.OddIn.main_arg5) = m ((c.tc : Thread Cert.OddIn.nD Cert.OddIn.τ).loc Cert.OddIn.main_arg5))
      ∧ r.2.sem = fun _ => 0)

def quiescent_OddInIdeal [hOddInIdeal : Cert.OddInIdeal.Facts] : Prop :=
  ∀ (m : (ℓ : Loc Cert.OddInIdeal.nD Cert.OddInIdeal.τ Cert.OddInIdeal.sig) → Buf (Elt Ideal) ℓ) (g : Dev Cert.OddInIdeal.nD → PrngReg), Pre_OddInIdeal m →
    θ_run (Cert.OddInIdeal.defs (F := Ideal)) (onTc (τ := Cert.OddInIdeal.τ) (Cert.OddInIdeal.main (F := Ideal))) ⟨m, fun _ => 0, g⟩ (fun r => (∀ c : Dev Cert.OddInIdeal.nD,
      r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
      ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1)
      ∧ r.2.mem ((c.tc : Thread Cert.OddInIdeal.nD Cert.OddInIdeal.τ).loc Cert.OddInIdeal.main_arg2) = m ((c.tc : Thread Cert.OddInIdeal.nD Cert.OddInIdeal.τ).loc Cert.OddInIdeal.main_arg2)
      ∧ r.2.mem ((c.tc : Thread Cert.OddInIdeal.nD Cert.OddInIdeal.τ).loc Cert.OddInIdeal.main_arg3) = m ((c.tc : Thread Cert.OddInIdeal.nD Cert.OddInIdeal.τ).loc Cert.OddInIdeal.main_arg3)
      ∧ r.2.mem ((c.tc : Thread Cert.OddInIdeal.nD Cert.OddInIdeal.τ).loc Cert.OddInIdeal.main_arg4) = m ((c.tc : Thread Cert.OddInIdeal.nD Cert.OddInIdeal.τ).loc Cert.OddInIdeal.main_arg4)
      ∧ r.2.mem ((c.tc : Thread Cert.OddInIdeal.nD Cert.OddInIdeal.τ).loc Cert.OddInIdeal.main_arg5) = m ((c.tc : Thread Cert.OddInIdeal.nD Cert.OddInIdeal.τ).loc Cert.OddInIdeal.main_arg5))
      ∧ r.2.sem = fun _ => 0)

def quiescent_OddInRefIdeal [hOddInRefIdeal : Cert.OddInRefIdeal.Facts] : Prop :=
  ∀ (m : (ℓ : Loc Cert.OddInRefIdeal.nD Cert.OddInRefIdeal.τ Cert.OddInRefIdeal.sig) → Buf (Elt Ideal) ℓ) (g : Dev Cert.OddInRefIdeal.nD → PrngReg), Pre_OddInRefIdeal m →
    θ_run (Cert.OddInRefIdeal.defs (F := Ideal)) (onTc (τ := Cert.OddInRefIdeal.τ) (Cert.OddInRefIdeal.main (F := Ideal))) ⟨m, fun _ => 0, g⟩ (fun r => (∀ c : Dev Cert.OddInRefIdeal.nD,
      r.2.mem ((c.tc : Thread Cert.OddInRefIdeal.nD Cert.OddInRefIdeal.τ).loc Cert.OddInRefIdeal.main_arg0) = m ((c.tc : Thread Cert.OddInRefIdeal.nD Cert.OddInRefIdeal.τ).loc Cert.OddInRefIdeal.main_arg0)
      ∧ r.2.mem ((c.tc : Thread Cert.OddInRefIdeal.nD Cert.OddInRefIdeal.τ).loc Cert.OddInRefIdeal.main_arg1) = m ((c.tc : Thread Cert.OddInRefIdeal.nD Cert.OddInRefIdeal.τ).loc Cert.OddInRefIdeal.main_arg1)
      ∧ r.2.mem ((c.tc : Thread Cert.OddInRefIdeal.nD Cert.OddInRefIdeal.τ).loc Cert.OddInRefIdeal.main_arg2) = m ((c.tc : Thread Cert.OddInRefIdeal.nD Cert.OddInRefIdeal.τ).loc Cert.OddInRefIdeal.main_arg2)
      ∧ r.2.mem ((c.tc : Thread Cert.OddInRefIdeal.nD Cert.OddInRefIdeal.τ).loc Cert.OddInRefIdeal.main_arg3) = m ((c.tc : Thread Cert.OddInRefIdeal.nD Cert.OddInRefIdeal.τ).loc Cert.OddInRefIdeal.main_arg3)
      ∧ r.2.mem ((c.tc : Thread Cert.OddInRefIdeal.nD Cert.OddInRefIdeal.τ).loc Cert.OddInRefIdeal.main_arg4) = m ((c.tc : Thread Cert.OddInRefIdeal.nD Cert.OddInRefIdeal.τ).loc Cert.OddInRefIdeal.main_arg4)
      ∧ r.2.mem ((c.tc : Thread Cert.OddInRefIdeal.nD Cert.OddInRefIdeal.τ).loc Cert.OddInRefIdeal.main_arg5) = m ((c.tc : Thread Cert.OddInRefIdeal.nD Cert.OddInRefIdeal.τ).loc Cert.OddInRefIdeal.main_arg5))
      ∧ r.2.sem = fun _ => 0)

def quiescent_OddOut [hOddOut : Cert.OddOut.Facts] : Prop :=
  ∀ (m : (ℓ : Loc Cert.OddOut.nD Cert.OddOut.τ Cert.OddOut.sig) → Buf (Elt Bits) ℓ) (g : Dev Cert.OddOut.nD → PrngReg), Pre_OddOut m →
    θ_run (Cert.OddOut.defs (F := Bits)) (onTc (τ := Cert.OddOut.τ) (Cert.OddOut.main (F := Bits))) ⟨m, fun _ => 0, g⟩ (fun r => (∀ c : Dev Cert.OddOut.nD,
      r.2.mem ((c.tc : Thread Cert.OddOut.nD Cert.OddOut.τ).loc Cert.OddOut.main_arg0) = m ((c.tc : Thread Cert.OddOut.nD Cert.OddOut.τ).loc Cert.OddOut.main_arg0)
      ∧ r.2.mem ((c.tc : Thread Cert.OddOut.nD Cert.OddOut.τ).loc Cert.OddOut.main_arg1) = m ((c.tc : Thread Cert.OddOut.nD Cert.OddOut.τ).loc Cert.OddOut.main_arg1)
      ∧ r.2.mem ((c.tc : Thread Cert.OddOut.nD Cert.OddOut.τ).loc Cert.OddOut.main_arg2) = m ((c.tc : Thread Cert.OddOut.nD Cert.OddOut.τ).loc Cert.OddOut.main_arg2))
      ∧ r.2.sem = fun _ => 0)

def quiescent_OddOutIdeal [hOddOutIdeal : Cert.OddOutIdeal.Facts] : Prop :=
  ∀ (m : (ℓ : Loc Cert.OddOutIdeal.nD Cert.OddOutIdeal.τ Cert.OddOutIdeal.sig) → Buf (Elt Ideal) ℓ) (g : Dev Cert.OddOutIdeal.nD → PrngReg), Pre_OddOutIdeal m →
    θ_run (Cert.OddOutIdeal.defs (F := Ideal)) (onTc (τ := Cert.OddOutIdeal.τ) (Cert.OddOutIdeal.main (F := Ideal))) ⟨m, fun _ => 0, g⟩ (fun r => (∀ c : Dev Cert.OddOutIdeal.nD,
      r.2.mem ((c.tc : Thread Cert.OddOutIdeal.nD Cert.OddOutIdeal.τ).loc Cert.OddOutIdeal.main_arg0) = m ((c.tc : Thread Cert.OddOutIdeal.nD Cert.OddOutIdeal.τ).loc Cert.OddOutIdeal.main_arg0)
      ∧ r.2.mem ((c.tc : Thread Cert.OddOutIdeal.nD Cert.OddOutIdeal.τ).loc Cert.OddOutIdeal.main_arg1) = m ((c.tc : Thread Cert.OddOutIdeal.nD Cert.OddOutIdeal.τ).loc Cert.OddOutIdeal.main_arg1)
      ∧ r.2.mem ((c.tc : Thread Cert.OddOutIdeal.nD Cert.OddOutIdeal.τ).loc Cert.OddOutIdeal.main_arg2) = m ((c.tc : Thread Cert.OddOutIdeal.nD Cert.OddOutIdeal.τ).loc Cert.OddOutIdeal.main_arg2))
      ∧ r.2.sem = fun _ => 0)

def quiescent_OddOutRefIdeal [hOddOutRefIdeal : Cert.OddOutRefIdeal.Facts] : Prop :=
  ∀ (m : (ℓ : Loc Cert.OddOutRefIdeal.nD Cert.OddOutRefIdeal.τ Cert.OddOutRefIdeal.sig) → Buf (Elt Ideal) ℓ) (g : Dev Cert.OddOutRefIdeal.nD → PrngReg), Pre_OddOutRefIdeal m →
    θ_run (Cert.OddOutRefIdeal.defs (F := Ideal)) (onTc (τ := Cert.OddOutRefIdeal.τ) (Cert.OddOutRefIdeal.main (F := Ideal))) ⟨m, fun _ => 0, g⟩ (fun r => (∀ c : Dev Cert.OddOutRefIdeal.nD,
      r.2.mem ((c.tc : Thread Cert.OddOutRefIdeal.nD Cert.OddOutRefIdeal.τ).loc Cert.OddOutRefIdeal.main_arg0) = m ((c.tc : Thread Cert.OddOutRefIdeal.nD Cert.OddOutRefIdeal.τ).loc Cert.OddOutRefIdeal.main_arg0)
      ∧ r.2.mem ((c.tc : Thread Cert.OddOutRefIdeal.nD Cert.OddOutRefIdeal.τ).loc Cert.OddOutRefIdeal.main_arg1) = m ((c.tc : Thread Cert.OddOutRefIdeal.nD Cert.OddOutRefIdeal.τ).loc Cert.OddOutRefIdeal.main_arg1)
      ∧ r.2.mem ((c.tc : Thread Cert.OddOutRefIdeal.nD Cert.OddOutRefIdeal.τ).loc Cert.OddOutRefIdeal.main_arg2) = m ((c.tc : Thread Cert.OddOutRefIdeal.nD Cert.OddOutRefIdeal.τ).loc Cert.OddOutRefIdeal.main_arg2))
      ∧ r.2.sem = fun _ => 0)

def quiescent_EvenOut [hEvenOut : Cert.EvenOut.Facts] : Prop :=
  ∀ (m : (ℓ : Loc Cert.EvenOut.nD Cert.EvenOut.τ Cert.EvenOut.sig) → Buf (Elt Bits) ℓ) (g : Dev Cert.EvenOut.nD → PrngReg), Pre_EvenOut m →
    θ_run (Cert.EvenOut.defs (F := Bits)) (onTc (τ := Cert.EvenOut.τ) (Cert.EvenOut.main (F := Bits))) ⟨m, fun _ => 0, g⟩ (fun r => (∀ c : Dev Cert.EvenOut.nD,
      r.2.mem ((c.tc : Thread Cert.EvenOut.nD Cert.EvenOut.τ).loc Cert.EvenOut.main_arg0) = m ((c.tc : Thread Cert.EvenOut.nD Cert.EvenOut.τ).loc Cert.EvenOut.main_arg0)
      ∧ r.2.mem ((c.tc : Thread Cert.EvenOut.nD Cert.EvenOut.τ).loc Cert.EvenOut.main_arg1) = m ((c.tc : Thread Cert.EvenOut.nD Cert.EvenOut.τ).loc Cert.EvenOut.main_arg1)
      ∧ r.2.mem ((c.tc : Thread Cert.EvenOut.nD Cert.EvenOut.τ).loc Cert.EvenOut.main_arg2) = m ((c.tc : Thread Cert.EvenOut.nD Cert.EvenOut.τ).loc Cert.EvenOut.main_arg2)
      ∧ r.2.mem ((c.tc : Thread Cert.EvenOut.nD Cert.EvenOut.τ).loc Cert.EvenOut.main_arg3) = m ((c.tc : Thread Cert.EvenOut.nD Cert.EvenOut.τ).loc Cert.EvenOut.main_arg3))
      ∧ r.2.sem = fun _ => 0)

def quiescent_EvenOutIdeal [hEvenOutIdeal : Cert.EvenOutIdeal.Facts] : Prop :=
  ∀ (m : (ℓ : Loc Cert.EvenOutIdeal.nD Cert.EvenOutIdeal.τ Cert.EvenOutIdeal.sig) → Buf (Elt Ideal) ℓ) (g : Dev Cert.EvenOutIdeal.nD → PrngReg), Pre_EvenOutIdeal m →
    θ_run (Cert.EvenOutIdeal.defs (F := Ideal)) (onTc (τ := Cert.EvenOutIdeal.τ) (Cert.EvenOutIdeal.main (F := Ideal))) ⟨m, fun _ => 0, g⟩ (fun r => (∀ c : Dev Cert.EvenOutIdeal.nD,
      r.2.mem ((c.tc : Thread Cert.EvenOutIdeal.nD Cert.EvenOutIdeal.τ).loc Cert.EvenOutIdeal.main_arg0) = m ((c.tc : Thread Cert.EvenOutIdeal.nD Cert.EvenOutIdeal.τ).loc Cert.EvenOutIdeal.main_arg0)
      ∧ r.2.mem ((c.tc : Thread Cert.EvenOutIdeal.nD Cert.EvenOutIdeal.τ).loc Cert.EvenOutIdeal.main_arg1) = m ((c.tc : Thread Cert.EvenOutIdeal.nD Cert.EvenOutIdeal.τ).loc Cert.EvenOutIdeal.main_arg1)
      ∧ r.2.mem ((c.tc : Thread Cert.EvenOutIdeal.nD Cert.EvenOutIdeal.τ).loc Cert.EvenOutIdeal.main_arg2) = m ((c.tc : Thread Cert.EvenOutIdeal.nD Cert.EvenOutIdeal.τ).loc Cert.EvenOutIdeal.main_arg2)
      ∧ r.2.mem ((c.tc : Thread Cert.EvenOutIdeal.nD Cert.EvenOutIdeal.τ).loc Cert.EvenOutIdeal.main_arg3) = m ((c.tc : Thread Cert.EvenOutIdeal.nD Cert.EvenOutIdeal.τ).loc Cert.EvenOutIdeal.main_arg3))
      ∧ r.2.sem = fun _ => 0)

def quiescent_EvenOutRefIdeal [hEvenOutRefIdeal : Cert.EvenOutRefIdeal.Facts] : Prop :=
  ∀ (m : (ℓ : Loc Cert.EvenOutRefIdeal.nD Cert.EvenOutRefIdeal.τ Cert.EvenOutRefIdeal.sig) → Buf (Elt Ideal) ℓ) (g : Dev Cert.EvenOutRefIdeal.nD → PrngReg), Pre_EvenOutRefIdeal m →
    θ_run (Cert.EvenOutRefIdeal.defs (F := Ideal)) (onTc (τ := Cert.EvenOutRefIdeal.τ) (Cert.EvenOutRefIdeal.main (F := Ideal))) ⟨m, fun _ => 0, g⟩ (fun r => (∀ c : Dev Cert.EvenOutRefIdeal.nD,
      r.2.mem ((c.tc : Thread Cert.EvenOutRefIdeal.nD Cert.EvenOutRefIdeal.τ).loc Cert.EvenOutRefIdeal.main_arg0) = m ((c.tc : Thread Cert.EvenOutRefIdeal.nD Cert.EvenOutRefIdeal.τ).loc Cert.EvenOutRefIdeal.main_arg0)
      ∧ r.2.mem ((c.tc : Thread Cert.EvenOutRefIdeal.nD Cert.EvenOutRefIdeal.τ).loc Cert.EvenOutRefIdeal.main_arg1) = m ((c.tc : Thread Cert.EvenOutRefIdeal.nD Cert.EvenOutRefIdeal.τ).loc Cert.EvenOutRefIdeal.main_arg1)
      ∧ r.2.mem ((c.tc : Thread Cert.EvenOutRefIdeal.nD Cert.EvenOutRefIdeal.τ).loc Cert.EvenOutRefIdeal.main_arg2) = m ((c.tc : Thread Cert.EvenOutRefIdeal.nD Cert.EvenOutRefIdeal.τ).loc Cert.EvenOutRefIdeal.main_arg2)
      ∧ r.2.mem ((c.tc : Thread Cert.EvenOutRefIdeal.nD Cert.EvenOutRefIdeal.τ).loc Cert.EvenOutRefIdeal.main_arg3) = m ((c.tc : Thread Cert.EvenOutRefIdeal.nD Cert.EvenOutRefIdeal.τ).loc Cert.EvenOutRefIdeal.main_arg3))
      ∧ r.2.sem = fun _ => 0)

def quiescent_EvenIn [hEvenIn : Cert.EvenIn.Facts] : Prop :=
  ∀ (m : (ℓ : Loc Cert.EvenIn.nD Cert.EvenIn.τ Cert.EvenIn.sig) → Buf (Elt Bits) ℓ) (g : Dev Cert.EvenIn.nD → PrngReg), Pre_EvenIn m →
    θ_run (Cert.EvenIn.defs (F := Bits)) (onTc (τ := Cert.EvenIn.τ) (Cert.EvenIn.main (F := Bits))) ⟨m, fun _ => 0, g⟩ (fun r => (∀ c : Dev Cert.EvenIn.nD,
      r.2.mem ((c.tc : Thread Cert.EvenIn.nD Cert.EvenIn.τ).loc Cert.EvenIn.main_arg0) = m ((c.tc : Thread Cert.EvenIn.nD Cert.EvenIn.τ).loc Cert.EvenIn.main_arg0)
      ∧ r.2.mem ((c.tc : Thread Cert.EvenIn.nD Cert.EvenIn.τ).loc Cert.EvenIn.main_arg1) = m ((c.tc : Thread Cert.EvenIn.nD Cert.EvenIn.τ).loc Cert.EvenIn.main_arg1)
      ∧ r.2.mem ((c.tc : Thread Cert.EvenIn.nD Cert.EvenIn.τ).loc Cert.EvenIn.main_arg2) = m ((c.tc : Thread Cert.EvenIn.nD Cert.EvenIn.τ).loc Cert.EvenIn.main_arg2)
      ∧ r.2.mem ((c.tc : Thread Cert.EvenIn.nD Cert.EvenIn.τ).loc Cert.EvenIn.main_arg3) = m ((c.tc : Thread Cert.EvenIn.nD Cert.EvenIn.τ).loc Cert.EvenIn.main_arg3))
      ∧ r.2.sem = fun _ => 0)

def quiescent_EvenInIdeal [hEvenInIdeal : Cert.EvenInIdeal.Facts] : Prop :=
  ∀ (m : (ℓ : Loc Cert.EvenInIdeal.nD Cert.EvenInIdeal.τ Cert.EvenInIdeal.sig) → Buf (Elt Ideal) ℓ) (g : Dev Cert.EvenInIdeal.nD → PrngReg), Pre_EvenInIdeal m →
    θ_run (Cert.EvenInIdeal.defs (F := Ideal)) (onTc (τ := Cert.EvenInIdeal.τ) (Cert.EvenInIdeal.main (F := Ideal))) ⟨m, fun _ => 0, g⟩ (fun r => (∀ c : Dev Cert.EvenInIdeal.nD,
      r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
      ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1)
      ∧ r.2.mem ((c.tc : Thread Cert.EvenInIdeal.nD Cert.EvenInIdeal.τ).loc Cert.EvenInIdeal.main_arg2) = m ((c.tc : Thread Cert.EvenInIdeal.nD Cert.EvenInIdeal.τ).loc Cert.EvenInIdeal.main_arg2)
      ∧ r.2.mem ((c.tc : Thread Cert.EvenInIdeal.nD Cert.EvenInIdeal.τ).loc Cert.EvenInIdeal.main_arg3) = m ((c.tc : Thread Cert.EvenInIdeal.nD Cert.EvenInIdeal.τ).loc Cert.EvenInIdeal.main_arg3))
      ∧ r.2.sem = fun _ => 0)

def quiescent_EvenInRefIdeal [hEvenInRefIdeal : Cert.EvenInRefIdeal.Facts] : Prop :=
  ∀ (m : (ℓ : Loc Cert.EvenInRefIdeal.nD Cert.EvenInRefIdeal.τ Cert.EvenInRefIdeal.sig) → Buf (Elt Ideal) ℓ) (g : Dev Cert.EvenInRefIdeal.nD → PrngReg), Pre_EvenInRefIdeal m →
    θ_run (Cert.EvenInRefIdeal.defs (F := Ideal)) (onTc (τ := Cert.EvenInRefIdeal.τ) (Cert.EvenInRefIdeal.main (F := Ideal))) ⟨m, fun _ => 0, g⟩ (fun r => (∀ c : Dev Cert.EvenInRefIdeal.nD,
      r.2.mem ((c.tc : Thread Cert.EvenInRefIdeal.nD Cert.EvenInRefIdeal.τ).loc Cert.EvenInRefIdeal.main_arg0) = m ((c.tc : Thread Cert.EvenInRefIdeal.nD Cert.EvenInRefIdeal.τ).loc Cert.EvenInRefIdeal.main_arg0)
      ∧ r.2.mem ((c.tc : Thread Cert.EvenInRefIdeal.nD Cert.EvenInRefIdeal.τ).loc Cert.EvenInRefIdeal.main_arg1) = m ((c.tc : Thread Cert.EvenInRefIdeal.nD Cert.EvenInRefIdeal.τ).loc Cert.EvenInRefIdeal.main_arg1)
      ∧ r.2.mem ((c.tc : Thread Cert.EvenInRefIdeal.nD Cert.EvenInRefIdeal.τ).loc Cert.EvenInRefIdeal.main_arg2) = m ((c.tc : Thread Cert.EvenInRefIdeal.nD Cert.EvenInRefIdeal.τ).loc Cert.EvenInRefIdeal.main_arg2)
      ∧ r.2.mem ((c.tc : Thread Cert.EvenInRefIdeal.nD Cert.EvenInRefIdeal.τ).loc Cert.EvenInRefIdeal.main_arg3) = m ((c.tc : Thread Cert.EvenInRefIdeal.nD Cert.EvenInRefIdeal.τ).loc Cert.EvenInRefIdeal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)) →
    ∃ (v0 : (c : Dev Cert.FfnIdeal.nD) → Buf (Elt Ideal) ((c.tc : Thread Cert.FfnIdeal.nD Cert.FfnIdeal.τ).loc Cert.FfnIdeal.main_v0_0)) (v1 : (c : Dev Cert.FfnIdeal.nD) → Buf (Elt Ideal) ((c.tc : Thread Cert.FfnIdeal.nD Cert.FfnIdeal.τ).loc Cert.FfnIdeal.main_v0_1)) (v2 : (c : Dev Cert.FfnIdeal.nD) → Buf (Elt Ideal) ((c.tc : Thread Cert.FfnIdeal.nD Cert.FfnIdeal.τ).loc Cert.FfnIdeal.main_v0_2)) (v3 : (c : Dev Cert.FfnIdeal.nD) → Buf (Elt Ideal) ((c.tc : Thread Cert.FfnIdeal.nD Cert.FfnIdeal.τ).loc Cert.FfnIdeal.main_v0_3)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0_0) = v0 c
          ∧ r.2.mem ((c.tc : Thread Cert.FfnIdeal.nD Cert.FfnIdeal.τ).loc Cert.FfnIdeal.main_v0_1) = v1 c
          ∧ r.2.mem ((c.tc : Thread Cert.FfnIdeal.nD Cert.FfnIdeal.τ).loc Cert.FfnIdeal.main_v0_2) = v2 c
          ∧ r.2.mem ((c.tc : Thread Cert.FfnIdeal.nD Cert.FfnIdeal.τ).loc Cert.FfnIdeal.main_v0_3) = v3 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v24) = v0 c
          ∧ r.2.mem ((c.tc : Thread Cert.FfnRefIdeal.nD Cert.FfnRefIdeal.τ).loc Cert.FfnRefIdeal.main_v27) = v1 c
          ∧ r.2.mem ((c.tc : Thread Cert.FfnRefIdeal.nD Cert.FfnRefIdeal.τ).loc Cert.FfnRefIdeal.main_v30) = v2 c
          ∧ r.2.mem ((c.tc : Thread Cert.FfnRefIdeal.nD Cert.FfnRefIdeal.τ).loc Cert.FfnRefIdeal.main_v33) = v3 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7))

def preserves_Last_LastIdeal : Prop :=
  True

def algebraic_LastIdeal_LastRefIdeal [hLastIdeal : Cert.LastIdeal.Facts] [hLastRefIdeal : Cert.LastRefIdeal.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastRefIdeal.nD Cert.LastRefIdeal.τ Cert.LastRefIdeal.sig) → Buf (Elt Ideal) ℓ) (g' : Dev Cert.LastRefIdeal.nD → PrngReg), Pre_LastIdeal m →
    (∀ c : Dev Cert.LastIdeal.nD,
      m' ((c.tc : Thread Cert.LastRefIdeal.nD Cert.LastRefIdeal.τ).loc Cert.LastRefIdeal.main_arg0) = m ((c.tc : Thread Cert.LastIdeal.nD Cert.LastIdeal.τ).loc Cert.LastIdeal.main_arg0)
      ∧ m' ((c.tc : Thread Cert.LastRefIdeal.nD Cert.LastRefIdeal.τ).loc Cert.LastRefIdeal.main_arg1) = m ((c.tc : Thread Cert.LastIdeal.nD Cert.LastIdeal.τ).loc Cert.LastIdeal.main_arg1)
      ∧ m' ((c.tc : Thread Cert.LastRefIdeal.nD Cert.LastRefIdeal.τ).loc Cert.LastRefIdeal.main_arg2) = m ((c.tc : Thread Cert.LastIdeal.nD Cert.LastIdeal.τ).loc Cert.LastIdeal.main_arg2)
      ∧ m' ((c.tc : Thread Cert.LastRefIdeal.nD Cert.LastRefIdeal.τ).loc Cert.LastRefIdeal.main_arg3) = m ((c.tc : Thread Cert.LastIdeal.nD Cert.LastIdeal.τ).loc Cert.LastIdeal.main_arg3)
      ∧ m' ((c.tc : Thread Cert.LastRefIdeal.nD Cert.LastRefIdeal.τ).loc Cert.LastRefIdeal.main_arg4) = m ((c.tc : Thread Cert.LastIdeal.nD Cert.LastIdeal.τ).loc Cert.LastIdeal.main_arg4)
      ∧ m' ((c.tc : Thread Cert.LastRefIdeal.nD Cert.LastRefIdeal.τ).loc Cert.LastRefIdeal.main_arg5) = m ((c.tc : Thread Cert.LastIdeal.nD Cert.LastIdeal.τ).loc Cert.LastIdeal.main_arg5)) →
    ∃ (v0 : (c : Dev Cert.LastIdeal.nD) → Buf (Elt Ideal) ((c.tc : Thread Cert.LastIdeal.nD Cert.LastIdeal.τ).loc Cert.LastIdeal.main_v1)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v1) = v0 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
          ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
          ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
          ∧ r.2.mem ((c.tc : Thread Cert.LastIdeal.nD Cert.LastIdeal.τ).loc Cert.LastIdeal.main_arg5) = m ((c.tc : Thread Cert.LastIdeal.nD Cert.LastIdeal.τ).loc Cert.LastIdeal.main_arg5))
      ∧ θ_run (Cert.LastRefIdeal.defs (F := Ideal)) (onTc (τ := Cert.LastRefIdeal.τ) (Cert.LastRefIdeal.main (F := Ideal))) ⟨m', fun _ => 0, g'⟩ (fun r => ∀ c : Dev Cert.LastRefIdeal.nD,
          r.2.mem ((c.tc : Thread Cert.LastRefIdeal.nD Cert.LastRefIdeal.τ).loc Cert.LastRefIdeal.main_v37) = v0 c
          ∧ r.2.mem ((c.tc : Thread Cert.LastRefIdeal.nD Cert.LastRefIdeal.τ).loc Cert.LastRefIdeal.main_arg0) = m' ((c.tc : Thread Cert.LastRefIdeal.nD Cert.LastRefIdeal.τ).loc Cert.LastRefIdeal.main_arg0)
          ∧ r.2.mem ((c.tc : Thread Cert.LastRefIdeal.nD Cert.LastRefIdeal.τ).loc Cert.LastRefIdeal.main_arg1) = m' ((c.tc : Thread Cert.LastRefIdeal.nD Cert.LastRefIdeal.τ).loc Cert.LastRefIdeal.main_arg1)
          ∧ r.2.mem ((c.tc : Thread Cert.LastRefIdeal.nD Cert.LastRefIdeal.τ).loc Cert.LastRefIdeal.main_arg2) = m' ((c.tc : Thread Cert.LastRefIdeal.nD Cert.LastRefIdeal.τ).loc Cert.LastRefIdeal.main_arg2)
          ∧ r.2.mem ((c.tc : Thread Cert.LastRefIdeal.nD Cert.LastRefIdeal.τ).loc Cert.LastRefIdeal.main_arg3) = m' ((c.tc : Thread Cert.LastRefIdeal.nD Cert.LastRefIdeal.τ).loc Cert.LastRefIdeal.main_arg3)
          ∧ r.2.mem ((c.tc : Thread Cert.LastRefIdeal.nD Cert.LastRefIdeal.τ).loc Cert.LastRefIdeal.main_arg4) = m' ((c.tc : Thread Cert.LastRefIdeal.nD Cert.LastRefIdeal.τ).loc Cert.LastRefIdeal.main_arg4)
          ∧ r.2.mem ((c.tc : Thread Cert.LastRefIdeal.nD Cert.LastRefIdeal.τ).loc Cert.LastRefIdeal.main_arg5) = m' ((c.tc : Thread Cert.LastRefIdeal.nD Cert.LastRefIdeal.τ).loc Cert.LastRefIdeal.main_arg5))

def preserves_OddIn_OddInIdeal : Prop :=
  True

def algebraic_OddInIdeal_OddInRefIdeal [hOddInIdeal : Cert.OddInIdeal.Facts] [hOddInRefIdeal : Cert.OddInRefIdeal.Facts] : Prop :=
  ∀ (m : (ℓ : Loc Cert.OddInIdeal.nD Cert.OddInIdeal.τ Cert.OddInIdeal.sig) → Buf (Elt Ideal) ℓ) (g : Dev Cert.OddInIdeal.nD → PrngReg)
    (m' : (ℓ : Loc Cert.OddInRefIdeal.nD Cert.OddInRefIdeal.τ Cert.OddInRefIdeal.sig) → Buf (Elt Ideal) ℓ) (g' : Dev Cert.OddInRefIdeal.nD → PrngReg), Pre_OddInIdeal m →
    (∀ c : Dev Cert.OddInIdeal.nD,
      m' ((c.tc : Thread Cert.OddInRefIdeal.nD Cert.OddInRefIdeal.τ).loc Cert.OddInRefIdeal.main_arg0) = m ((c.tc : Thread Cert.OddInIdeal.nD Cert.OddInIdeal.τ).loc Cert.OddInIdeal.main_arg0)
      ∧ m' ((c.tc : Thread Cert.OddInRefIdeal.nD Cert.OddInRefIdeal.τ).loc Cert.OddInRefIdeal.main_arg1) = m ((c.tc : Thread Cert.OddInIdeal.nD Cert.OddInIdeal.τ).loc Cert.OddInIdeal.main_arg1)
      ∧ m' ((c.tc : Thread Cert.OddInRefIdeal.nD Cert.OddInRefIdeal.τ).loc Cert.OddInRefIdeal.main_arg2) = m ((c.tc : Thread Cert.OddInIdeal.nD Cert.OddInIdeal.τ).loc Cert.OddInIdeal.main_arg2)
      ∧ m' ((c.tc : Thread Cert.OddInRefIdeal.nD Cert.OddInRefIdeal.τ).loc Cert.OddInRefIdeal.main_arg3) = m ((c.tc : Thread Cert.OddInIdeal.nD Cert.OddInIdeal.τ).loc Cert.OddInIdeal.main_arg3)
      ∧ m' ((c.tc : Thread Cert.OddInRefIdeal.nD Cert.OddInRefIdeal.τ).loc Cert.OddInRefIdeal.main_arg4) = m ((c.tc : Thread Cert.OddInIdeal.nD Cert.OddInIdeal.τ).loc Cert.OddInIdeal.main_arg4)
      ∧ m' ((c.tc : Thread Cert.OddInRefIdeal.nD Cert.OddInRefIdeal.τ).loc Cert.OddInRefIdeal.main_arg5) = m ((c.tc : Thread Cert.OddInIdeal.nD Cert.OddInIdeal.τ).loc Cert.OddInIdeal.main_arg5)) →
    ∃ (v0 : (c : Dev Cert.OddInIdeal.nD) → Buf (Elt Ideal) ((c.tc : Thread Cert.OddInIdeal.nD Cert.OddInIdeal.τ).loc Cert.OddInIdeal.main_v2_0)) (v1 : (c : Dev Cert.OddInIdeal.nD) → Buf (Elt Ideal) ((c.tc : Thread Cert.OddInIdeal.nD Cert.OddInIdeal.τ).loc Cert.OddInIdeal.main_v2_1)),
      θ_run (Cert.OddInIdeal.defs (F := Ideal)) (onTc (τ := Cert.OddInIdeal.τ) (Cert.OddInIdeal.main (F := Ideal))) ⟨m, fun _ => 0, g⟩ (fun r => ∀ c : Dev Cert.OddInIdeal.nD,
          r.2.mem ((c.tc : Thread Cert.OddInIdeal.nD Cert.OddInIdeal.τ).loc Cert.OddInIdeal.main_v2_0) = v0 c
          ∧ r.2.mem ((c.tc : Thread Cert.OddInIdeal.nD Cert.OddInIdeal.τ).loc Cert.OddInIdeal.main_v2_1) = v1 c
          ∧ r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
          ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1)
          ∧ r.2.mem ((c.tc : Thread Cert.OddInIdeal.nD Cert.OddInIdeal.τ).loc Cert.OddInIdeal.main_arg2) = m ((c.tc : Thread Cert.OddInIdeal.nD Cert.OddInIdeal.τ).loc Cert.OddInIdeal.main_arg2)
          ∧ r.2.mem ((c.tc : Thread Cert.OddInIdeal.nD Cert.OddInIdeal.τ).loc Cert.OddInIdeal.main_arg3) = m ((c.tc : Thread Cert.OddInIdeal.nD Cert.OddInIdeal.τ).loc Cert.OddInIdeal.main_arg3)
          ∧ r.2.mem ((c.tc : Thread Cert.OddInIdeal.nD Cert.OddInIdeal.τ).loc Cert.OddInIdeal.main_arg4) = m ((c.tc : Thread Cert.OddInIdeal.nD Cert.OddInIdeal.τ).loc Cert.OddInIdeal.main_arg4)
          ∧ r.2.mem ((c.tc : Thread Cert.OddInIdeal.nD Cert.OddInIdeal.τ).loc Cert.OddInIdeal.main_arg5) = m ((c.tc : Thread Cert.OddInIdeal.nD Cert.OddInIdeal.τ).loc Cert.OddInIdeal.main_arg5))
      ∧ θ_run (Cert.OddInRefIdeal.defs (F := Ideal)) (onTc (τ := Cert.OddInRefIdeal.τ) (Cert.OddInRefIdeal.main (F := Ideal))) ⟨m', fun _ => 0, g'⟩ (fun r => ∀ c : Dev Cert.OddInRefIdeal.nD,
          r.2.mem ((c.tc : Thread Cert.OddInRefIdeal.nD Cert.OddInRefIdeal.τ).loc Cert.OddInRefIdeal.main_v53) = v0 c
          ∧ r.2.mem ((c.tc : Thread Cert.OddInRefIdeal.nD Cert.OddInRefIdeal.τ).loc Cert.OddInRefIdeal.main_v57) = v1 c
          ∧ r.2.mem ((c.tc : Thread Cert.OddInRefIdeal.nD Cert.OddInRefIdeal.τ).loc Cert.OddInRefIdeal.main_arg0) = m' ((c.tc : Thread Cert.OddInRefIdeal.nD Cert.OddInRefIdeal.τ).loc Cert.OddInRefIdeal.main_arg0)
          ∧ r.2.mem ((c.tc : Thread Cert.OddInRefIdeal.nD Cert.OddInRefIdeal.τ).loc Cert.OddInRefIdeal.main_arg1) = m' ((c.tc : Thread Cert.OddInRefIdeal.nD Cert.OddInRefIdeal.τ).loc Cert.OddInRefIdeal.main_arg1)
          ∧ r.2.mem ((c.tc : Thread Cert.OddInRefIdeal.nD Cert.OddInRefIdeal.τ).loc Cert.OddInRefIdeal.main_arg2) = m' ((c.tc : Thread Cert.OddInRefIdeal.nD Cert.OddInRefIdeal.τ).loc Cert.OddInRefIdeal.main_arg2)
          ∧ r.2.mem ((c.tc : Thread Cert.OddInRefIdeal.nD Cert.OddInRefIdeal.τ).loc Cert.OddInRefIdeal.main_arg3) = m' ((c.tc : Thread Cert.OddInRefIdeal.nD Cert.OddInRefIdeal.τ).loc Cert.OddInRefIdeal.main_arg3)
          ∧ r.2.mem ((c.tc : Thread Cert.OddInRefIdeal.nD Cert.OddInRefIdeal.τ).loc Cert.OddInRefIdeal.main_arg4) = m' ((c.tc : Thread Cert.OddInRefIdeal.nD Cert.OddInRefIdeal.τ).loc Cert.OddInRefIdeal.main_arg4)
          ∧ r.2.mem ((c.tc : Thread Cert.OddInRefIdeal.nD Cert.OddInRefIdeal.τ).loc Cert.OddInRefIdeal.main_arg5) = m' ((c.tc : Thread Cert.OddInRefIdeal.nD Cert.OddInRefIdeal.τ).loc Cert.OddInRefIdeal.main_arg5))

def preserves_OddOut_OddOutIdeal : Prop :=
  True

def algebraic_OddOutIdeal_OddOutRefIdeal [hOddOutIdeal : Cert.OddOutIdeal.Facts] [hOddOutRefIdeal : Cert.OddOutRefIdeal.Facts] : Prop :=
  ∀ (m : (ℓ : Loc Cert.OddOutIdeal.nD Cert.OddOutIdeal.τ Cert.OddOutIdeal.sig) → Buf (Elt Ideal) ℓ) (g : Dev Cert.OddOutIdeal.nD → PrngReg)
    (m' : (ℓ : Loc Cert.OddOutRefIdeal.nD Cert.OddOutRefIdeal.τ Cert.OddOutRefIdeal.sig) → Buf (Elt Ideal) ℓ) (g' : Dev Cert.OddOutRefIdeal.nD → PrngReg), Pre_OddOutIdeal m →
    (∀ c : Dev Cert.OddOutIdeal.nD,
      m' ((c.tc : Thread Cert.OddOutRefIdeal.nD Cert.OddOutRefIdeal.τ).loc Cert.OddOutRefIdeal.main_arg0) = m ((c.tc : Thread Cert.OddOutIdeal.nD Cert.OddOutIdeal.τ).loc Cert.OddOutIdeal.main_arg0)
      ∧ m' ((c.tc : Thread Cert.OddOutRefIdeal.nD Cert.OddOutRefIdeal.τ).loc Cert.OddOutRefIdeal.main_arg1) = m ((c.tc : Thread Cert.OddOutIdeal.nD Cert.OddOutIdeal.τ).loc Cert.OddOutIdeal.main_arg1)
      ∧ m' ((c.tc : Thread Cert.OddOutRefIdeal.nD Cert.OddOutRefIdeal.τ).loc Cert.OddOutRefIdeal.main_arg2) = m ((c.tc : Thread Cert.OddOutIdeal.nD Cert.OddOutIdeal.τ).loc Cert.OddOutIdeal.main_arg2)) →
    ∃ (v0 : (c : Dev Cert.OddOutIdeal.nD) → Buf (Elt Ideal) ((c.tc : Thread Cert.OddOutIdeal.nD Cert.OddOutIdeal.τ).loc Cert.OddOutIdeal.main_v0)),
      θ_run (Cert.OddOutIdeal.defs (F := Ideal)) (onTc (τ := Cert.OddOutIdeal.τ) (Cert.OddOutIdeal.main (F := Ideal))) ⟨m, fun _ => 0, g⟩ (fun r => ∀ c : Dev Cert.OddOutIdeal.nD,
          r.2.mem ((c.tc : Thread Cert.OddOutIdeal.nD Cert.OddOutIdeal.τ).loc Cert.OddOutIdeal.main_v0) = v0 c
          ∧ r.2.mem ((c.tc : Thread Cert.OddOutIdeal.nD Cert.OddOutIdeal.τ).loc Cert.OddOutIdeal.main_arg0) = m ((c.tc : Thread Cert.OddOutIdeal.nD Cert.OddOutIdeal.τ).loc Cert.OddOutIdeal.main_arg0)
          ∧ r.2.mem ((c.tc : Thread Cert.OddOutIdeal.nD Cert.OddOutIdeal.τ).loc Cert.OddOutIdeal.main_arg1) = m ((c.tc : Thread Cert.OddOutIdeal.nD Cert.OddOutIdeal.τ).loc Cert.OddOutIdeal.main_arg1)
          ∧ r.2.mem ((c.tc : Thread Cert.OddOutIdeal.nD Cert.OddOutIdeal.τ).loc Cert.OddOutIdeal.main_arg2) = m ((c.tc : Thread Cert.OddOutIdeal.nD Cert.OddOutIdeal.τ).loc Cert.OddOutIdeal.main_arg2))
      ∧ θ_run (Cert.OddOutRefIdeal.defs (F := Ideal)) (onTc (τ := Cert.OddOutRefIdeal.τ) (Cert.OddOutRefIdeal.main (F := Ideal))) ⟨m', fun _ => 0, g'⟩ (fun r => ∀ c : Dev Cert.OddOutRefIdeal.nD,
          r.2.mem ((c.tc : Thread Cert.OddOutRefIdeal.nD Cert.OddOutRefIdeal.τ).loc Cert.OddOutRefIdeal.main_v5) = v0 c
          ∧ r.2.mem ((c.tc : Thread Cert.OddOutRefIdeal.nD Cert.OddOutRefIdeal.τ).loc Cert.OddOutRefIdeal.main_arg0) = m' ((c.tc : Thread Cert.OddOutRefIdeal.nD Cert.OddOutRefIdeal.τ).loc Cert.OddOutRefIdeal.main_arg0)
          ∧ r.2.mem ((c.tc : Thread Cert.OddOutRefIdeal.nD Cert.OddOutRefIdeal.τ).loc Cert.OddOutRefIdeal.main_arg1) = m' ((c.tc : Thread Cert.OddOutRefIdeal.nD Cert.OddOutRefIdeal.τ).loc Cert.OddOutRefIdeal.main_arg1)
          ∧ r.2.mem ((c.tc : Thread Cert.OddOutRefIdeal.nD Cert.OddOutRefIdeal.τ).loc Cert.OddOutRefIdeal.main_arg2) = m' ((c.tc : Thread Cert.OddOutRefIdeal.nD Cert.OddOutRefIdeal.τ).loc Cert.OddOutRefIdeal.main_arg2))

def preserves_EvenOut_EvenOutIdeal : Prop :=
  True

def algebraic_EvenOutIdeal_EvenOutRefIdeal [hEvenOutIdeal : Cert.EvenOutIdeal.Facts] [hEvenOutRefIdeal : Cert.EvenOutRefIdeal.Facts] : Prop :=
  ∀ (m : (ℓ : Loc Cert.EvenOutIdeal.nD Cert.EvenOutIdeal.τ Cert.EvenOutIdeal.sig) → Buf (Elt Ideal) ℓ) (g : Dev Cert.EvenOutIdeal.nD → PrngReg)
    (m' : (ℓ : Loc Cert.EvenOutRefIdeal.nD Cert.EvenOutRefIdeal.τ Cert.EvenOutRefIdeal.sig) → Buf (Elt Ideal) ℓ) (g' : Dev Cert.EvenOutRefIdeal.nD → PrngReg), Pre_EvenOutIdeal m →
    (∀ c : Dev Cert.EvenOutIdeal.nD,
      m' ((c.tc : Thread Cert.EvenOutRefIdeal.nD Cert.EvenOutRefIdeal.τ).loc Cert.EvenOutRefIdeal.main_arg0) = m ((c.tc : Thread Cert.EvenOutIdeal.nD Cert.EvenOutIdeal.τ).loc Cert.EvenOutIdeal.main_arg0)
      ∧ m' ((c.tc : Thread Cert.EvenOutRefIdeal.nD Cert.EvenOutRefIdeal.τ).loc Cert.EvenOutRefIdeal.main_arg1) = m ((c.tc : Thread Cert.EvenOutIdeal.nD Cert.EvenOutIdeal.τ).loc Cert.EvenOutIdeal.main_arg1)
      ∧ m' ((c.tc : Thread Cert.EvenOutRefIdeal.nD Cert.EvenOutRefIdeal.τ).loc Cert.EvenOutRefIdeal.main_arg2) = m ((c.tc : Thread Cert.EvenOutIdeal.nD Cert.EvenOutIdeal.τ).loc Cert.EvenOutIdeal.main_arg2)
      ∧ m' ((c.tc : Thread Cert.EvenOutRefIdeal.nD Cert.EvenOutRefIdeal.τ).loc Cert.EvenOutRefIdeal.main_arg3) = m ((c.tc : Thread Cert.EvenOutIdeal.nD Cert.EvenOutIdeal.τ).loc Cert.EvenOutIdeal.main_arg3)) →
    ∃ (v0 : (c : Dev Cert.EvenOutIdeal.nD) → Buf (Elt Ideal) ((c.tc : Thread Cert.EvenOutIdeal.nD Cert.EvenOutIdeal.τ).loc Cert.EvenOutIdeal.main_v0)),
      θ_run (Cert.EvenOutIdeal.defs (F := Ideal)) (onTc (τ := Cert.EvenOutIdeal.τ) (Cert.EvenOutIdeal.main (F := Ideal))) ⟨m, fun _ => 0, g⟩ (fun r => ∀ c : Dev Cert.EvenOutIdeal.nD,
          r.2.mem ((c.tc : Thread Cert.EvenOutIdeal.nD Cert.EvenOutIdeal.τ).loc Cert.EvenOutIdeal.main_v0) = v0 c
          ∧ r.2.mem ((c.tc : Thread Cert.EvenOutIdeal.nD Cert.EvenOutIdeal.τ).loc Cert.EvenOutIdeal.main_arg0) = m ((c.tc : Thread Cert.EvenOutIdeal.nD Cert.EvenOutIdeal.τ).loc Cert.EvenOutIdeal.main_arg0)
          ∧ r.2.mem ((c.tc : Thread Cert.EvenOutIdeal.nD Cert.EvenOutIdeal.τ).loc Cert.EvenOutIdeal.main_arg1) = m ((c.tc : Thread Cert.EvenOutIdeal.nD Cert.EvenOutIdeal.τ).loc Cert.EvenOutIdeal.main_arg1)
          ∧ r.2.mem ((c.tc : Thread Cert.EvenOutIdeal.nD Cert.EvenOutIdeal.τ).loc Cert.EvenOutIdeal.main_arg2) = m ((c.tc : Thread Cert.EvenOutIdeal.nD Cert.EvenOutIdeal.τ).loc Cert.EvenOutIdeal.main_arg2)
          ∧ r.2.mem ((c.tc : Thread Cert.EvenOutIdeal.nD Cert.EvenOutIdeal.τ).loc Cert.EvenOutIdeal.main_arg3) = m ((c.tc : Thread Cert.EvenOutIdeal.nD Cert.EvenOutIdeal.τ).loc Cert.EvenOutIdeal.main_arg3))
      ∧ θ_run (Cert.EvenOutRefIdeal.defs (F := Ideal)) (onTc (τ := Cert.EvenOutRefIdeal.τ) (Cert.EvenOutRefIdeal.main (F := Ideal))) ⟨m', fun _ => 0, g'⟩ (fun r => ∀ c : Dev Cert.EvenOutRefIdeal.nD,
          r.2.mem ((c.tc : Thread Cert.EvenOutRefIdeal.nD Cert.EvenOutRefIdeal.τ).loc Cert.EvenOutRefIdeal.main_v7) = v0 c
          ∧ r.2.mem ((c.tc : Thread Cert.EvenOutRefIdeal.nD Cert.EvenOutRefIdeal.τ).loc Cert.EvenOutRefIdeal.main_arg0) = m' ((c.tc : Thread Cert.EvenOutRefIdeal.nD Cert.EvenOutRefIdeal.τ).loc Cert.EvenOutRefIdeal.main_arg0)
          ∧ r.2.mem ((c.tc : Thread Cert.EvenOutRefIdeal.nD Cert.EvenOutRefIdeal.τ).loc Cert.EvenOutRefIdeal.main_arg1) = m' ((c.tc : Thread Cert.EvenOutRefIdeal.nD Cert.EvenOutRefIdeal.τ).loc Cert.EvenOutRefIdeal.main_arg1)
          ∧ r.2.mem ((c.tc : Thread Cert.EvenOutRefIdeal.nD Cert.EvenOutRefIdeal.τ).loc Cert.EvenOutRefIdeal.main_arg2) = m' ((c.tc : Thread Cert.EvenOutRefIdeal.nD Cert.EvenOutRefIdeal.τ).loc Cert.EvenOutRefIdeal.main_arg2)
          ∧ r.2.mem ((c.tc : Thread Cert.EvenOutRefIdeal.nD Cert.EvenOutRefIdeal.τ).loc Cert.EvenOutRefIdeal.main_arg3) = m' ((c.tc : Thread Cert.EvenOutRefIdeal.nD Cert.EvenOutRefIdeal.τ).loc Cert.EvenOutRefIdeal.main_arg3))

def preserves_EvenIn_EvenInIdeal : Prop :=
  True

def algebraic_EvenInIdeal_EvenInRefIdeal [hEvenInIdeal : Cert.EvenInIdeal.Facts] [hEvenInRefIdeal : Cert.EvenInRefIdeal.Facts] : Prop :=
  ∀ (m : (ℓ : Loc Cert.EvenInIdeal.nD Cert.EvenInIdeal.τ Cert.EvenInIdeal.sig) → Buf (Elt Ideal) ℓ) (g : Dev Cert.EvenInIdeal.nD → PrngReg)
    (m' : (ℓ : Loc Cert.EvenInRefIdeal.nD Cert.EvenInRefIdeal.τ Cert.EvenInRefIdeal.sig) → Buf (Elt Ideal) ℓ) (g' : Dev Cert.EvenInRefIdeal.nD → PrngReg), Pre_EvenInIdeal m →
    (∀ c : Dev Cert.EvenInIdeal.nD,
      m' ((c.tc : Thread Cert.EvenInRefIdeal.nD Cert.EvenInRefIdeal.τ).loc Cert.EvenInRefIdeal.main_arg0) = m ((c.tc : Thread Cert.EvenInIdeal.nD Cert.EvenInIdeal.τ).loc Cert.EvenInIdeal.main_arg0)
      ∧ m' ((c.tc : Thread Cert.EvenInRefIdeal.nD Cert.EvenInRefIdeal.τ).loc Cert.EvenInRefIdeal.main_arg1) = m ((c.tc : Thread Cert.EvenInIdeal.nD Cert.EvenInIdeal.τ).loc Cert.EvenInIdeal.main_arg1)
      ∧ m' ((c.tc : Thread Cert.EvenInRefIdeal.nD Cert.EvenInRefIdeal.τ).loc Cert.EvenInRefIdeal.main_arg2) = m ((c.tc : Thread Cert.EvenInIdeal.nD Cert.EvenInIdeal.τ).loc Cert.EvenInIdeal.main_arg2)
      ∧ m' ((c.tc : Thread Cert.EvenInRefIdeal.nD Cert.EvenInRefIdeal.τ).loc Cert.EvenInRefIdeal.main_arg3) = m ((c.tc : Thread Cert.EvenInIdeal.nD Cert.EvenInIdeal.τ).loc Cert.EvenInIdeal.main_arg3)) →
    ∃ (v0 : (c : Dev Cert.EvenInIdeal.nD) → Buf (Elt Ideal) ((c.tc : Thread Cert.EvenInIdeal.nD Cert.EvenInIdeal.τ).loc Cert.EvenInIdeal.main_v24_0)) (v1 : (c : Dev Cert.EvenInIdeal.nD) → Buf (Elt Ideal) ((c.tc : Thread Cert.EvenInIdeal.nD Cert.EvenInIdeal.τ).loc Cert.EvenInIdeal.main_v24_1)) (v2 : (c : Dev Cert.EvenInIdeal.nD) → Buf (Elt Ideal) ((c.tc : Thread Cert.EvenInIdeal.nD Cert.EvenInIdeal.τ).loc Cert.EvenInIdeal.main_v24_2)) (v3 : (c : Dev Cert.EvenInIdeal.nD) → Buf (Elt Ideal) ((c.tc : Thread Cert.EvenInIdeal.nD Cert.EvenInIdeal.τ).loc Cert.EvenInIdeal.main_v24_3)),
      θ_run (Cert.EvenInIdeal.defs (F := Ideal)) (onTc (τ := Cert.EvenInIdeal.τ) (Cert.EvenInIdeal.main (F := Ideal))) ⟨m, fun _ => 0, g⟩ (fun r => ∀ c : Dev Cert.EvenInIdeal.nD,
          r.2.mem ((c.tc : Thread Cert.EvenInIdeal.nD Cert.EvenInIdeal.τ).loc Cert.EvenInIdeal.main_v24_0) = v0 c
          ∧ r.2.mem ((c.tc : Thread Cert.EvenInIdeal.nD Cert.EvenInIdeal.τ).loc Cert.EvenInIdeal.main_v24_1) = v1 c
          ∧ r.2.mem ((c.tc : Thread Cert.EvenInIdeal.nD Cert.EvenInIdeal.τ).loc Cert.EvenInIdeal.main_v24_2) = v2 c
          ∧ r.2.mem ((c.tc : Thread Cert.EvenInIdeal.nD Cert.EvenInIdeal.τ).loc Cert.EvenInIdeal.main_v24_3) = v3 c
          ∧ r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
          ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1)
          ∧ r.2.mem ((c.tc : Thread Cert.EvenInIdeal.nD Cert.EvenInIdeal.τ).loc Cert.EvenInIdeal.main_arg2) = m ((c.tc : Thread Cert.EvenInIdeal.nD Cert.EvenInIdeal.τ).loc Cert.EvenInIdeal.main_arg2)
          ∧ r.2.mem ((c.tc : Thread Cert.EvenInIdeal.nD Cert.EvenInIdeal.τ).loc Cert.EvenInIdeal.main_arg3) = m ((c.tc : Thread Cert.EvenInIdeal.nD Cert.EvenInIdeal.τ).loc Cert.EvenInIdeal.main_arg3))
      ∧ θ_run (Cert.EvenInRefIdeal.defs (F := Ideal)) (onTc (τ := Cert.EvenInRefIdeal.τ) (Cert.EvenInRefIdeal.main (F := Ideal))) ⟨m', fun _ => 0, g'⟩ (fun r => ∀ c : Dev Cert.EvenInRefIdeal.nD,
          r.2.mem ((c.tc : Thread Cert.EvenInRefIdeal.nD Cert.EvenInRefIdeal.τ).loc Cert.EvenInRefIdeal.main_v86) = v0 c
          ∧ r.2.mem ((c.tc : Thread Cert.EvenInRefIdeal.nD Cert.EvenInRefIdeal.τ).loc Cert.EvenInRefIdeal.main_v89) = v1 c
          ∧ r.2.mem ((c.tc : Thread Cert.EvenInRefIdeal.nD Cert.EvenInRefIdeal.τ).loc Cert.EvenInRefIdeal.main_v92) = v2 c
          ∧ r.2.mem ((c.tc : Thread Cert.EvenInRefIdeal.nD Cert.EvenInRefIdeal.τ).loc Cert.EvenInRefIdeal.main_v93) = v3 c
          ∧ r.2.mem ((c.tc : Thread Cert.EvenInRefIdeal.nD Cert.EvenInRefIdeal.τ).loc Cert.EvenInRefIdeal.main_arg0) = m' ((c.tc : Thread Cert.EvenInRefIdeal.nD Cert.EvenInRefIdeal.τ).loc Cert.EvenInRefIdeal.main_arg0)
          ∧ r.2.mem ((c.tc : Thread Cert.EvenInRefIdeal.nD Cert.EvenInRefIdeal.τ).loc Cert.EvenInRefIdeal.main_arg1) = m' ((c.tc : Thread Cert.EvenInRefIdeal.nD Cert.EvenInRefIdeal.τ).loc Cert.EvenInRefIdeal.main_arg1)
          ∧ r.2.mem ((c.tc : Thread Cert.EvenInRefIdeal.nD Cert.EvenInRefIdeal.τ).loc Cert.EvenInRefIdeal.main_arg2) = m' ((c.tc : Thread Cert.EvenInRefIdeal.nD Cert.EvenInRefIdeal.τ).loc Cert.EvenInRefIdeal.main_arg2)
          ∧ r.2.mem ((c.tc : Thread Cert.EvenInRefIdeal.nD Cert.EvenInRefIdeal.τ).loc Cert.EvenInRefIdeal.main_arg3) = m' ((c.tc : Thread Cert.EvenInRefIdeal.nD Cert.EvenInRefIdeal.τ).loc Cert.EvenInRefIdeal.main_arg3))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hLast : Cert.Last.Facts) (hLastIdeal : Cert.LastIdeal.Facts) (hLastRefIdeal : Cert.LastRefIdeal.Facts) (hOddIn : Cert.OddIn.Facts) (hOddInIdeal : Cert.OddInIdeal.Facts) (hOddInRefIdeal : Cert.OddInRefIdeal.Facts) (hOddOut : Cert.OddOut.Facts) (hOddOutIdeal : Cert.OddOutIdeal.Facts) (hOddOutRefIdeal : Cert.OddOutRefIdeal.Facts) (hEvenOut : Cert.EvenOut.Facts) (hEvenOutIdeal : Cert.EvenOutIdeal.Facts) (hEvenOutRefIdeal : Cert.EvenOutRefIdeal.Facts) (hEvenIn : Cert.EvenIn.Facts) (hEvenInIdeal : Cert.EvenInIdeal.Facts) (hEvenInRefIdeal : Cert.EvenInRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnRefIdeal (hFfnRefIdeal := hFfnRefIdeal)
    ∧ quiescent_Last (hLast := hLast)
    ∧ quiescent_LastIdeal (hLastIdeal := hLastIdeal)
    ∧ quiescent_LastRefIdeal (hLastRefIdeal := hLastRefIdeal)
    ∧ quiescent_OddIn (hOddIn := hOddIn)
    ∧ quiescent_OddInIdeal (hOddInIdeal := hOddInIdeal)
    ∧ quiescent_OddInRefIdeal (hOddInRefIdeal := hOddInRefIdeal)
    ∧ quiescent_OddOut (hOddOut := hOddOut)
    ∧ quiescent_OddOutIdeal (hOddOutIdeal := hOddOutIdeal)
    ∧ quiescent_OddOutRefIdeal (hOddOutRefIdeal := hOddOutRefIdeal)
    ∧ quiescent_EvenOut (hEvenOut := hEvenOut)
    ∧ quiescent_EvenOutIdeal (hEvenOutIdeal := hEvenOutIdeal)
    ∧ quiescent_EvenOutRefIdeal (hEvenOutRefIdeal := hEvenOutRefIdeal)
    ∧ quiescent_EvenIn (hEvenIn := hEvenIn)
    ∧ quiescent_EvenInIdeal (hEvenInIdeal := hEvenInIdeal)
    ∧ quiescent_EvenInRefIdeal (hEvenInRefIdeal := hEvenInRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_FfnRefIdeal (hFfnIdeal := hFfnIdeal) (hFfnRefIdeal := hFfnRefIdeal)
    ∧ preserves_Last_LastIdeal
    ∧ algebraic_LastIdeal_LastRefIdeal (hLastIdeal := hLastIdeal) (hLastRefIdeal := hLastRefIdeal)
    ∧ preserves_OddIn_OddInIdeal
    ∧ algebraic_OddInIdeal_OddInRefIdeal (hOddInIdeal := hOddInIdeal) (hOddInRefIdeal := hOddInRefIdeal)
    ∧ preserves_OddOut_OddOutIdeal
    ∧ algebraic_OddOutIdeal_OddOutRefIdeal (hOddOutIdeal := hOddOutIdeal) (hOddOutRefIdeal := hOddOutRefIdeal)
    ∧ preserves_EvenOut_EvenOutIdeal
    ∧ algebraic_EvenOutIdeal_EvenOutRefIdeal (hEvenOutIdeal := hEvenOutIdeal) (hEvenOutRefIdeal := hEvenOutRefIdeal)
    ∧ preserves_EvenIn_EvenInIdeal
    ∧ algebraic_EvenInIdeal_EvenInRefIdeal (hEvenInIdeal := hEvenInIdeal) (hEvenInRefIdeal := hEvenInRefIdeal)
-- ==== Pre_finite.lean ====
abbrev S4x4096x16x64 : Shape := ⟨4, ![4, 4096, 16, 64]⟩
abbrev S4x4096x4x64 : Shape := ⟨4, ![4, 4096, 4, 64]⟩
abbrev S2x16 : Shape := ⟨2, ![2, 16]⟩
abbrev S_ : Shape := ⟨0, ![]⟩

class Facts : Prop where
  bitsLt_bf16_f32 : FTy.bits .bf16 < FTy.bits .f32
  bcast_S_S4x4096x16x64 : S_.BroadcastsInDim S4x4096x16x64 (![] : Fin 0 → Fin S4x4096x16x64.rank)
  reducesTo_S4x4096x16x64_S_d0_1_2_3 : S4x4096x16x64.ReducesTo [0, 1, 2, 3] S_
  h_S_ : 0 < S_.numel
  bcast_S_S4x4096x4x64 : S_.BroadcastsInDim S4x4096x4x64 (![] : Fin 0 → Fin S4x4096x4x64.rank)
  reducesTo_S4x4096x4x64_S_d0_1_2_3 : S4x4096x4x64.ReducesTo [0, 1, 2, 3] S_
  bcast_S_S2x16 : S_.BroadcastsInDim S2x16 (![] : Fin 0 → Fin S2x16.rank)
  reducesTo_S2x16_S_d0_1 : S2x16.ReducesTo [0, 1] S_

variable [Facts]

def fn {F : FTy → Type} [FloatOps F] (main_arg0 : FVec F S4x4096x16x64 .bf16) (main_arg1 : FVec F S4x4096x4x64 .bf16) (main_arg2 : FVec F S4x4096x4x64 .bf16) (main_arg3 : FVec F S2x16 .f32) : IVec S_ 1 :=
  let main_v0 : FVec F S4x4096x16x64 .f32 := (extf .f32 · bitsLt_bf16_f32) main_arg0
  let main_v1 : FVec F S4x4096x16x64 .f32 := Host.absf main_v0
  let main_cst : FVec F S_ .f32 := constant S_ .f32 0x7F800000#32
  let main_v2 : FVec F S4x4096x16x64 .f32 := broadcastInDim S4x4096x16x64 ![] bcast_S_S4x4096x16x64 main_cst
  let main_v3 : IVec S4x4096x16x64 1 := cmpf .olt main_v1 main_v2
  let main_c : IVec S_ 1 := constantI S_ 1 1#1
  let main_v4 : IVec S_ 1 := (fun x v => Host.reduce IntOp.andi x v reducesTo_S4x4096x16x64_S_d0_1_2_3 h_S_) main_v3 main_c
  let main_v5 : FVec F S4x4096x4x64 .f32 := (extf .f32 · bitsLt_bf16_f32) main_arg1
  let main_v6 : FVec F S4x4096x4x64 .f32 := Host.absf main_v5
  let main_cst_0 : FVec F S_ .f32 := constant S_ .f32 0x7F800000#32
  let main_v7 : FVec F S4x4096x4x64 .f32 := broadcastInDim S4x4096x4x64 ![] bcast_S_S4x4096x4x64 main_cst_0
  let main_v8 : IVec S4x4096x4x64 1 := cmpf .olt main_v6 main_v7
  let main_c_1 : IVec S_ 1 := constantI S_ 1 1#1
  let main_v9 : IVec S_ 1 := (fun x v => Host.reduce IntOp.andi x v reducesTo_S4x4096x4x64_S_d0_1_2_3 h_S_) main_v8 main_c_1
  let main_v10 : IVec S_ 1 := andi main_v4 main_v9
  let main_v11 : FVec F S2x16 .f32 := Host.absf main_arg3
  let main_cst_2 : FVec F S_ .f32 := constant S_ .f32 0x7F800000#32
  let main_v12 : FVec F S2x16 .f32 := broadcastInDim S2x16 ![] bcast_S_S2x16 main_cst_2
  let main_v13 : IVec S2x16 1 := cmpf .olt main_v11 main_v12
  let main_c_3 : IVec S_ 1 := constantI S_ 1 1#1
  let main_v14 : IVec S_ 1 := (fun x v => Host.reduce IntOp.andi x v reducesTo_S2x16_S_d0_1 h_S_) main_v13 main_c_3
  let main_v15 : IVec S_ 1 := andi main_v10 main_v14
  main_v15
-- ==== Kernel.lean ====
abbrev S4x4096x16x64 : Shape := ⟨4, ![4, 4096, 16, 64]⟩
abbrev S4x4096x4x64 : Shape := ⟨4, ![4, 4096, 4, 64]⟩
abbrev S2x16 : Shape := ⟨2, ![2, 16]⟩
abbrev S16x2 : Shape := ⟨2, ![16, 2]⟩
abbrev S16x2x128 : Shape := ⟨3, ![16, 2, 128]⟩
abbrev S16x256 : Shape := ⟨2, ![16, 256]⟩
abbrev S16x1x256 : Shape := ⟨3, ![16, 1, 256]⟩
abbrev S16384x1024 : Shape := ⟨2, ![16384, 1024]⟩
abbrev S4x4096x4x128 : Shape := ⟨4, ![4, 4096, 4, 128]⟩
abbrev S16384x512 : Shape := ⟨2, ![16384, 512]⟩
abbrev S512x1024 : Shape := ⟨2, ![512, 1024]⟩
abbrev S512x512 : Shape := ⟨2, ![512, 512]⟩
abbrev S128x512 : Shape := ⟨2, ![128, 512]⟩
abbrev S8x1x256 : Shape := ⟨3, ![8, 1, 256]⟩
abbrev S640x512 : Shape := ⟨2, ![640, 512]⟩
abbrev S128x128 : Shape := ⟨2, ![128, 128]⟩
abbrev S256x256 : Shape := ⟨2, ![256, 256]⟩
abbrev S256x128 : Shape := ⟨2, ![256, 128]⟩
abbrev S1x1x256 : Shape := ⟨3, ![1, 1, 256]⟩
abbrev S1x256 : Shape := ⟨2, ![1, 256]⟩
abbrev S256 : Shape := ⟨1, ![256]⟩
abbrev S128x256 : Shape := ⟨2, ![128, 256]⟩

abbrev nBuf : Space → Nat
  | .hbm => 14
  | .vmem => 13
  | .smem => 0
  | _ => 0

abbrev bufTy : (tb : Table) → Fin (tcTables nBuf tb) → BufTy
  | .hbm, ⟨0, _⟩ => ⟨S4x4096x16x64, .bf16⟩
  | .hbm, ⟨1, _⟩ => ⟨S4x4096x4x64, .bf16⟩
  | .hbm, ⟨2, _⟩ => ⟨S4x4096x4x64, .bf16⟩
  | .hbm, ⟨3, _⟩ => ⟨S2x16, .f32⟩
  | .hbm, ⟨4, _⟩ => ⟨S16x2, .f32⟩
  | .hbm, ⟨5, _⟩ => ⟨S16x2x128, .f32⟩
  | .hbm, ⟨6, _⟩ => ⟨S16x256, .f32⟩
  | .hbm, ⟨7, _⟩ => ⟨S16x1x256, .f32⟩
  | .hbm, ⟨8, _⟩ => ⟨S16384x1024, .bf16⟩
  | .hbm, ⟨9, _⟩ => ⟨S4x4096x4x128, .bf16⟩
  | .hbm, ⟨10, _⟩ => ⟨S16384x512, .bf16⟩
  | .hbm, ⟨11, _⟩ => ⟨S4x4096x4x128, .bf16⟩
  | .hbm, ⟨12, _⟩ => ⟨S16384x512, .bf16⟩
  | .hbm, ⟨13, _⟩ => ⟨S16384x1024, .bf16⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S128x512, .bf16⟩
  | .local _ .vmem, ⟨5, _⟩ => ⟨S128x512, .bf16⟩
  | .local _ .vmem, ⟨6, _⟩ => ⟨S512x512, .bf16⟩
  | .local _ .vmem, ⟨7, _⟩ => ⟨S512x512, .bf16⟩
  | .local _ .vmem, ⟨8, _⟩ => ⟨S128x512, .bf16⟩
  | .local _ .vmem, ⟨9, _⟩ => ⟨S128x512, .bf16⟩
  | .local _ .vmem, ⟨10, _⟩ => ⟨S8x1x256, .f32⟩
  | .local _ .vmem, ⟨11, _⟩ => ⟨S512x1024, .bf16⟩
  | .local _ .vmem, ⟨12, _⟩ => ⟨S512x1024, .bf16⟩
  | _, _ => ⟨S4x4096x16x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c4_i32 : BitVec 32 := 4#32
  let v1 : BitVec 32 := Scalar.muli arg1 c4_i32
  let c1_i32 : BitVec 32 := 1#32
  let v2 : BitVec 32 := Scalar.subi v1 c1_i32
  let c0_i32 : BitVec 32 := 0#32
  let v3 : BitVec 32 := Scalar.maxsi v2 c0_i32
  let v4 : BitVec 32 := Scalar.addi v0 v3
  let c0_i32_0 : BitVec 32 := 0#32
  let c0_i32_1 : BitVec 32 := 0#32
  ![v4.toNat, c0_i32_0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c4_i32 : BitVec 32 := 4#32
  let v1 : BitVec 32 := Scalar.muli arg1 c4_i32
  let c1_i32 : BitVec 32 := 1#32
  let v2 : BitVec 32 := Scalar.subi v1 c1_i32
  let c0_i32 : BitVec 32 := 0#32
  let v3 : BitVec 32 := Scalar.maxsi v2 c0_i32
  let v4 : BitVec 32 := Scalar.addi v0 v3
  let c0_i32_0 : BitVec 32 := 0#32
  let c0_i32_1 : BitVec 32 := 0#32
  ![v4.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S8x1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S4x4096x16x64 : Shape := ⟨4, ![4, 4096, 16, 64]⟩
abbrev S4x4096x4x64 : Shape := ⟨4, ![4, 4096, 4, 64]⟩
abbrev S2x16 : Shape := ⟨2, ![2, 16]⟩
abbrev S128x128x4x4x64 : Shape := ⟨5, ![128, 128, 4, 4, 64]⟩
abbrev S_ : Shape := ⟨0, ![]⟩
abbrev S4x4224x4x64 : Shape := ⟨4, ![4, 4224, 4, 64]⟩
abbrev S128x128x4x64 : Shape := ⟨4, ![128, 128, 4, 64]⟩
abbrev S128x256x4x64 : Shape := ⟨4, ![128, 256, 4, 64]⟩
abbrev S128x4x256x128x4 : Shape := ⟨5, ![128, 4, 256, 128, 4]⟩
abbrev S128x4x4x128x256 : Shape := ⟨5, ![128, 4, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x128x256 : Shape := ⟨3, ![1, 128, 256]⟩
abbrev S1x1x256 : Shape := ⟨3, ![1, 1, 256]⟩
abbrev S32x1x256 : Shape := ⟨3, ![32, 1, 256]⟩
abbrev S32x128x256 : Shape := ⟨3, ![32, 128, 256]⟩
abbrev S1x32x128x256 : Shape := ⟨4, ![1, 32, 128, 256]⟩
abbrev S4x32x128x256 : Shape := ⟨4, ![4, 32, 128, 256]⟩
abbrev S128x128x256 : Shape := ⟨3, ![128, 128, 256]⟩
abbrev S128x1x1x128x256 : Shape := ⟨5, ![128, 1, 1, 128, 256]⟩
abbrev S1x16 : Shape := ⟨2, ![1, 16]⟩
abbrev S16 : Shape := ⟨1, ![16]⟩
abbrev S4x4 : Shape := ⟨2, ![4, 4]⟩
abbrev S1x4x4x1x1 : Shape := ⟨5, ![1, 4, 4, 1, 1]⟩
abbrev S128x4x4x128x1 : Shape := ⟨5, ![128, 4, 4, 128, 1]⟩
abbrev S128x4x4x128x257 : Shape := ⟨5, ![128, 4, 4, 128, 257]⟩
abbrev S128x4x4x128 : Shape := ⟨4, ![128, 4, 4, 128]⟩
abbrev S128x4x64x4x128 : Shape := ⟨5, ![128, 4, 64, 4, 128]⟩
abbrev S16384x1024 : Shape := ⟨2, ![16384, 1024]⟩

abbrev nBuf : Space → Nat
  | .hbm => 97
  | .vmem => 0
  | .smem => 0
  | _ => 0

abbrev bufTy : (tb : Table) → Fin (tcTables nBuf tb) → BufTy
  | .hbm, ⟨0, _⟩ => ⟨S4x4096x16x64, .bf16⟩
  | .hbm, ⟨1, _⟩ => ⟨S4x4096x4x64, .bf16⟩
  | .hbm, ⟨2, _⟩ => ⟨S4x4096x4x64, .bf16⟩
  | .hbm, ⟨3, _⟩ => ⟨S2x16, .f32⟩
  | .hbm, ⟨4, _⟩ => ⟨S4x4096x16x64, .f32⟩
  | .hbm, ⟨5, _⟩ => ⟨S4x4096x4x64, .f32⟩
  | .hbm, ⟨6, _⟩ => ⟨S4x4096x4x64, .f32⟩
  | .hbm, ⟨7, _⟩ => ⟨S128x128x4x4x64, .f32⟩
  | .hbm, ⟨8, _⟩ => ⟨S_, .i32⟩
  | .hbm, ⟨9, _⟩ => ⟨S_, .f32⟩
  | .hbm, ⟨10, _⟩ => ⟨S4x4224x4x64, .f32⟩
  | .hbm, ⟨11, _⟩ => ⟨S4x4096x4x64, .f32⟩
  | .hbm, ⟨12, _⟩ => ⟨S128x128x4x64, .f32⟩
  | .hbm, ⟨13, _⟩ => ⟨S128x128x4x64, .f32⟩
  | .hbm, ⟨14, _⟩ => ⟨S128x256x4x64, .f32⟩
  | .hbm, ⟨15, _⟩ => ⟨S_, .i32⟩
  | .hbm, ⟨16, _⟩ => ⟨S_, .f32⟩
  | .hbm, ⟨17, _⟩ => ⟨S4x4224x4x64, .f32⟩
  | .hbm, ⟨18, _⟩ => ⟨S4x4096x4x64, .f32⟩
  | .hbm, ⟨19, _⟩ => ⟨S128x128x4x64, .f32⟩
  | .hbm, ⟨20, _⟩ => ⟨S128x128x4x64, .f32⟩
  | .hbm, ⟨21, _⟩ => ⟨S128x256x4x64, .f32⟩
  | .hbm, ⟨22, _⟩ => ⟨S128x4x256x128x4, .f32⟩
  | .hbm, ⟨23, _⟩ => ⟨S128x4x4x128x256, .f32⟩
  | .hbm, ⟨24, _⟩ => ⟨S_, .f32⟩
  | .hbm, ⟨25, _⟩ => ⟨S128x4x4x128x256, .f32⟩
  | .hbm, ⟨26, _⟩ => ⟨S128x4x4x128x256, .f32⟩
  | .hbm, ⟨27, _⟩ => ⟨S128, .i32⟩
  | .hbm, ⟨28, _⟩ => ⟨S128x1, .i32⟩
  | .hbm, ⟨29, _⟩ => ⟨S_, .i32⟩
  | .hbm, ⟨30, _⟩ => ⟨S128x1, .i32⟩
  | .hbm, ⟨31, _⟩ => ⟨S128x1, .i32⟩
  | .hbm, ⟨32, _⟩ => ⟨S256, .i32⟩
  | .hbm, ⟨33, _⟩ => ⟨S1x256, .i32⟩
  | .hbm, ⟨34, _⟩ => ⟨S128x256, .i32⟩
  | .hbm, ⟨35, _⟩ => ⟨S128x256, .i32⟩
  | .hbm, ⟨36, _⟩ => ⟨S128x256, .i32⟩
  | .hbm, ⟨37, _⟩ => ⟨S_, .i32⟩
  | .hbm, ⟨38, _⟩ => ⟨S128x256, .i32⟩
  | .hbm, ⟨39, _⟩ => ⟨S128x256, .i1⟩
  | .hbm, ⟨40, _⟩ => ⟨S_, .i32⟩
  | .hbm, ⟨41, _⟩ => ⟨S128x256, .i32⟩
  | .hbm, ⟨42, _⟩ => ⟨S128x256, .i1⟩
  | .hbm, ⟨43, _⟩ => ⟨S128x256, .i1⟩
  | .hbm, ⟨44, _⟩ => ⟨S32, .i32⟩
  | .hbm, ⟨45, _⟩ => ⟨S32x1x1, .i32⟩
  | .hbm, ⟨46, _⟩ => ⟨S_, .i32⟩
  | .hbm, ⟨47, _⟩ => ⟨S32x1x1, .i32⟩
  | .hbm, ⟨48, _⟩ => ⟨S32x1x1, .i32⟩
  | .hbm, ⟨49, _⟩ => ⟨S1x128x256, .i1⟩
  | .hbm, ⟨50, _⟩ => ⟨S1x1x256, .i32⟩
  | .hbm, ⟨51, _⟩ => ⟨S32x1x256, .i32⟩
  | .hbm, ⟨52, _⟩ => ⟨S32x1x256, .i32⟩
  | .hbm, ⟨53, _⟩ => ⟨S32x1x256, .i32⟩
  | .hbm, ⟨54, _⟩ => ⟨S_, .i32⟩
  | .hbm, ⟨55, _⟩ => ⟨S32x1x256, .i32⟩
  | .hbm, ⟨56, _⟩ => ⟨S32x1x256, .i32⟩
  | .hbm, ⟨57, _⟩ => ⟨S_, .i32⟩
  | .hbm, ⟨58, _⟩ => ⟨S32x1x256, .i32⟩
  | .hbm, ⟨59, _⟩ => ⟨S32x1x256, .i1⟩
  | .hbm, ⟨60, _⟩ => ⟨S32x128x256, .i1⟩
  | .hbm, ⟨61, _⟩ => ⟨S32x128x256, .i1⟩
  | .hbm, ⟨62, _⟩ => ⟨S32x128x256, .i1⟩
  | .hbm, ⟨63, _⟩ => ⟨S1x32x128x256, .i1⟩
  | .hbm, ⟨64, _⟩ => ⟨S4x32x128x256, .i1⟩
  | .hbm, ⟨65, _⟩ => ⟨S128x128x256, .i1⟩
  | .hbm, ⟨66, _⟩ => ⟨S128x1x1x128x256, .i1⟩
  | .hbm, ⟨67, _⟩ => ⟨S_, .f32⟩
  | .hbm, ⟨68, _⟩ => ⟨S_, .f32⟩
  | .hbm, ⟨69, _⟩ => ⟨S128x4x4x128x256, .i1⟩
  | .hbm, ⟨70, _⟩ => ⟨S128x4x4x128x256, .f32⟩
  | .hbm, ⟨71, _⟩ => ⟨S128x4x4x128x256, .f32⟩
  | .hbm, ⟨72, _⟩ => ⟨S1x16, .f32⟩
  | .hbm, ⟨73, _⟩ => ⟨S16, .f32⟩
  | .hbm, ⟨74, _⟩ => ⟨S4x4, .f32⟩
  | .hbm, ⟨75, _⟩ => ⟨S1x4x4x1x1, .f32⟩
  | .hbm, ⟨76, _⟩ => ⟨S128x4x4x128x1, .f32⟩
  | .hbm, ⟨77, _⟩ => ⟨S128x4x4x128x257, .f32⟩
  | .hbm, ⟨78, _⟩ => ⟨S_, .f32⟩
  | .hbm, ⟨79, _⟩ => ⟨S128x4x4x128, .f32⟩
  | .hbm, ⟨80, _⟩ => ⟨S_, .f32⟩
  | .hbm, ⟨81, _⟩ => ⟨S128x4x4x128, .f32⟩
  | .hbm, ⟨82, _⟩ => ⟨S128x4x4x128, .f32⟩
  | .hbm, ⟨83, _⟩ => ⟨S128x4x4x128x1, .f32⟩
  | .hbm, ⟨84, _⟩ => ⟨S128x4x4x128x257, .f32⟩
  | .hbm, ⟨85, _⟩ => ⟨S128x4x4x128x257, .f32⟩
  | .hbm, ⟨86, _⟩ => ⟨S128x4x4x128x257, .f32⟩
  | .hbm, ⟨87, _⟩ => ⟨S_, .f32⟩
  | .hbm, ⟨88, _⟩ => ⟨S128x4x4x128, .f32⟩
  | .hbm, ⟨89, _⟩ => ⟨S128x4x4x128x1, .f32⟩
  | .hbm, ⟨90, _⟩ => ⟨S128x4x4x128x257, .f32⟩
  | .hbm, ⟨91, _⟩ => ⟨S128x4x4x128x257, .f32⟩
  | .hbm, ⟨92, _⟩ => ⟨S128x4x4x128x256, .f32⟩
  | .hbm, ⟨93, _⟩ => ⟨S128x4x64x4x128, .f32⟩
  | .hbm, ⟨94, _⟩ => ⟨S128x128x4x4x64, .f32⟩
  | .hbm, ⟨95, _⟩ => ⟨S16384x1024, .f32⟩
  | .hbm, ⟨96, _⟩ => ⟨S16384x1024, .bf16⟩
  | _, _ => ⟨S4x4096x16x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_call1_v0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c_2 : Ref sig .tc := ⟨.hbm, 37, rfl⟩
abbrev main_v27 : Ref sig .tc := ⟨.hbm, 38, rfl⟩
abbrev main_v28 : Ref sig .tc := ⟨.hbm, 39, rfl⟩
abbrev main_c_3 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_4 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_c_5 : Ref sig .tc := ⟨.hbm, 54, rfl⟩
abbrev main_v41 : Ref sig .tc := ⟨.hbm, 55, rfl⟩
abbrev main_v42 : Ref sig .tc := ⟨.hbm, 56, rfl⟩
abbrev main_c_6 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_7 : Ref sig .tc := ⟨.hbm, 67, rfl⟩
abbrev main_call2_v0 : Ref sig .tc := ⟨.hbm, 68, rfl⟩
abbrev main_call2_v1 : Ref sig .tc := ⟨.hbm, 69, rfl⟩
abbrev main_call2_v2 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_8 : Ref sig .tc := ⟨.hbm, 78, rfl⟩
abbrev main_v59 : Ref sig .tc := ⟨.hbm, 79, rfl⟩
abbrev main_cst_9 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_10 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩

abbrev nD : Nat := 1
abbrev τ : Topo := Topo.v7x

variable {F : FTy → Type} [FloatOps F]

def κ : String → Option EReal := fun
  | "mask" => some ⊥
  | _ => none
-- ==== Ffn.lean ====
abbrev S16384x2048 : Shape := ⟨2, ![16384, 2048]⟩
abbrev S4x1x2048 : Shape := ⟨3, ![4, 1, 2048]⟩
abbrev S2048x5632 : Shape := ⟨2, ![2048, 5632]⟩
abbrev S5632x2048 : Shape := ⟨2, ![5632, 2048]⟩
abbrev S4x2048x5632 : Shape := ⟨3, ![4, 2048, 5632]⟩
abbrev S4x5632x2048 : Shape := ⟨3, ![4, 5632, 2048]⟩
abbrev S1024x2048 : Shape := ⟨2, ![1024, 2048]⟩
abbrev S1x1x2048 : Shape := ⟨3, ![1, 1, 2048]⟩
abbrev S2048x512 : Shape := ⟨2, ![2048, 512]⟩
abbrev S512x2048 : Shape := ⟨2, ![512, 2048]⟩
abbrev S1x128x512 : Shape := ⟨3, ![1, 128, 512]⟩
abbrev S1x512x128 : Shape := ⟨3, ![1, 512, 128]⟩
abbrev S128x512 : Shape := ⟨2, ![128, 512]⟩
abbrev S512x128 : Shape := ⟨2, ![512, 128]⟩
abbrev S1x2048 : Shape := ⟨2, ![1, 2048]⟩
abbrev S1024 : Shape := ⟨1, ![1024]⟩
abbrev S1024x1 : Shape := ⟨2, ![1024, 1]⟩
abbrev S1024x512 : Shape := ⟨2, ![1024, 512]⟩

abbrev nBuf : Space → Nat
  | .hbm => 12
  | .vmem => 24
  | .smem => 0
  | _ => 0

abbrev bufTy : (tb : Table) → Fin (tcTables nBuf tb) → BufTy
  | .hbm, ⟨0, _⟩ => ⟨S16384x2048, .f32⟩
  | .hbm, ⟨1, _⟩ => ⟨S4x1x2048, .f32⟩
  | .hbm, ⟨2, _⟩ => ⟨S2048x5632, .bf16⟩
  | .hbm, ⟨3, _⟩ => ⟨S2048x5632, .bf16⟩
  | .hbm, ⟨4, _⟩ => ⟨S5632x2048, .bf16⟩
  | .hbm, ⟨5, _⟩ => ⟨S4x2048x5632, .f32⟩
  | .hbm, ⟨6, _⟩ => ⟨S4x2048x5632, .f32⟩
  | .hbm, ⟨7, _⟩ => ⟨S4x5632x2048, .f32⟩
  | .hbm, ⟨8, _⟩ => ⟨S16384x2048, .f32⟩
  | .hbm, ⟨9, _⟩ => ⟨S2048x5632, .bf16⟩
  | .hbm, ⟨10, _⟩ => ⟨S2048x5632, .bf16⟩
  | .hbm, ⟨11, _⟩ => ⟨S5632x2048, .bf16⟩
  | .local _ .vmem, ⟨0, _⟩ => ⟨S1024x2048, .f32⟩
  | .local _ .vmem, ⟨1, _⟩ => ⟨S1024x2048, .f32⟩
  | .local _ .vmem, ⟨2, _⟩ => ⟨S1x1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x128x512, .f32⟩
  | .local _ .vmem, ⟨10, _⟩ => ⟨S1x128x512, .f32⟩
  | .local _ .vmem, ⟨11, _⟩ => ⟨S1x128x512, .f32⟩
  | .local _ .vmem, ⟨12, _⟩ => ⟨S1x128x512, .f32⟩
  | .local _ .vmem, ⟨13, _⟩ => ⟨S1x512x128, .f32⟩
  | .local _ .vmem, ⟨14, _⟩ => ⟨S1x512x128, .f32⟩
  | .local _ .vmem, ⟨15, _⟩ => ⟨S1024x2048, .f32⟩
  | .local _ .vmem, ⟨16, _⟩ => ⟨S1024x2048, .f32⟩
  | .local _ .vmem, ⟨17, _⟩ => ⟨S128x512, .bf16⟩
  | .local _ .vmem, ⟨18, _⟩ => ⟨S128x512, .bf16⟩
  | .local _ .vmem, ⟨19, _⟩ => ⟨S128x512, .bf16⟩
  | .local _ .vmem, ⟨20, _⟩ => ⟨S128x512, .bf16⟩
  | .local _ .vmem, ⟨21, _⟩ => ⟨S512x128, .bf16⟩
  | .local _ .vmem, ⟨22, _⟩ => ⟨S512x128, .bf16⟩
  | .local _ .vmem, ⟨23, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S128x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== FfnRefIdeal.lean ====
abbrev S16384x2048 : Shape := ⟨2, ![16384, 2048]⟩
abbrev S4x1x2048 : Shape := ⟨3, ![4, 1, 2048]⟩
abbrev S2048x5632 : Shape := ⟨2, ![2048, 5632]⟩
abbrev S5632x2048 : Shape := ⟨2, ![5632, 2048]⟩
abbrev S4x2048x5632 : Shape := ⟨3, ![4, 2048, 5632]⟩
abbrev S4x5632x2048 : Shape := ⟨3, ![4, 5632, 2048]⟩
abbrev S1x1x2048 : Shape := ⟨3, ![1, 1, 2048]⟩
abbrev S1x2048 : Shape := ⟨2, ![1, 2048]⟩
abbrev S_ : Shape := ⟨0, ![]⟩
abbrev S16384 : Shape := ⟨1, ![16384]⟩
abbrev S16384x1 : Shape := ⟨2, ![16384, 1]⟩
abbrev S16384x5632 : Shape := ⟨2, ![16384, 5632]⟩
abbrev S1x2048x5632 : Shape := ⟨3, ![1, 2048, 5632]⟩
abbrev S1x5632x2048 : Shape := ⟨3, ![1, 5632, 2048]⟩

abbrev nBuf : Space → Nat
  | .hbm => 54
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S4x1x2048, .f32⟩
  | .hbm, ⟨2, _⟩ => ⟨S2048x5632, .bf16⟩
  | .hbm, ⟨3, _⟩ => ⟨S2048x5632, .bf16⟩
  | .hbm, ⟨4, _⟩ => ⟨S5632x2048, .bf16⟩
  | .hbm, ⟨5, _⟩ => ⟨S4x2048x5632, .f32⟩
  | .hbm, ⟨6, _⟩ => ⟨S4x2048x5632, .f32⟩
  | .hbm, ⟨7, _⟩ => ⟨S4x5632x2048, .f32⟩
  | .hbm, ⟨8, _⟩ => ⟨S1x1x2048, .f32⟩
  | .hbm, ⟨9, _⟩ => ⟨S1x2048, .f32⟩
  | .hbm, ⟨10, _⟩ => ⟨S16384x2048, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1, .f32⟩
  | .hbm, ⟨21, _⟩ => ⟨S16384x2048, .f32⟩
  | .hbm, ⟨22, _⟩ => ⟨S16384x2048, .f32⟩
  | .hbm, ⟨23, _⟩ => ⟨S16384x2048, .f32⟩
  | .hbm, ⟨24, _⟩ => ⟨S16384x2048, .f32⟩
  | .hbm, ⟨25, _⟩ => ⟨S2048x5632, .f32⟩
  | .hbm, ⟨26, _⟩ => ⟨S2048x5632, .f32⟩
  | .hbm, ⟨27, _⟩ => ⟨S5632x2048, .f32⟩
  | .hbm, ⟨28, _⟩ => ⟨S16384x5632, .f32⟩
  | .hbm, ⟨29, _⟩ => ⟨S16384x5632, .f32⟩
  | .hbm, ⟨30, _⟩ => ⟨S16384x5632, .f32⟩
  | .hbm, ⟨31, _⟩ => ⟨S_, .f32⟩
  | .hbm, ⟨32, _⟩ => ⟨S16384x5632, .f32⟩
  | .hbm, ⟨33, _⟩ => ⟨S16384x5632, .f32⟩
  | .hbm, ⟨34, _⟩ => ⟨S_, .f32⟩
  | .hbm, ⟨35, _⟩ => ⟨S16384x5632, .f32⟩
  | .hbm, ⟨36, _⟩ => ⟨S16384x5632, .f32⟩
  | .hbm, ⟨37, _⟩ => ⟨S16384x5632, .f32⟩
  | .hbm, ⟨38, _⟩ => ⟨S16384x5632, .f32⟩
  | .hbm, ⟨39, _⟩ => ⟨S16384x5632, .f32⟩
  | .hbm, ⟨40, _⟩ => ⟨S16384x2048, .f32⟩
  | .hbm, ⟨41, _⟩ => ⟨S_, .f32⟩
  | .hbm, ⟨42, _⟩ => ⟨S16384x2048, .f32⟩
  | .hbm, ⟨43, _⟩ => ⟨S16384x2048, .f32⟩
  | .hbm, ⟨44, _⟩ => ⟨S16384x2048, .f32⟩
  | .hbm, ⟨45, _⟩ => ⟨S1x2048x5632, .f32⟩
  | .hbm, ⟨46, _⟩ => ⟨S2048x5632, .f32⟩
  | .hbm, ⟨47, _⟩ => ⟨S2048x5632, .bf16⟩
  | .hbm, ⟨48, _⟩ => ⟨S1x2048x5632, .f32⟩
  | .hbm, ⟨49, _⟩ => ⟨S2048x5632, .f32⟩
  | .hbm, ⟨50, _⟩ => ⟨S2048x5632, .bf16⟩
  | .hbm, ⟨51, _⟩ => ⟨S1x5632x2048, .f32⟩
  | .hbm, ⟨52, _⟩ => ⟨S5632x2048, .f32⟩
  | .hbm, ⟨53, _⟩ => ⟨S5632x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_2 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩

abbrev nD : Nat := 1
abbrev τ : Topo := Topo.v7x

variable {F : FTy → Type} [FloatOps F]
-- ==== Last.lean ====
abbrev S16384x2048 : Shape := ⟨2, ![16384, 2048]⟩
abbrev S4x1x2048 : Shape := ⟨3, ![4, 1, 2048]⟩
abbrev S2048x5632 : Shape := ⟨2, ![2048, 5632]⟩
abbrev S5632x2048 : Shape := ⟨2, ![5632, 2048]⟩
abbrev S2048 : Shape := ⟨1, ![2048]⟩
abbrev S1x2048 : Shape := ⟨2, ![1, 2048]⟩
abbrev S1024x2048 : Shape := ⟨2, ![1024, 2048]⟩
abbrev S1x1x2048 : Shape := ⟨3, ![1, 1, 2048]⟩
abbrev S2048x512 : Shape := ⟨2, ![2048, 512]⟩
abbrev S512x2048 : Shape := ⟨2, ![512, 2048]⟩
abbrev S1024 : Shape := ⟨1, ![1024]⟩
abbrev S1024x1 : Shape := ⟨2, ![1024, 1]⟩
abbrev S1024x512 : Shape := ⟨2, ![1024, 512]⟩

abbrev nBuf : Space → Nat
  | .hbm => 8
  | .vmem => 13
  | .smem => 0
  | _ => 0

abbrev bufTy : (tb : Table) → Fin (tcTables nBuf tb) → BufTy
  | .hbm, ⟨0, _⟩ => ⟨S16384x2048, .f32⟩
  | .hbm, ⟨1, _⟩ => ⟨S4x1x2048, .f32⟩
  | .hbm, ⟨2, _⟩ => ⟨S2048x5632, .bf16⟩
  | .hbm, ⟨3, _⟩ => ⟨S2048x5632, .bf16⟩
  | .hbm, ⟨4, _⟩ => ⟨S5632x2048, .bf16⟩
  | .hbm, ⟨5, _⟩ => ⟨S2048, .f32⟩
  | .hbm, ⟨6, _⟩ => ⟨S1x2048, .f32⟩
  | .hbm, ⟨7, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1x1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | .local _ .vmem, ⟨12, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== LastRefIdeal.lean ====
abbrev S16384x2048 : Shape := ⟨2, ![16384, 2048]⟩
abbrev S4x1x2048 : Shape := ⟨3, ![4, 1, 2048]⟩
abbrev S2048x5632 : Shape := ⟨2, ![2048, 5632]⟩
abbrev S5632x2048 : Shape := ⟨2, ![5632, 2048]⟩
abbrev S2048 : Shape := ⟨1, ![2048]⟩
abbrev S1x1x2048 : Shape := ⟨3, ![1, 1, 2048]⟩
abbrev S1x2048 : Shape := ⟨2, ![1, 2048]⟩
abbrev S_ : Shape := ⟨0, ![]⟩
abbrev S16384 : Shape := ⟨1, ![16384]⟩
abbrev S16384x1 : Shape := ⟨2, ![16384, 1]⟩
abbrev S16384x5632 : Shape := ⟨2, ![16384, 5632]⟩

abbrev nBuf : Space → Nat
  | .hbm => 59
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S4x1x2048, .f32⟩
  | .hbm, ⟨2, _⟩ => ⟨S2048x5632, .bf16⟩
  | .hbm, ⟨3, _⟩ => ⟨S2048x5632, .bf16⟩
  | .hbm, ⟨4, _⟩ => ⟨S5632x2048, .bf16⟩
  | .hbm, ⟨5, _⟩ => ⟨S2048, .f32⟩
  | .hbm, ⟨6, _⟩ => ⟨S1x1x2048, .f32⟩
  | .hbm, ⟨7, _⟩ => ⟨S1x2048, .f32⟩
  | .hbm, ⟨8, _⟩ => ⟨S16384x2048, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x2048, .f32⟩
  | .hbm, ⟨20, _⟩ => ⟨S16384x2048, .f32⟩
  | .hbm, ⟨21, _⟩ => ⟨S16384x2048, .f32⟩
  | .hbm, ⟨22, _⟩ => ⟨S16384x2048, .f32⟩
  | .hbm, ⟨23, _⟩ => ⟨S2048x5632, .f32⟩
  | .hbm, ⟨24, _⟩ => ⟨S2048x5632, .f32⟩
  | .hbm, ⟨25, _⟩ => ⟨S5632x2048, .f32⟩
  | .hbm, ⟨26, _⟩ => ⟨S16384x5632, .f32⟩
  | .hbm, ⟨27, _⟩ => ⟨S16384x5632, .f32⟩
  | .hbm, ⟨28, _⟩ => ⟨S16384x5632, .f32⟩
  | .hbm, ⟨29, _⟩ => ⟨S_, .f32⟩
  | .hbm, ⟨30, _⟩ => ⟨S16384x5632, .f32⟩
  | .hbm, ⟨31, _⟩ => ⟨S16384x5632, .f32⟩
  | .hbm, ⟨32, _⟩ => ⟨S_, .f32⟩
  | .hbm, ⟨33, _⟩ => ⟨S16384x5632, .f32⟩
  | .hbm, ⟨34, _⟩ => ⟨S16384x5632, .f32⟩
  | .hbm, ⟨35, _⟩ => ⟨S16384x5632, .f32⟩
  | .hbm, ⟨36, _⟩ => ⟨S16384x5632, .f32⟩
  | .hbm, ⟨37, _⟩ => ⟨S16384x5632, .f32⟩
  | .hbm, ⟨38, _⟩ => ⟨S16384x2048, .f32⟩
  | .hbm, ⟨39, _⟩ => ⟨S_, .f32⟩
  | .hbm, ⟨40, _⟩ => ⟨S16384x2048, .f32⟩
  | .hbm, ⟨41, _⟩ => ⟨S16384x2048, .f32⟩
  | .hbm, ⟨42, _⟩ => ⟨S16384x2048, .f32⟩
  | .hbm, ⟨43, _⟩ => ⟨S16384x2048, .f32⟩
  | .hbm, ⟨44, _⟩ => ⟨S_, .f32⟩
  | .hbm, ⟨45, _⟩ => ⟨S16384, .f32⟩
  | .hbm, ⟨46, _⟩ => ⟨S16384x1, .f32⟩
  | .hbm, ⟨47, _⟩ => ⟨S_, .f32⟩
  | .hbm, ⟨48, _⟩ => ⟨S16384x1, .f32⟩
  | .hbm, ⟨49, _⟩ => ⟨S16384x1, .f32⟩
  | .hbm, ⟨50, _⟩ => ⟨S_, .f32⟩
  | .hbm, ⟨51, _⟩ => ⟨S16384x1, .f32⟩
  | .hbm, ⟨52, _⟩ => ⟨S16384x1, .f32⟩
  | .hbm, ⟨53, _⟩ => ⟨S16384x1, .f32⟩
  | .hbm, ⟨54, _⟩ => ⟨S16384x2048, .f32⟩
  | .hbm, ⟨55, _⟩ => ⟨S16384x2048, .f32⟩
  | .hbm, ⟨56, _⟩ => ⟨S1x2048, .f32⟩
  | .hbm, ⟨57, _⟩ => ⟨S16384x2048, .f32⟩
  | .hbm, ⟨58, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_cst_5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩

abbrev nD : Nat := 1
abbrev τ : Topo := Topo.v7x

variable {F : FTy → Type} [FloatOps F]
-- ==== OddIn.lean ====
abbrev S16384x2048 : Shape := ⟨2, ![16384, 2048]⟩
abbrev S2048 : Shape := ⟨1, ![2048]⟩
abbrev S2x2048x10240 : Shape := ⟨3, ![2, 2048, 10240]⟩
abbrev S2x2048x128 : Shape := ⟨3, ![2, 2048, 128]⟩
abbrev S4x6144 : Shape := ⟨2, ![4, 6144]⟩
abbrev S6144 : Shape := ⟨1, ![6144]⟩
abbrev S1x2048 : Shape := ⟨2, ![1, 2048]⟩
abbrev S1x6144 : Shape := ⟨2, ![1, 6144]⟩
abbrev S16384x10240 : Shape := ⟨2, ![16384, 10240]⟩
abbrev S16384x128 : Shape := ⟨2, ![16384, 128]⟩
abbrev S1024x2048 : Shape := ⟨2, ![1024, 2048]⟩
abbrev S16x2048 : Shape := ⟨2, ![16, 2048]⟩
abbrev S1x2048x1024 : Shape := ⟨3, ![1, 2048, 1024]⟩
abbrev S1x2048x128 : Shape := ⟨3, ![1, 2048, 128]⟩
abbrev S4x1024 : Shape := ⟨2, ![4, 1024]⟩
abbrev S1x1024 : Shape := ⟨2, ![1, 1024]⟩
abbrev S1024x1024 : Shape := ⟨2, ![1024, 1024]⟩
abbrev S1024x128 : Shape := ⟨2, ![1024, 128]⟩
abbrev S1040x2048 : Shape := ⟨2, ![1040, 2048]⟩
abbrev S16 : Shape := ⟨1, ![16]⟩
abbrev S16x1 : Shape := ⟨2, ![16, 1]⟩
abbrev S1024 : Shape := ⟨1, ![1024]⟩
abbrev S1024x1 : Shape := ⟨2, ![1024, 1]⟩
abbrev S2048x128 : Shape := ⟨2, ![2048, 128]⟩
abbrev S2048x1024 : Shape := ⟨2, ![2048, 1024]⟩
abbrev S1040x1024 : Shape := ⟨2, ![1040, 1024]⟩
abbrev S16x1024 : Shape := ⟨2, ![16, 1024]⟩

abbrev nBuf : Space → Nat
  | .hbm => 10
  | .vmem => 17
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2x2048x10240, .bf16⟩
  | .hbm, ⟨3, _⟩ => ⟨S2x2048x128, .bf16⟩
  | .hbm, ⟨4, _⟩ => ⟨S4x6144, .f32⟩
  | .hbm, ⟨5, _⟩ => ⟨S6144, .f32⟩
  | .hbm, ⟨6, _⟩ => ⟨S1x2048, .f32⟩
  | .hbm, ⟨7, _⟩ => ⟨S1x6144, .f32⟩
  | .hbm, ⟨8, _⟩ => ⟨S16384x10240, .f32⟩
  | .hbm, ⟨9, _⟩ => ⟨S16384x128, .f32⟩
  | .local _ .vmem, ⟨0, _⟩ => ⟨S1024x2048, .f32⟩
  | .local _ .vmem, ⟨1, _⟩ => ⟨S1024x2048, .f32⟩
  | .local _ .vmem, ⟨2, _⟩ => ⟨S16x2048, .f32⟩
  | .local _ .vmem, ⟨3, _⟩ => ⟨S16x2048, .f32⟩
  | .local _ .vmem, ⟨4, _⟩ => ⟨S1x2048, .f32⟩
  | .local _ .vmem, ⟨5, _⟩ => ⟨S1x2048x1024, .bf16⟩
  | .local _ .vmem, ⟨6, _⟩ => ⟨S1x2048x1024, .bf16⟩
  | .local _ .vmem, ⟨7, _⟩ => ⟨S1x2048x128, .bf16⟩
  | .local _ .vmem, ⟨8, _⟩ => ⟨S4x1024, .f32⟩
  | .local _ .vmem, ⟨9, _⟩ => ⟨S4x1024, .f32⟩
  | .local _ .vmem, ⟨10, _⟩ => ⟨S1x1024, .f32⟩
  | .local _ .vmem, ⟨11, _⟩ => ⟨S1x1024, .f32⟩
  | .local _ .vmem, ⟨12, _⟩ => ⟨S1024x1024, .f32⟩
  | .local _ .vmem, ⟨13, _⟩ => ⟨S1024x1024, .f32⟩
  | .local _ .vmem, ⟨14, _⟩ => ⟨S1024x128, .f32⟩
  | .local _ .vmem, ⟨15, _⟩ => ⟨S1024x128, .f32⟩
  | .local _ .vmem, ⟨16, _⟩ => ⟨S1040x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![16, 10], ![false, false]⟩

def k0_cond2 (i : grid0.Coords) : BitVec 1 :=
  let arg1 : BitVec 32 := BitVec.ofNat 32 (i 1).val
  let c4_i32 : BitVec 32 := 4#32
  let v3 : BitVec 1 := Scalar.cmpi .slt arg1 c4_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c4_i32_2 : BitVec 32 := 4#32
  let v6 : BitVec 1 := Scalar.cmpi .sge arg1 c4_i32_2
  let v7 : BitVec 32 := Scalar.extui v6
  let c0_i32_3 : BitVec 32 := 0#32
  let v8 : BitVec 1 := Scalar.cmpi .ne v7 c0_i32_3
  v8

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S4x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== OddInRefIdeal.lean ====
abbrev S16384x2048 : Shape := ⟨2, ![16384, 2048]⟩
abbrev S2048 : Shape := ⟨1, ![2048]⟩
abbrev S2x2048x10240 : Shape := ⟨3, ![2, 2048, 10240]⟩
abbrev S2x2048x128 : Shape := ⟨3, ![2, 2048, 128]⟩
abbrev S4x6144 : Shape := ⟨2, ![4, 6144]⟩
abbrev S6144 : Shape := ⟨1, ![6144]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S1x2048x10240 : Shape := ⟨3, ![1, 2048, 10240]⟩
abbrev S2048x10240 : Shape := ⟨2, ![2048, 10240]⟩
abbrev S16384x10240 : Shape := ⟨2, ![16384, 10240]⟩
abbrev S16384x6144 : Shape := ⟨2, ![16384, 6144]⟩
abbrev S4x4096x6144 : Shape := ⟨3, ![4, 4096, 6144]⟩
abbrev S4x4099x6144 : Shape := ⟨3, ![4, 4099, 6144]⟩
abbrev S1x6144 : Shape := ⟨2, ![1, 6144]⟩
abbrev S1x1x6144 : Shape := ⟨3, ![1, 1, 6144]⟩
abbrev S16384x4096 : Shape := ⟨2, ![16384, 4096]⟩
abbrev S1x2048x128 : Shape := ⟨3, ![1, 2048, 128]⟩
abbrev S2048x128 : Shape := ⟨2, ![2048, 128]⟩
abbrev S16384x128 : Shape := ⟨2, ![16384, 128]⟩

abbrev nBuf : Space → Nat
  | .hbm => 77
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2x2048x10240, .bf16⟩
  | .hbm, ⟨3, _⟩ => ⟨S2x2048x128, .bf16⟩
  | .hbm, ⟨4, _⟩ => ⟨S4x6144, .f32⟩
  | .hbm, ⟨5, _⟩ => ⟨S6144, .f32⟩
  | .hbm, ⟨6, _⟩ => ⟨S16384x2048, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x2048, .f32⟩
  | .hbm, ⟨18, _⟩ => ⟨S16384x2048, .f32⟩
  | .hbm, ⟨19, _⟩ => ⟨S1x2048, .f32⟩
  | .hbm, ⟨20, _⟩ => ⟨S16384x2048, .f32⟩
  | .hbm, ⟨21, _⟩ => ⟨S16384x2048, .f32⟩
  | .hbm, ⟨22, _⟩ => ⟨S1x2048x10240, .bf16⟩
  | .hbm, ⟨23, _⟩ => ⟨S2048x10240, .bf16⟩
  | .hbm, ⟨24, _⟩ => ⟨S2048x10240, .f32⟩
  | .hbm, ⟨25, _⟩ => ⟨S16384x10240, .f32⟩
  | .hbm, ⟨26, _⟩ => ⟨S16384x6144, .f32⟩
  | .hbm, ⟨27, _⟩ => ⟨S4x4096x6144, .f32⟩
  | .hbm, ⟨28, _⟩ => ⟨S_, .i32⟩
  | .hbm, ⟨29, _⟩ => ⟨S_, .f32⟩
  | .hbm, ⟨30, _⟩ => ⟨S4x4099x6144, .f32⟩
  | .hbm, ⟨31, _⟩ => ⟨S1x6144, .f32⟩
  | .hbm, ⟨32, _⟩ => ⟨S6144, .f32⟩
  | .hbm, ⟨33, _⟩ => ⟨S4x4096x6144, .f32⟩
  | .hbm, ⟨34, _⟩ => ⟨S1x1x6144, .f32⟩
  | .hbm, ⟨35, _⟩ => ⟨S4x4096x6144, .f32⟩
  | .hbm, ⟨36, _⟩ => ⟨S4x4096x6144, .f32⟩
  | .hbm, ⟨37, _⟩ => ⟨S1x1x6144, .f32⟩
  | .hbm, ⟨38, _⟩ => ⟨S4x4096x6144, .f32⟩
  | .hbm, ⟨39, _⟩ => ⟨S4x4096x6144, .f32⟩
  | .hbm, ⟨40, _⟩ => ⟨S1x6144, .f32⟩
  | .hbm, ⟨41, _⟩ => ⟨S6144, .f32⟩
  | .hbm, ⟨42, _⟩ => ⟨S4x4096x6144, .f32⟩
  | .hbm, ⟨43, _⟩ => ⟨S1x1x6144, .f32⟩
  | .hbm, ⟨44, _⟩ => ⟨S4x4096x6144, .f32⟩
  | .hbm, ⟨45, _⟩ => ⟨S4x4096x6144, .f32⟩
  | .hbm, ⟨46, _⟩ => ⟨S4x4096x6144, .f32⟩
  | .hbm, ⟨47, _⟩ => ⟨S1x6144, .f32⟩
  | .hbm, ⟨48, _⟩ => ⟨S6144, .f32⟩
  | .hbm, ⟨49, _⟩ => ⟨S4x4096x6144, .f32⟩
  | .hbm, ⟨50, _⟩ => ⟨S1x1x6144, .f32⟩
  | .hbm, ⟨51, _⟩ => ⟨S4x4096x6144, .f32⟩
  | .hbm, ⟨52, _⟩ => ⟨S4x4096x6144, .f32⟩
  | .hbm, ⟨53, _⟩ => ⟨S4x4096x6144, .f32⟩
  | .hbm, ⟨54, _⟩ => ⟨S1x6144, .f32⟩
  | .hbm, ⟨55, _⟩ => ⟨S6144, .f32⟩
  | .hbm, ⟨56, _⟩ => ⟨S4x4096x6144, .f32⟩
  | .hbm, ⟨57, _⟩ => ⟨S1x1x6144, .f32⟩
  | .hbm, ⟨58, _⟩ => ⟨S4x4096x6144, .f32⟩
  | .hbm, ⟨59, _⟩ => ⟨S4x4096x6144, .f32⟩
  | .hbm, ⟨60, _⟩ => ⟨S4x4096x6144, .f32⟩
  | .hbm, ⟨61, _⟩ => ⟨S4x4096x6144, .f32⟩
  | .hbm, ⟨62, _⟩ => ⟨S4x4096x6144, .f32⟩
  | .hbm, ⟨63, _⟩ => ⟨S_, .f32⟩
  | .hbm, ⟨64, _⟩ => ⟨S4x4096x6144, .f32⟩
  | .hbm, ⟨65, _⟩ => ⟨S4x4096x6144, .f32⟩
  | .hbm, ⟨66, _⟩ => ⟨S_, .f32⟩
  | .hbm, ⟨67, _⟩ => ⟨S4x4096x6144, .f32⟩
  | .hbm, ⟨68, _⟩ => ⟨S4x4096x6144, .f32⟩
  | .hbm, ⟨69, _⟩ => ⟨S4x4096x6144, .f32⟩
  | .hbm, ⟨70, _⟩ => ⟨S16384x6144, .f32⟩
  | .hbm, ⟨71, _⟩ => ⟨S16384x4096, .f32⟩
  | .hbm, ⟨72, _⟩ => ⟨S16384x10240, .f32⟩
  | .hbm, ⟨73, _⟩ => ⟨S1x2048x128, .bf16⟩
  | .hbm, ⟨74, _⟩ => ⟨S2048x128, .bf16⟩
  | .hbm, ⟨75, _⟩ => ⟨S2048x128, .f32⟩
  | .hbm, ⟨76, _⟩ => ⟨S16384x128, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c : Ref sig .tc := ⟨.hbm, 28, rfl⟩
abbrev main_call0_v0 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_call1_v0 : Ref sig .tc := ⟨.hbm, 61, rfl⟩
abbrev main_call1_v1 : Ref sig .tc := ⟨.hbm, 62, rfl⟩
abbrev main_call1_cst : Ref sig .tc := ⟨.hbm, 63, rfl⟩
abbrev main_call1_v2 : Ref sig .tc := ⟨.hbm, 64, rfl⟩
abbrev main_call1_v3 : Ref sig .tc := ⟨.hbm, 65, rfl⟩
abbrev main_call1_cst_0 : Ref sig .tc := ⟨.hbm, 66, rfl⟩
abbrev main_call1_v4 : Ref sig .tc := ⟨.hbm, 67, rfl⟩
abbrev main_call1_v5 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩

abbrev nD : Nat := 1
abbrev τ : Topo := Topo.v7x

variable {F : FTy → Type} [FloatOps F]
-- ==== OddOut.lean ====
abbrev S16384x2048 : Shape := ⟨2, ![16384, 2048]⟩
abbrev S16384x4096 : Shape := ⟨2, ![16384, 4096]⟩
abbrev S2x4096x2048 : Shape := ⟨3, ![2, 4096, 2048]⟩
abbrev S512x2048 : Shape := ⟨2, ![512, 2048]⟩
abbrev S512x4096 : Shape := ⟨2, ![512, 4096]⟩
abbrev S1x4096x2048 : Shape := ⟨3, ![1, 4096, 2048]⟩
abbrev S4096x2048 : Shape := ⟨2, ![4096, 2048]⟩

abbrev nBuf : Space → Nat
  | .hbm => 4
  | .vmem => 7
  | .smem => 0
  | _ => 0

abbrev bufTy : (tb : Table) → Fin (tcTables nBuf tb) → BufTy
  | .hbm, ⟨0, _⟩ => ⟨S16384x2048, .f32⟩
  | .hbm, ⟨1, _⟩ => ⟨S16384x4096, .bf16⟩
  | .hbm, ⟨2, _⟩ => ⟨S2x4096x2048, .bf16⟩
  | .hbm, ⟨3, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x4096, .bf16⟩
  | .local _ .vmem, ⟨3, _⟩ => ⟨S512x4096, .bf16⟩
  | .local _ .vmem, ⟨4, _⟩ => ⟨S1x4096x2048, .bf16⟩
  | .local _ .vmem, ⟨5, _⟩ => ⟨S512x2048, .f32⟩
  | .local _ .vmem, ⟨6, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== OddOutRefIdeal.lean ====
abbrev S16384x2048 : Shape := ⟨2, ![16384, 2048]⟩
abbrev S16384x4096 : Shape := ⟨2, ![16384, 4096]⟩
abbrev S2x4096x2048 : Shape := ⟨3, ![2, 4096, 2048]⟩
abbrev S1x4096x2048 : Shape := ⟨3, ![1, 4096, 2048]⟩
abbrev S4096x2048 : Shape := ⟨2, ![4096, 2048]⟩

abbrev nBuf : Space → Nat
  | .hbm => 9
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x4096, .bf16⟩
  | .hbm, ⟨2, _⟩ => ⟨S2x4096x2048, .bf16⟩
  | .hbm, ⟨3, _⟩ => ⟨S16384x4096, .f32⟩
  | .hbm, ⟨4, _⟩ => ⟨S1x4096x2048, .bf16⟩
  | .hbm, ⟨5, _⟩ => ⟨S4096x2048, .bf16⟩
  | .hbm, ⟨6, _⟩ => ⟨S4096x2048, .f32⟩
  | .hbm, ⟨7, _⟩ => ⟨S16384x2048, .f32⟩
  | .hbm, ⟨8, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== EvenOut.lean ====
abbrev S16384x2048 : Shape := ⟨2, ![16384, 2048]⟩
abbrev S16384x1024 : Shape := ⟨2, ![16384, 1024]⟩
abbrev S2x2048x2048 : Shape := ⟨3, ![2, 2048, 2048]⟩
abbrev S512x2048 : Shape := ⟨2, ![512, 2048]⟩
abbrev S512x1024 : Shape := ⟨2, ![512, 1024]⟩
abbrev S1x1024x2048 : Shape := ⟨3, ![1, 1024, 2048]⟩
abbrev S1024x2048 : Shape := ⟨2, ![1024, 2048]⟩

abbrev nBuf : Space → Nat
  | .hbm => 5
  | .vmem => 10
  | .smem => 0
  | _ => 0

abbrev bufTy : (tb : Table) → Fin (tcTables nBuf tb) → BufTy
  | .hbm, ⟨0, _⟩ => ⟨S16384x2048, .f32⟩
  | .hbm, ⟨1, _⟩ => ⟨S16384x1024, .bf16⟩
  | .hbm, ⟨2, _⟩ => ⟨S16384x1024, .bf16⟩
  | .hbm, ⟨3, _⟩ => ⟨S2x2048x2048, .bf16⟩
  | .hbm, ⟨4, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S1x1024x2048, .bf16⟩
  | .local _ .vmem, ⟨5, _⟩ => ⟨S512x1024, .bf16⟩
  | .local _ .vmem, ⟨6, _⟩ => ⟨S512x1024, .bf16⟩
  | .local _ .vmem, ⟨7, _⟩ => ⟨S1x1024x2048, .bf16⟩
  | .local _ .vmem, ⟨8, _⟩ => ⟨S512x2048, .f32⟩
  | .local _ .vmem, ⟨9, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== EvenOutRefIdeal.lean ====
abbrev S16384x2048 : Shape := ⟨2, ![16384, 2048]⟩
abbrev S16384x1024 : Shape := ⟨2, ![16384, 1024]⟩
abbrev S2x2048x2048 : Shape := ⟨3, ![2, 2048, 2048]⟩
abbrev S1x2048x2048 : Shape := ⟨3, ![1, 2048, 2048]⟩
abbrev S2048x2048 : Shape := ⟨2, ![2048, 2048]⟩

abbrev nBuf : Space → Nat
  | .hbm => 12
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x1024, .bf16⟩
  | .hbm, ⟨2, _⟩ => ⟨S16384x1024, .bf16⟩
  | .hbm, ⟨3, _⟩ => ⟨S2x2048x2048, .bf16⟩
  | .hbm, ⟨4, _⟩ => ⟨S16384x1024, .f32⟩
  | .hbm, ⟨5, _⟩ => ⟨S16384x1024, .f32⟩
  | .hbm, ⟨6, _⟩ => ⟨S16384x2048, .f32⟩
  | .hbm, ⟨7, _⟩ => ⟨S1x2048x2048, .bf16⟩
  | .hbm, ⟨8, _⟩ => ⟨S2048x2048, .bf16⟩
  | .hbm, ⟨9, _⟩ => ⟨S2048x2048, .f32⟩
  | .hbm, ⟨10, _⟩ => ⟨S16384x2048, .f32⟩
  | .hbm, ⟨11, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== EvenIn.lean ====
abbrev S16384x2048 : Shape := ⟨2, ![16384, 2048]⟩
abbrev S4x4096 : Shape := ⟨2, ![4, 4096]⟩
abbrev S2048 : Shape := ⟨1, ![2048]⟩
abbrev S2x2048x2560 : Shape := ⟨3, ![2, 2048, 2560]⟩
abbrev S16384x1 : Shape := ⟨2, ![16384, 1]⟩
abbrev S16384x128 : Shape := ⟨2, ![16384, 128]⟩
abbrev S1x2048 : Shape := ⟨2, ![1, 2048]⟩
abbrev S8 : Shape := ⟨1, ![8]⟩
abbrev S_ : Shape := ⟨0, ![]⟩
abbrev S128 : Shape := ⟨1, ![128]⟩
abbrev S128x1 : Shape := ⟨2, ![128, 1]⟩
abbrev S1x128 : Shape := ⟨2, ![1, 128]⟩
abbrev S16384x1024 : Shape := ⟨2, ![16384, 1024]⟩
abbrev S16384x512 : Shape := ⟨2, ![16384, 512]⟩
abbrev S512x2048 : Shape := ⟨2, ![512, 2048]⟩
abbrev S1x2048x2560 : Shape := ⟨3, ![1, 2048, 2560]⟩
abbrev S512x128 : Shape := ⟨2, ![512, 128]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S1x2048x512 : Shape := ⟨3, ![1, 2048, 512]⟩
abbrev S2048x512 : Shape := ⟨2, ![2048, 512]⟩

abbrev nBuf : Space → Nat
  | .hbm => 82
  | .vmem => 16
  | .smem => 0
  | _ => 0

abbrev bufTy : (tb : Table) → Fin (tcTables nBuf tb) → BufTy
  | .hbm, ⟨0, _⟩ => ⟨S16384x2048, .f32⟩
  | .hbm, ⟨1, _⟩ => ⟨S4x4096, .i32⟩
  | .hbm, ⟨2, _⟩ => ⟨S2048, .f32⟩
  | .hbm, ⟨3, _⟩ => ⟨S2x2048x2560, .bf16⟩
  | .hbm, ⟨4, _⟩ => ⟨S16384x1, .i32⟩
  | .hbm, ⟨5, _⟩ => ⟨S16384x1, .f32⟩
  | .hbm, ⟨6, _⟩ => ⟨S16384x128, .f32⟩
  | .hbm, ⟨7, _⟩ => ⟨S1x2048, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S8, .f32⟩
  | .hbm, ⟨16, _⟩ => ⟨S128, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i1⟩
  | .hbm, ⟨21, _⟩ => ⟨S_, .i32⟩
  | .hbm, ⟨22, _⟩ => ⟨S_, .i32⟩
  | .hbm, ⟨23, _⟩ => ⟨S128, .i32⟩
  | .hbm, ⟨24, _⟩ => ⟨S128, .i32⟩
  | .hbm, ⟨25, _⟩ => ⟨S_, .i32⟩
  | .hbm, ⟨26, _⟩ => ⟨S128, .i32⟩
  | .hbm, ⟨27, _⟩ => ⟨S128, .i1⟩
  | .hbm, ⟨28, _⟩ => ⟨S_, .i32⟩
  | .hbm, ⟨29, _⟩ => ⟨S128, .i32⟩
  | .hbm, ⟨30, _⟩ => ⟨S128, .i1⟩
  | .hbm, ⟨31, _⟩ => ⟨S_, .i32⟩
  | .hbm, ⟨32, _⟩ => ⟨S_, .i1⟩
  | .hbm, ⟨33, _⟩ => ⟨S128, .i1⟩
  | .hbm, ⟨34, _⟩ => ⟨S128, .i1⟩
  | .hbm, ⟨35, _⟩ => ⟨S128, .i1⟩
  | .hbm, ⟨36, _⟩ => ⟨S128, .i32⟩
  | .hbm, ⟨37, _⟩ => ⟨S128, .i32⟩
  | .hbm, ⟨38, _⟩ => ⟨S128, .i32⟩
  | .hbm, ⟨39, _⟩ => ⟨S_, .i32⟩
  | .hbm, ⟨40, _⟩ => ⟨S128, .i32⟩
  | .hbm, ⟨41, _⟩ => ⟨S128, .i1⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i1⟩
  | .hbm, ⟨46, _⟩ => ⟨S_, .i32⟩
  | .hbm, ⟨47, _⟩ => ⟨S_, .i32⟩
  | .hbm, ⟨48, _⟩ => ⟨S128, .i32⟩
  | .hbm, ⟨49, _⟩ => ⟨S128, .i32⟩
  | .hbm, ⟨50, _⟩ => ⟨S_, .i32⟩
  | .hbm, ⟨51, _⟩ => ⟨S128, .i32⟩
  | .hbm, ⟨52, _⟩ => ⟨S128, .i1⟩
  | .hbm, ⟨53, _⟩ => ⟨S_, .i32⟩
  | .hbm, ⟨54, _⟩ => ⟨S128, .i32⟩
  | .hbm, ⟨55, _⟩ => ⟨S128, .i1⟩
  | .hbm, ⟨56, _⟩ => ⟨S_, .i32⟩
  | .hbm, ⟨57, _⟩ => ⟨S_, .i1⟩
  | .hbm, ⟨58, _⟩ => ⟨S128, .i1⟩
  | .hbm, ⟨59, _⟩ => ⟨S128, .i1⟩
  | .hbm, ⟨60, _⟩ => ⟨S128, .i1⟩
  | .hbm, ⟨61, _⟩ => ⟨S128, .i32⟩
  | .hbm, ⟨62, _⟩ => ⟨S128, .i32⟩
  | .hbm, ⟨63, _⟩ => ⟨S128, .i32⟩
  | .hbm, ⟨64, _⟩ => ⟨S_, .i32⟩
  | .hbm, ⟨65, _⟩ => ⟨S128, .i32⟩
  | .hbm, ⟨66, _⟩ => ⟨S128, .i1⟩
  | .hbm, ⟨67, _⟩ => ⟨S_, .i32⟩
  | .hbm, ⟨68, _⟩ => ⟨S128, .i32⟩
  | .hbm, ⟨69, _⟩ => ⟨S128, .i32⟩
  | .hbm, ⟨70, _⟩ => ⟨S128, .i32⟩
  | .hbm, ⟨71, _⟩ => ⟨S128x1, .i32⟩
  | .hbm, ⟨72, _⟩ => ⟨S128, .f32⟩
  | .hbm, ⟨73, _⟩ => ⟨S_, .f32⟩
  | .hbm, ⟨74, _⟩ => ⟨S_, .f32⟩
  | .hbm, ⟨75, _⟩ => ⟨S128, .f32⟩
  | .hbm, ⟨76, _⟩ => ⟨S128, .f32⟩
  | .hbm, ⟨77, _⟩ => ⟨S1x128, .f32⟩
  | .hbm, ⟨78, _⟩ => ⟨S16384x1024, .bf16⟩
  | .hbm, ⟨79, _⟩ => ⟨S16384x512, .bf16⟩
  | .hbm, ⟨80, _⟩ => ⟨S16384x512, .bf16⟩
  | .hbm, ⟨81, _⟩ => ⟨S16384x1024, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048x2560, .bf16⟩
  | .local _ .vmem, ⟨4, _⟩ => ⟨S512x128, .f32⟩
  | .local _ .vmem, ⟨5, _⟩ => ⟨S512x128, .f32⟩
  | .local _ .vmem, ⟨6, _⟩ => ⟨S1x128, .f32⟩
  | .local _ .vmem, ⟨7, _⟩ => ⟨S512x1024, .bf16⟩
  | .local _ .vmem, ⟨8, _⟩ => ⟨S512x1024, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x1024, .f32⟩
  | .local _ .vmem, ⟨14, _⟩ => ⟨S512x1024, .f32⟩
  | .local _ .vmem, ⟨15, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_call0_v0 : Ref sig .tc := ⟨.hbm, 18, rfl⟩
abbrev main_call0_c : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_c_1 : Ref sig .tc := ⟨.hbm, 25, rfl⟩
abbrev main_call0_v5 : Ref sig .tc := ⟨.hbm, 26, rfl⟩
abbrev main_call0_v6 : Ref sig .tc := ⟨.hbm, 27, rfl⟩
abbrev main_call0_c_2 : Ref sig .tc := ⟨.hbm, 28, rfl⟩
abbrev main_call0_v7 : Ref sig .tc := ⟨.hbm, 29, rfl⟩
abbrev main_call0_v8 : Ref sig .tc := ⟨.hbm, 30, rfl⟩
abbrev main_call0_c_3 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_v11 : Ref sig .tc := ⟨.hbm, 38, rfl⟩
abbrev main_c_1 : Ref sig .tc := ⟨.hbm, 39, rfl⟩
abbrev main_v12 : Ref sig .tc := ⟨.hbm, 40, rfl⟩
abbrev main_v13 : Ref sig .tc := ⟨.hbm, 41, rfl⟩
abbrev main_c_2 : Ref sig .tc := ⟨.hbm, 42, rfl⟩
abbrev main_call1_v0 : Ref sig .tc := ⟨.hbm, 43, rfl⟩
abbrev main_call1_c : Ref sig .tc := ⟨.hbm, 44, rfl⟩
abbrev main_call1_v1 : Ref sig .tc := ⟨.hbm, 45, rfl⟩
abbrev main_call1_c_0 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_c_1 : Ref sig .tc := ⟨.hbm, 50, rfl⟩
abbrev main_call1_v5 : Ref sig .tc := ⟨.hbm, 51, rfl⟩
abbrev main_call1_v6 : Ref sig .tc := ⟨.hbm, 52, rfl⟩
abbrev main_call1_c_2 : Ref sig .tc := ⟨.hbm, 53, rfl⟩
abbrev main_call1_v7 : Ref sig .tc := ⟨.hbm, 54, rfl⟩
abbrev main_call1_v8 : Ref sig .tc := ⟨.hbm, 55, rfl⟩
abbrev main_call1_c_3 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_v12 : Ref sig .tc := ⟨.hbm, 60, rfl⟩
abbrev main_call1_v13 : Ref sig .tc := ⟨.hbm, 61, rfl⟩
abbrev main_call1_v14 : Ref sig .tc := ⟨.hbm, 62, rfl⟩
abbrev main_v14 : Ref sig .tc := ⟨.hbm, 63, rfl⟩
abbrev main_c_3 : Ref sig .tc := ⟨.hbm, 64, rfl⟩
abbrev main_v15 : Ref sig .tc := ⟨.hbm, 65, rfl⟩
abbrev main_v16 : Ref sig .tc := ⟨.hbm, 66, rfl⟩
abbrev main_c_4 : Ref sig .tc := ⟨.hbm, 67, rfl⟩
abbrev main_v17 : Ref sig .tc := ⟨.hbm, 68, rfl⟩
abbrev main_v18 : Ref sig .tc := ⟨.hbm, 69, rfl⟩
abbrev main_v19 : Ref sig .tc := ⟨.hbm, 70, rfl⟩
abbrev main_v20 : Ref sig .tc := ⟨.hbm, 71, rfl⟩
abbrev main_v21 : Ref sig .tc := ⟨.hbm, 72, rfl⟩
abbrev main_cst_5 : Ref sig .tc := ⟨.hbm, 73, rfl⟩
abbrev main_call2_v0 : Ref sig .tc := ⟨.hbm, 74, rfl⟩
abbrev main_call2_v1 : Ref sig .tc := ⟨.hbm, 75, rfl⟩
abbrev main_v22 : Ref sig .tc := ⟨.hbm, 76, rfl⟩
abbrev main_v23 : Ref sig .tc := ⟨.hbm, 77, rfl⟩
abbrev main_v24_0 : Ref sig .tc := ⟨.hbm, 78, rfl⟩
abbrev main_v24_1 : Ref sig .tc := ⟨.hbm, 79, rfl⟩
abbrev main_v24_2 : Ref sig .tc := ⟨.hbm, 80, rfl⟩
abbrev main_v24_3 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== EvenInRefIdeal.lean ====
abbrev S16384x2048 : Shape := ⟨2, ![16384, 2048]⟩
abbrev S4x4096 : Shape := ⟨2, ![4, 4096]⟩
abbrev S2048 : Shape := ⟨1, ![2048]⟩
abbrev S2x2048x2560 : Shape := ⟨3, ![2, 2048, 2560]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S1x2048x2560 : Shape := ⟨3, ![1, 2048, 2560]⟩
abbrev S2048x2560 : Shape := ⟨2, ![2048, 2560]⟩
abbrev S16384x2560 : Shape := ⟨2, ![16384, 2560]⟩
abbrev S4x4096x2560 : Shape := ⟨3, ![4, 4096, 2560]⟩
abbrev S4x4096x1024 : Shape := ⟨3, ![4, 4096, 1024]⟩
abbrev S4x4096x16x64 : Shape := ⟨4, ![4, 4096, 16, 64]⟩
abbrev S4x4096x256 : Shape := ⟨3, ![4, 4096, 256]⟩
abbrev S4x4096x4x64 : Shape := ⟨4, ![4, 4096, 4, 64]⟩
abbrev S8 : Shape := ⟨1, ![8]⟩
abbrev S4x4096x1 : Shape := ⟨3, ![4, 4096, 1]⟩
abbrev S1x1x8 : Shape := ⟨3, ![1, 1, 8]⟩
abbrev S4x4096x8 : Shape := ⟨3, ![4, 4096, 8]⟩
abbrev S4x4096x1x8 : Shape := ⟨4, ![4, 4096, 1, 8]⟩
abbrev S4x4096x16x8 : Shape := ⟨4, ![4, 4096, 16, 8]⟩
abbrev S4x4096x16x48 : Shape := ⟨4, ![4, 4096, 16, 48]⟩
abbrev S4x4096x4x8 : Shape := ⟨4, ![4, 4096, 4, 8]⟩
abbrev S4x4096x4x48 : Shape := ⟨4, ![4, 4096, 4, 48]⟩
abbrev S16384x1024 : Shape := ⟨2, ![16384, 1024]⟩
abbrev S4x4096x4x128 : Shape := ⟨4, ![4, 4096, 4, 128]⟩
abbrev S16384x512 : Shape := ⟨2, ![16384, 512]⟩

abbrev nBuf : Space → Nat
  | .hbm => 105
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S4x4096, .i32⟩
  | .hbm, ⟨2, _⟩ => ⟨S2048, .f32⟩
  | .hbm, ⟨3, _⟩ => ⟨S2x2048x2560, .bf16⟩
  | .hbm, ⟨4, _⟩ => ⟨S16384x2048, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x2048, .f32⟩
  | .hbm, ⟨16, _⟩ => ⟨S16384x2048, .f32⟩
  | .hbm, ⟨17, _⟩ => ⟨S1x2048, .f32⟩
  | .hbm, ⟨18, _⟩ => ⟨S16384x2048, .f32⟩
  | .hbm, ⟨19, _⟩ => ⟨S16384x2048, .f32⟩
  | .hbm, ⟨20, _⟩ => ⟨S1x2048x2560, .bf16⟩
  | .hbm, ⟨21, _⟩ => ⟨S2048x2560, .bf16⟩
  | .hbm, ⟨22, _⟩ => ⟨S2048x2560, .f32⟩
  | .hbm, ⟨23, _⟩ => ⟨S16384x2560, .f32⟩
  | .hbm, ⟨24, _⟩ => ⟨S4x4096x2560, .f32⟩
  | .hbm, ⟨25, _⟩ => ⟨S4x4096x1024, .f32⟩
  | .hbm, ⟨26, _⟩ => ⟨S4x4096x16x64, .f32⟩
  | .hbm, ⟨27, _⟩ => ⟨S4x4096x256, .f32⟩
  | .hbm, ⟨28, _⟩ => ⟨S4x4096x4x64, .f32⟩
  | .hbm, ⟨29, _⟩ => ⟨S4x4096x256, .f32⟩
  | .hbm, ⟨30, _⟩ => ⟨S4x4096x4x64, .f32⟩
  | .hbm, ⟨31, _⟩ => ⟨S4x4096x1024, .f32⟩
  | .hbm, ⟨32, _⟩ => ⟨S8, .f32⟩
  | .hbm, ⟨33, _⟩ => ⟨S_, .f32⟩
  | .hbm, ⟨34, _⟩ => ⟨S8, .f32⟩
  | .hbm, ⟨35, _⟩ => ⟨S8, .f32⟩
  | .hbm, ⟨36, _⟩ => ⟨S_, .f32⟩
  | .hbm, ⟨37, _⟩ => ⟨S8, .f32⟩
  | .hbm, ⟨38, _⟩ => ⟨S8, .f32⟩
  | .hbm, ⟨39, _⟩ => ⟨S8, .f32⟩
  | .hbm, ⟨40, _⟩ => ⟨S4x4096, .f32⟩
  | .hbm, ⟨41, _⟩ => ⟨S4x4096x1, .f32⟩
  | .hbm, ⟨42, _⟩ => ⟨S1x1x8, .f32⟩
  | .hbm, ⟨43, _⟩ => ⟨S4x4096x8, .f32⟩
  | .hbm, ⟨44, _⟩ => ⟨S4x4096x8, .f32⟩
  | .hbm, ⟨45, _⟩ => ⟨S4x4096x8, .f32⟩
  | .hbm, ⟨46, _⟩ => ⟨S4x4096x8, .f32⟩
  | .hbm, ⟨47, _⟩ => ⟨S4x4096x1x8, .f32⟩
  | .hbm, ⟨48, _⟩ => ⟨S4x4096x8, .f32⟩
  | .hbm, ⟨49, _⟩ => ⟨S4x4096x1x8, .f32⟩
  | .hbm, ⟨50, _⟩ => ⟨S4x4096x16x8, .f32⟩
  | .hbm, ⟨51, _⟩ => ⟨S4x4096x16x8, .f32⟩
  | .hbm, ⟨52, _⟩ => ⟨S4x4096x16x8, .f32⟩
  | .hbm, ⟨53, _⟩ => ⟨S4x4096x16x8, .f32⟩
  | .hbm, ⟨54, _⟩ => ⟨S4x4096x16x8, .f32⟩
  | .hbm, ⟨55, _⟩ => ⟨S4x4096x16x8, .f32⟩
  | .hbm, ⟨56, _⟩ => ⟨S4x4096x16x8, .f32⟩
  | .hbm, ⟨57, _⟩ => ⟨S4x4096x16x8, .f32⟩
  | .hbm, ⟨58, _⟩ => ⟨S4x4096x16x8, .f32⟩
  | .hbm, ⟨59, _⟩ => ⟨S4x4096x16x8, .f32⟩
  | .hbm, ⟨60, _⟩ => ⟨S4x4096x16x8, .f32⟩
  | .hbm, ⟨61, _⟩ => ⟨S4x4096x16x8, .f32⟩
  | .hbm, ⟨62, _⟩ => ⟨S4x4096x16x48, .f32⟩
  | .hbm, ⟨63, _⟩ => ⟨S4x4096x16x64, .f32⟩
  | .hbm, ⟨64, _⟩ => ⟨S8, .f32⟩
  | .hbm, ⟨65, _⟩ => ⟨S_, .f32⟩
  | .hbm, ⟨66, _⟩ => ⟨S8, .f32⟩
  | .hbm, ⟨67, _⟩ => ⟨S8, .f32⟩
  | .hbm, ⟨68, _⟩ => ⟨S_, .f32⟩
  | .hbm, ⟨69, _⟩ => ⟨S8, .f32⟩
  | .hbm, ⟨70, _⟩ => ⟨S8, .f32⟩
  | .hbm, ⟨71, _⟩ => ⟨S8, .f32⟩
  | .hbm, ⟨72, _⟩ => ⟨S4x4096, .f32⟩
  | .hbm, ⟨73, _⟩ => ⟨S4x4096x1, .f32⟩
  | .hbm, ⟨74, _⟩ => ⟨S1x1x8, .f32⟩
  | .hbm, ⟨75, _⟩ => ⟨S4x4096x8, .f32⟩
  | .hbm, ⟨76, _⟩ => ⟨S4x4096x8, .f32⟩
  | .hbm, ⟨77, _⟩ => ⟨S4x4096x8, .f32⟩
  | .hbm, ⟨78, _⟩ => ⟨S4x4096x8, .f32⟩
  | .hbm, ⟨79, _⟩ => ⟨S4x4096x1x8, .f32⟩
  | .hbm, ⟨80, _⟩ => ⟨S4x4096x8, .f32⟩
  | .hbm, ⟨81, _⟩ => ⟨S4x4096x1x8, .f32⟩
  | .hbm, ⟨82, _⟩ => ⟨S4x4096x4x8, .f32⟩
  | .hbm, ⟨83, _⟩ => ⟨S4x4096x4x8, .f32⟩
  | .hbm, ⟨84, _⟩ => ⟨S4x4096x4x8, .f32⟩
  | .hbm, ⟨85, _⟩ => ⟨S4x4096x4x8, .f32⟩
  | .hbm, ⟨86, _⟩ => ⟨S4x4096x4x8, .f32⟩
  | .hbm, ⟨87, _⟩ => ⟨S4x4096x4x8, .f32⟩
  | .hbm, ⟨88, _⟩ => ⟨S4x4096x4x8, .f32⟩
  | .hbm, ⟨89, _⟩ => ⟨S4x4096x4x8, .f32⟩
  | .hbm, ⟨90, _⟩ => ⟨S4x4096x4x8, .f32⟩
  | .hbm, ⟨91, _⟩ => ⟨S4x4096x4x8, .f32⟩
  | .hbm, ⟨92, _⟩ => ⟨S4x4096x4x8, .f32⟩
  | .hbm, ⟨93, _⟩ => ⟨S4x4096x4x8, .f32⟩
  | .hbm, ⟨94, _⟩ => ⟨S4x4096x4x48, .f32⟩
  | .hbm, ⟨95, _⟩ => ⟨S4x4096x4x64, .f32⟩
  | .hbm, ⟨96, _⟩ => ⟨S16384x1024, .f32⟩
  | .hbm, ⟨97, _⟩ => ⟨S16384x1024, .bf16⟩
  | .hbm, ⟨98, _⟩ => ⟨S4x4096x4x128, .f32⟩
  | .hbm, ⟨99, _⟩ => ⟨S16384x512, .f32⟩
  | .hbm, ⟨100, _⟩ => ⟨S16384x512, .bf16⟩
  | .hbm, ⟨101, _⟩ => ⟨S4x4096x4x128, .f32⟩
  | .hbm, ⟨102, _⟩ => ⟨S16384x512, .f32⟩
  | .hbm, ⟨103, _⟩ => ⟨S16384x512, .bf16⟩
  | .hbm, ⟨104, _⟩ => ⟨S16384x1024, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_2 : Ref sig .tc := ⟨.hbm, 33, rfl⟩
abbrev main_v26 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_cst_4 : Ref sig .tc := ⟨.hbm, 65, rfl⟩
abbrev main_v56 : Ref sig .tc := ⟨.hbm, 66, rfl⟩
abbrev main_v57 : Ref sig .tc := ⟨.hbm, 67, rfl⟩
abbrev main_cst_5 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩

abbrev nD : Nat := 1
abbrev τ : Topo := Topo.v7x

variable {F : FTy → Type} [FloatOps F]
-- ==== Proof.FfnStep.lean ====
/-
  What one grid point of the feed-forward kernel leaves in its outputs and in its carry, as the kernel's pure
  computations on the blocks it is given: at the first point of a row block and at the ones after.
-/
module

public import proofs.«01_k».proof.Proof.Gen.FfnIdeal.Frame
public import Idealize.ShloMosaic.Lib.Tactic
public import Idealize.ShloMosaic.Lib.Pipeline.Value

@[expose] public section

noncomputable section

namespace Cert.FfnIdeal.Step

open Cert.FfnIdeal Cert.FfnIdeal.Gen Idealize.ShloMosaic

variable {F : FTy → Type} [FloatOps F] (c : Dev nD) (i : grid0.Coords)
  (arg2 : Memref sig .tc .vmem S1024x2048 .f32) (harg2 : arg2.IsWhole)
  (arg3 : Memref sig .tc .vmem S1x1x2048 .f32) (harg3 : arg3.IsWhole)
  (arg4 : Memref sig .tc .vmem S2048x512 .bf16) (harg4 : arg4.IsWhole)
  (arg5 : Memref sig .tc .vmem S2048x512 .bf16) (harg5 : arg5.IsWhole)
  (arg6 : Memref sig .tc .vmem S512x2048 .bf16) (harg6 : arg6.IsWhole)
  (arg7 : Memref sig .tc .vmem S1x128x512 .f32) (harg7 : arg7.IsWhole)
  (arg8 : Memref sig .tc .vmem S1x128x512 .f32) (harg8 : arg8.IsWhole)
  (arg9 : Memref sig .tc .vmem S1x512x128 .f32) (harg9 : arg9.IsWhole)
  (arg10 : Memref sig .tc .vmem S1024x2048 .f32) (harg10 : arg10.IsWhole)
  (arg11 : Memref sig .tc .vmem S128x512 .bf16) (harg11 : arg11.IsWhole)
  (arg12 : Memref sig .tc .vmem S128x512 .bf16) (harg12 : arg12.IsWhole)
  (arg13 : Memref sig .tc .vmem S512x128 .bf16) (harg13 : arg13.IsWhole)
  (arg14 : Memref sig .tc .vmem S1024x2048 .bf16) (harg14 : arg14.IsWhole)
  (x0 : Vec F S1024x2048 .f32) (x1 : Vec F S1x1x2048 .f32) (x2 : Vec F S2048x512 .bf16) (x3 : Vec F S2048x512 .bf16) (x4 : Vec F S512x2048 .bf16)
  (x5 : Vec F S1x128x512 .f32) (x6 : Vec F S1x128x512 .f32) (x7 : Vec F S1x512x128 .f32) (xo8 : Vec F S1024x2048 .f32) (xs0 : Vec F S1024x2048 .bf16)

theorem origin2 : (![0, 0] : Fin 2 → Nat) = fun _ => 0 := funext (by decide)

theorem origin3 : (![0, 0, 0] : Fin 3 → Nat) = fun _ => 0 := funext (by decide)

/-- The accumulator after a first point. -/
theorem out0_A_8_eq (hc0 : cond0_0 i) :
    out0_A_8 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7
      = k0_pay1 (k0_pay6 (k0_pay5 x0 x1) x2 x3) x0 x4 := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7)]
  unfold kernelRun0_A
  dsimp only
  sl_unfold_words
  rw [View.canon_cons_unit_zero (S := S1024x2048) origin2]
  simp only [View.readAt_eq_ld, harg2.read_unread, harg3.read_unread, harg4.read_unread, harg5.read_unread,
    harg6.read_unread, harg10.read_unread, harg14.read_unread, View.ld_unit_zero (S := S1024x2048) origin2,
    View.ld_unit_zero (S := S2048x512) origin2, View.ld_unit_zero (S := S512x2048) origin2,
    View.ld_unit_zero (S := S1x1x2048) origin3, shapeCast_self]
  rw [View.readCov_unit_zero (S := S1024x2048) _ origin2, View.readCov_unit_zero (S := S1024x2048) _ origin2]

/-- The tile of the next gate weights after a first point. -/
theorem out0_A_9_eq (hc0 : cond0_0 i) :
    out0_A_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7
      = k0_pay2 x5 := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7)]
  unfold kernelRun0_A
  dsimp only
  sl_unfold_words
  rw [View.canon_unit_zero origin2]
  simp only [View.readAt_eq_ld, harg7.read_unread, View.ld_unit_zero (S := S1x128x512) origin3]

/-- The tile of the next up weights after a first point. -/
theorem out0_A_10_eq (hc0 : cond0_0 i) :
    out0_A_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7
      = k0_pay3 x6 := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7)]
  unfold kernelRun0_A
  dsimp only
  sl_unfold_words
  rw [View.canon_unit_zero origin2]
  simp only [View.readAt_eq_ld, harg8.read_unread, View.ld_unit_zero (S := S1x128x512) origin3]

/-- The tile of the next down weights after a first point. -/
theorem out0_A_11_eq (hc0 : cond0_0 i) :
    out0_A_11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7
      = k0_pay4 x7 := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7)]
  unfold kernelRun0_A
  dsimp only
  sl_unfold_words
  rw [View.canon_unit_zero origin2]
  simp only [View.readAt_eq_ld, harg9.read_unread, View.ld_unit_zero (S := S1x512x128) origin3]

/-- The accumulator after a later point. -/
theorem out0_B_8_eq (hc0 : ¬ cond0_0 i) :
    out0_B_8 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo8 xs0
      = k0_pay1 (k0_pay6 xs0 x2 x3) xo8 x4 := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo8 xs0)]
  unfold kernelRun0_B
  dsimp only
  sl_unfold_words
  rw [View.canon_cons_unit_zero (S := S1024x2048) origin2]
  simp only [View.readAt_eq_ld, harg2.read_unread, harg3.read_unread, harg4.read_unread, harg5.read_unread,
    harg6.read_unread, harg10.read_unread, harg14.read_unread, View.ld_unit_zero (S := S1024x2048) origin2,
    View.ld_unit_zero (S := S2048x512) origin2, View.ld_unit_zero (S := S512x2048) origin2,
    View.ld_unit_zero (S := S1x1x2048) origin3, shapeCast_self]

/-- The tile of the next gate weights after a later point. -/
theorem out0_B_9_eq (hc0 : ¬ cond0_0 i) :
    out0_B_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo8 xs0
      = k0_pay2 x5 := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo8 xs0)]
  unfold kernelRun0_B
  dsimp only
  sl_unfold_words
  rw [View.canon_unit_zero origin2]
  simp only [View.readAt_eq_ld, harg7.read_unread, View.ld_unit_zero (S := S1x128x512) origin3]

/-- The tile of the next up weights after a later point. -/
theorem out0_B_10_eq (hc0 : ¬ cond0_0 i) :
    out0_B_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo8 xs0
      = k0_pay3 x6 := by
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo8 xs0)]
  unfold kernelRun0_B
  dsimp only
  sl_unfold_words
  rw [View.canon_unit_zero origin2]
  simp only [View.readAt_eq_ld, harg8.read_unread, View.ld_unit_zero (S := S1x128x512) origin3]

/-- The tile of the next down weights after a later point. -/
theorem out0_B_11_eq (hc0 : ¬ cond0_0 i) :
    out0_B_11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo8 xs0
      = k0_pay4 x7 := by
  unfold out0_B_11
  rw [View.read_writes_eq_canon _ _ _ (cover0_B_11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo8 xs0)]
  unfold kernelRun0_B
  dsimp only
  sl_unfold_words
  rw [View.canon_unit_zero origin2]
  simp only [View.readAt_eq_ld, harg9.read_unread, View.ld_unit_zero (S := S1x512x128) origin3]

/-- The carried normalized rows after a first point. -/
theorem sout0_A_0_eq (hc0 : cond0_0 i) :
    sout0_A_0 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7
      = k0_pay5 x0 x1 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7)]
  unfold kernelRun0_A
  dsimp only
  sl_unfold_words
  rw [View.canon_cons_unit_zero (S := S1024x2048) origin2]
  simp only [View.readAt_eq_ld, harg2.read_unread, harg3.read_unread, harg4.read_unread, harg5.read_unread,
    harg6.read_unread, harg10.read_unread, harg14.read_unread, View.ld_unit_zero (S := S1024x2048) origin2,
    View.ld_unit_zero (S := S2048x512) origin2, View.ld_unit_zero (S := S512x2048) origin2,
    View.ld_unit_zero (S := S1x1x2048) origin3, shapeCast_self]

end Cert.FfnIdeal.Step

end
-- ==== Proof.FfnPay.lean ====
/-
  What the feed-forward kernel's pure computations are worth at an index, over the extended reals: the normalized
  row block, one stretch of 512 hidden columns, the accumulation step, and the three weight tiles it copies.
-/
module

public import proofs.«01_k».proof.Proof.Gen.FfnIdeal.Skeleton
public import Idealize.ShloMosaic.Lib.Pointwise

@[expose] public section

noncomputable section

namespace Cert.FfnIdeal.Pay

open Cert.FfnIdeal Cert.FfnIdeal.Gen Idealize.ShloMosaic

/-- A row of the block, normalized by its root mean square. -/
theorem pay5_apply (x : Vec Ideal S1024x2048 .f32) (g : Vec Ideal S1x1x2048 .f32) (r : Fin 1024) (k : Fin 2048) :
    k0_pay5 x g (ix2 r k)
      = x (ix2 r k) * Ideal.rsqrt (Ideal.div (∑ k', x (ix2 r k') * x (ix2 r k')) (Ideal.ofBits .f32 0x45000000#32)
          + Ideal.ofBits .f32 0x3727C5AC#32) * g (ix3 0 0 k) := by
  pointwise [k0_pay5]

/-- A hidden unit of the stretch, halved. -/
theorem pay6_apply (xn : Vec Ideal S1024x2048 .bf16) (wg wu : Vec Ideal S2048x512 .bf16) (r : Fin 1024) (k : Fin 512) :
    k0_pay6 xn wg wu (ix2 r k)
      = (∑ x, xn (ix2 r x) * wg (ix2 x k)) * Ideal.logistic (∑ x, xn (ix2 r x) * wg (ix2 x k))
          * (∑ x, xn (ix2 r x) * wu (ix2 x k)) * Ideal.ofBits .f32 0x3F000000#32 := by
  pointwise [k0_pay6]

/-- The accumulator takes the image of the stretch. -/
theorem pay1_apply (h : Vec Ideal S1024x512 .bf16) (o : Vec Ideal S1024x2048 .f32) (wd : Vec Ideal S512x2048 .bf16) (r : Fin 1024) (k : Fin 2048) :
    k0_pay1 h o wd (ix2 r k)
      = o (ix2 r k) + ∑ x, h (ix2 r x) * wd (ix2 x k) := by
  pointwise [k0_pay1]

/-- The tile of the next gate weights, copied. -/
theorem pay2_apply (w : Vec Ideal S1x128x512 .f32) (r : Fin 128) (k : Fin 512) :
    k0_pay2 w (ix2 r k) = w (ix3 0 r k) := by
  pointwise [k0_pay2]

/-- The tile of the next up weights, copied. -/
theorem pay3_apply (w : Vec Ideal S1x128x512 .f32) (r : Fin 128) (k : Fin 512) :
    k0_pay3 w (ix2 r k) = w (ix3 0 r k) := by
  pointwise [k0_pay3]

/-- The tile of the next down weights, copied. -/
theorem pay4_apply (w : Vec Ideal S1x512x128 .f32) (r : Fin 512) (k : Fin 128) :
    k0_pay4 w (ix2 r k) = w (ix3 0 r k) := by
  pointwise [k0_pay4]

end Cert.FfnIdeal.Pay

end
-- ==== Proof.FfnPoint.lean ====
/-
  One grid point of the feed-forward kernel, on the blocks of its arguments. Point `t` is row block `t / 11` and hidden
  stretch `t % 11`; each block is read at an index as the argument it is cut from.
-/
module

public import proofs.«01_k».proof.Proof.FfnStep
public import proofs.«01_k».proof.Proof.FfnPay
public import Idealize.ShloMosaic.Lib.Pipeline.ValueKit

@[expose] public section

set_option maxRecDepth 16384

noncomputable section

namespace Cert.FfnIdeal.Point

open Cert.FfnIdeal Cert.FfnIdeal.Gen Cert.FfnIdeal.Step Idealize.ShloMosaic Idealize.ShloMosaic.TcCoe

/-- The block indices of the windows, decided over the grid. -/
theorem places : ∀ t : Fin cfg0.N,
    win0_0.index t = ![t.val / 11, 0] ∧ win0_1.index t = ![0, 0, 0] ∧ win0_2.index t = ![0, t.val % 11]
      ∧ win0_3.index t = ![0, t.val % 11] ∧ win0_4.index t = ![t.val % 11, 0]
      ∧ win0_5.index t = ![0, t.val / 11, t.val % 11] ∧ win0_6.index t = ![0, t.val / 11, t.val % 11]
      ∧ win0_7.index t = ![0, t.val % 11, t.val / 11] :=
  (by decide +kernel : ∀ t : Fin grid0.N, _)

theorem points : cfg0.N = 176 := N_0

variable {F : FTy → Type} [FloatOps F] (m : (ℓ : Loc nD τ sig) → Buf (Elt F) ℓ) (c : Dev nD) (t : Fin cfg0.N)

/-- What the outputs and the carry hold after a first point of a row block. -/
theorem outs_first (h0 : t.val % 11 = 0) :
    outsAt0 m c t.val t.isLt
      = (k0_pay1 (k0_pay6 (k0_pay5 (iblk m c 0 t) (iblk m c 1 t)) (iblk m c 2 t) (iblk m c 3 t)) (iblk m c 0 t) (iblk m c 4 t),
          k0_pay2 (iblk m c 5 t), k0_pay3 (iblk m c 6 t), k0_pay4 (iblk m c 7 t),
          k0_pay5 (iblk m c 0 t) (iblk m c 1 t)) := by
  rw [outsAt0_A m c t h0, out0_A_8_eq, out0_A_9_eq, out0_A_10_eq, out0_A_11_eq, sout0_A_0_eq]

/-- What they hold after a later point, over what the point before left. -/
theorem outs_later (h0 : ¬ t.val % 11 = 0) (o : Vec F S1024x2048 .f32) (xn : Vec F S1024x2048 .bf16)
    (ho : (outsAt0 m c (t.val - 1) (Nat.lt_of_le_of_lt (Nat.sub_le _ _) t.isLt)).1 = o)
    (hx : (outsAt0 m c (t.val - 1) (Nat.lt_of_le_of_lt (Nat.sub_le _ _) t.isLt)).2.2.2.2 = xn) :
    outsAt0 m c t.val t.isLt
      = (k0_pay1 (k0_pay6 xn (iblk m c 2 t) (iblk m c 3 t)) o (iblk m c 4 t),
          k0_pay2 (iblk m c 5 t), k0_pay3 (iblk m c 6 t), k0_pay4 (iblk m c 7 t), xn) := by
  rw [outsAt0_B m c t h0, out0_B_8_eq, out0_B_9_eq, out0_B_10_eq, out0_B_11_eq, ho, hx]
  rfl

/-- The rows of the activations. -/
theorem read_0 (r : Fin 1024) (k : Fin 2048) :
    iblk m c 0 t (ix2 r k) = m ((c : Thread nD τ).loc main_arg0) (ix2 ⟨1024 * (t.val / 11) + r.val, (by have := lt_of_lt_of_eq t.isLt points; omega)⟩ k) := by
  have hp := places t
  have hN : t.val < 176 := lt_of_lt_of_eq t.isLt points
  blk_ext [iblk, V, hp]

/-- The layer norm weights. -/
theorem read_1 (k : Fin 2048) :
    iblk m c 1 t (ix3 0 0 k) = m ((c : Thread nD τ).loc main_arg1) (ix3 0 0 k) := by
  have hp := places t
  have hN : t.val < 176 := lt_of_lt_of_eq t.isLt points
  blk_ext [iblk, V, hp]

/-- The stretch of the gate weights. -/
theorem read_2 (k : Fin 2048) (l : Fin 512) :
    iblk m c 2 t (ix2 k l) = m ((c : Thread nD τ).loc main_arg2) (ix2 k ⟨512 * (t.val % 11) + l.val, by omega⟩) := by
  have hp := places t
  have hN : t.val < 176 := lt_of_lt_of_eq t.isLt points
  blk_ext [iblk, V, hp]

/-- The stretch of the up weights. -/
theorem read_3 (k : Fin 2048) (l : Fin 512) :
    iblk m c 3 t (ix2 k l) = m ((c : Thread nD τ).loc main_arg3) (ix2 k ⟨512 * (t.val % 11) + l.val, by omega⟩) := by
  have hp := places t
  have hN : t.val < 176 := lt_of_lt_of_eq t.isLt points
  blk_ext [iblk, V, hp]

/-- The stretch of the down weights. -/
theorem read_4 (l : Fin 512) (k : Fin 2048) :
    iblk m c 4 t (ix2 l k) = m ((c : Thread nD τ).loc main_arg4) (ix2 ⟨512 * (t.val % 11) + l.val, by omega⟩ k) := by
  have hp := places t
  have hN : t.val < 176 := lt_of_lt_of_eq t.isLt points
  blk_ext [iblk, V, hp]

/-- The tile of the next gate weights. -/
theorem read_5 (r : Fin 128) (l : Fin 512) :
    iblk m c 5 t (ix3 0 r l) = m ((c : Thread nD τ).loc main_arg5) (ix3 0 ⟨128 * (t.val / 11) + r.val, (by have := lt_of_lt_of_eq t.isLt points; omega)⟩ ⟨512 * (t.val % 11) + l.val, by omega⟩) := by
  have hp := places t
  have hN : t.val < 176 := lt_of_lt_of_eq t.isLt points
  blk_ext [iblk, V, hp]

/-- The tile of the next up weights. -/
theorem read_6 (r : Fin 128) (l : Fin 512) :
    iblk m c 6 t (ix3 0 r l) = m ((c : Thread nD τ).loc main_arg6) (ix3 0 ⟨128 * (t.val / 11) + r.val, (by have := lt_of_lt_of_eq t.isLt points; omega)⟩ ⟨512 * (t.val % 11) + l.val, by omega⟩) := by
  have hp := places t
  have hN : t.val < 176 := lt_of_lt_of_eq t.isLt points
  blk_ext [iblk, V, hp]

/-- The tile of the next down weights. -/
theorem read_7 (l : Fin 512) (r : Fin 128) :
    iblk m c 7 t (ix3 0 l r) = m ((c : Thread nD τ).loc main_arg7) (ix3 0 ⟨512 * (t.val % 11) + l.val, by omega⟩ ⟨128 * (t.val / 11) + r.val, (by have := lt_of_lt_of_eq t.isLt points; omega)⟩) := by
  have hp := places t
  have hN : t.val < 176 := lt_of_lt_of_eq t.isLt points
  blk_ext [iblk, V, hp]

end Cert.FfnIdeal.Point

end
-- ==== Proof.FfnSpec.lean ====
/-
  The feed-forward block as plain sums over the extended reals, and its reference read at an index as that.
-/
module

public import proofs.«01_k».proof.Proof.Gen.FfnRefIdeal.Read
public import Idealize.ShloMosaic.Lib.Pointwise

@[expose] public section

noncomputable section

namespace Cert.FfnSpec

open Idealize.ShloMosaic

/-- The root-mean-square normalized row: `x · rsqrt(mean(x²) + 1e-5) · g`. -/
def normed (x : Fin 16384 → Fin 2048 → EReal) (g : Fin 2048 → EReal) (r : Fin 16384) (k : Fin 2048) : EReal :=
  x r k * Ideal.rsqrt (Ideal.div (∑ k', x r k' * x r k') (Ideal.ofBits .f32 0x45000000#32) + Ideal.ofBits .f32 0x3727C5AC#32) * g k

/-- One hidden unit of a normalized row: `silu(xn · wg) · (xn · wu)`. -/
def hidden (xn : Fin 2048 → EReal) (wg wu : Fin 2048 → Fin 5632 → EReal) (l : Fin 5632) : EReal :=
  (∑ k, xn k * wg k l) * Ideal.logistic (∑ k, xn k * wg k l) * ∑ k, xn k * wu k l

/-- The feed-forward output: the row plus half the hidden units' image. -/
def out (x : Fin 16384 → Fin 2048 → EReal) (g : Fin 2048 → EReal) (wg wu : Fin 2048 → Fin 5632 → EReal)
    (wd : Fin 5632 → Fin 2048 → EReal) (r : Fin 16384) (k : Fin 2048) : EReal :=
  x r k + Ideal.ofBits .f32 0x3F000000#32 * ∑ l, hidden (normed x g r) wg wu l * wd l k

open Cert.FfnRefIdeal Cert.FfnRefIdeal.Gen Cert.FfnRefIdeal.Read in
/-- The reference's normalized rows. -/
theorem ref_normed (x : Vec Ideal S16384x2048 .f32) (g : Vec Ideal S4x1x2048 .f32) (r : Fin 16384) (k : Fin 2048) :
    val_main_v13 (F := Ideal) x g (ix2 r k) = normed (fun r k => x (ix2 r k)) (fun k => g (ix3 0 0 k)) r k := by
  unfold normed
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]

open Cert.FfnRefIdeal Cert.FfnRefIdeal.Gen Cert.FfnRefIdeal.Read in
/-- The reference's hidden units. -/
theorem ref_hidden (x : Vec Ideal S16384x2048 .f32) (g : Vec Ideal S4x1x2048 .f32) (wg wu : Vec Ideal S2048x5632 .bf16)
    (r : Fin 16384) (l : Fin 5632) :
    val_main_v20 (F := Ideal) x g wg wu (ix2 r l)
      = hidden (normed (fun r k => x (ix2 r k)) (fun k => g (ix3 0 0 k)) r) (fun k l => wg (ix2 k l)) (fun k l => wu (ix2 k l)) l := by
  unfold hidden
  pointwise [val_main_v20, val_main_v19, val_main_v18, val_main_v17, val_main_v15, val_main_v14, ref_normed, val_main_call0_v5, val_main_call0_v4, val_main_call0_v3, val_main_call0_v2, val_main_call0_v1, val_main_call0_v0, val_main_call0_cst, val_main_call0_cst_0]
  rfl

open Cert.FfnRefIdeal Cert.FfnRefIdeal.Gen Cert.FfnRefIdeal.Read in
/-- The reference's first result. -/
theorem ref_out (x : Vec Ideal S16384x2048 .f32) (g : Vec Ideal S4x1x2048 .f32) (wg wu : Vec Ideal S2048x5632 .bf16) (wd : Vec Ideal S5632x2048 .bf16)
    (r : Fin 16384) (k : Fin 2048) :
    val_main_v24 (F := Ideal) x g wg wu wd (ix2 r k)
      = out (fun r k => x (ix2 r k)) (fun k => g (ix3 0 0 k)) (fun k l => wg (ix2 k l)) (fun k l => wu (ix2 k l)) (fun l k => wd (ix2 l k)) r k := by
  unfold out
  pointwise [val_main_v24, val_main_v23, val_main_v22, val_main_v21, val_main_v16, ref_hidden, val_main_cst_2]

open Cert.FfnRefIdeal Cert.FfnRefIdeal.Gen Cert.FfnRefIdeal.Read in
/-- The reference's second result: the first layer of the next gate weights. -/
theorem ref_next_gate (w : Vec Ideal S4x2048x5632 .f32) (r : Fin 2048) (k : Fin 5632) :
    val_main_v27 (F := Ideal) w (ix2 r k) = w (ix3 0 r k) := by
  pointwise [val_main_v27, val_main_v26, val_main_v25]

open Cert.FfnRefIdeal Cert.FfnRefIdeal.Gen Cert.FfnRefIdeal.Read in
/-- The reference's third result: the first layer of the next up weights. -/
theorem ref_next_up (w : Vec Ideal S4x2048x5632 .f32) (r : Fin 2048) (k : Fin 5632) :
    val_main_v30 (F := Ideal) w (ix2 r k) = w (ix3 0 r k) := by
  pointwise [val_main_v30, val_main_v29, val_main_v28]

open Cert.FfnRefIdeal Cert.FfnRefIdeal.Gen Cert.FfnRefIdeal.Read in
/-- The reference's fourth result: the first layer of the next down weights. -/
theorem ref_next_down (w : Vec Ideal S4x5632x2048 .f32) (r : Fin 5632) (k : Fin 2048) :
    val_main_v33 (F := Ideal) w (ix2 r k) = w (ix3 0 r k) := by
  pointwise [val_main_v33, val_main_v32, val_main_v31]

end Cert.FfnSpec

end
-- ==== Proof.FfnValue.lean ====
/-
  The four arrays the feed-forward kernel leaves, at an index: the activations plus the sum over all 5632 hidden units
  of the halved unit times its row of the down weights, and the three copies of the next layer's weights.
-/
module

public import proofs.«01_k».proof.Proof.FfnPoint
public import proofs.«01_k».proof.Proof.FfnSpec
public import proofs.«01_k».proof.Proof.Gen.FfnIdeal.Value

@[expose] public section

set_option maxRecDepth 16384

noncomputable section

namespace Cert.FfnIdeal.Sum

open Cert.FfnIdeal Cert.FfnIdeal.Gen Cert.FfnIdeal.Point Cert.FfnIdeal.Pay Cert.FfnSpec
open Idealize.ShloMosaic Idealize.ShloMosaic.TcCoe

variable (m : (ℓ : Loc nD τ sig) → Buf (Elt Ideal) ℓ) (c : Dev nD)

/-- The activations, the norm weights and the three weight matrices, as functions of their indices. -/
def xs (r : Fin 16384) (k : Fin 2048) : EReal := m ((c : Thread nD τ).loc main_arg0) (ix2 r k)
def gs (k : Fin 2048) : EReal := m ((c : Thread nD τ).loc main_arg1) (ix3 0 0 k)
def wgs (k : Fin 2048) (l : Fin 5632) : EReal := m ((c : Thread nD τ).loc main_arg2) (ix2 k l)
def wus (k : Fin 2048) (l : Fin 5632) : EReal := m ((c : Thread nD τ).loc main_arg3) (ix2 k l)
def wds (l : Fin 5632) (k : Fin 2048) : EReal := m ((c : Thread nD τ).loc main_arg4) (ix2 l k)

/-- What hidden unit `l` adds to the output's place `(r, k)`. -/
def unit (r : Fin 16384) (k : Fin 2048) (l : Fin 5632) : EReal :=
  hidden (normed (xs m c) (gs m c) r) (wgs m c) (wus m c) l * Ideal.ofBits .f32 0x3F000000#32 * wds m c l k

/-- The same for a hidden unit given by its number, nothing past the last. -/
def unitAt (r : Fin 16384) (k : Fin 2048) (l : ℕ) : EReal :=
  if h : l < 5632 then unit m c r k ⟨l, h⟩ else 0

/-- Row `r` of row block `b`. -/
def rowOf (b : Fin 16) (r : Fin 1024) : Fin 16384 := ⟨1024 * b.val + r.val, by omega⟩

/-- Row block of a point. -/
def blockOf (t : Fin cfg0.N) : Fin 16 := ⟨t.val / 11, by have := lt_of_lt_of_eq t.isLt points; omega⟩

/-- The rows a point normalizes. -/
theorem rows_normed (t : Fin cfg0.N) (r : Fin 1024) (k : Fin 2048) :
    k0_pay5 (iblk m c 0 t) (iblk m c 1 t) (ix2 r k) = normed (xs m c) (gs m c) (rowOf (blockOf t) r) k := by
  rw [pay5_apply]
  simp only [read_0, read_1]
  rfl

/-- What a point adds to the accumulator, its normalized rows given. -/
theorem step_apply (t : Fin cfg0.N) (xn : Vec Ideal S1024x2048 .bf16) (o : Vec Ideal S1024x2048 .f32)
    (r : Fin 1024) (k : Fin 2048)
    (hx : ∀ k, xn (ix2 r k) = normed (xs m c) (gs m c) (rowOf (blockOf t) r) k) :
    k0_pay1 (k0_pay6 xn (iblk m c 2 t) (iblk m c 3 t)) o (iblk m c 4 t) (ix2 r k)
      = o (ix2 r k) + ∑ l ∈ Finset.range 512, unitAt m c (rowOf (blockOf t) r) k (512 * (t.val % 11) + l) := by
  rw [pay1_apply, Finset.sum_range]
  refine congrArg (o (ix2 r k) + ·) (Finset.sum_congr rfl fun l _ => ?_)
  have hl : 512 * (t.val % 11) + l.val < 5632 := by omega
  rw [pay6_apply, unitAt, dif_pos hl]
  simp only [hx, read_2, read_3, read_4]
  rfl

/-- After point `t`, the carry holds the normalized rows of its row block. -/
theorem carry (n : ℕ) (hn : n < cfg0.N) (r : Fin 1024) (k : Fin 2048) :
    (outsAt0 m c n hn).2.2.2.2 (ix2 r k) = normed (xs m c) (gs m c) (rowOf (blockOf ⟨n, hn⟩) r) k := by
  induction n with
  | zero => rw [outs_first m c ⟨0, hn⟩ rfl]; exact rows_normed m c ⟨0, hn⟩ r k
  | succ n ih =>
    by_cases h0 : (n + 1) % 11 = 0
    · rw [outs_first m c ⟨n + 1, hn⟩ h0]; exact rows_normed m c ⟨n + 1, hn⟩ r k
    · rw [outs_later m c ⟨n + 1, hn⟩ h0 _ _ rfl rfl]
      have e : blockOf ⟨n + 1, hn⟩ = blockOf ⟨n, Nat.lt_of_succ_lt hn⟩ := Fin.ext (by simp only [blockOf]; omega)
      rw [e]
      exact ih (Nat.lt_of_succ_lt hn)

/-- After point `t`, the accumulator holds the activations and the units of the stretches up to its own. -/
theorem acc (n : ℕ) (hn : n < cfg0.N) (r : Fin 1024) (k : Fin 2048) :
    (outsAt0 m c n hn).1 (ix2 r k)
      = xs m c (rowOf (blockOf ⟨n, hn⟩) r) k
        + ∑ l ∈ Finset.range (512 * (n % 11 + 1)), unitAt m c (rowOf (blockOf ⟨n, hn⟩) r) k l := by
  have first : ∀ t : Fin cfg0.N, t.val % 11 = 0 → (outsAt0 m c t.val t.isLt).1 (ix2 r k)
      = xs m c (rowOf (blockOf t) r) k
        + ∑ l ∈ Finset.range (512 * (t.val % 11 + 1)), unitAt m c (rowOf (blockOf t) r) k l := fun t h0 => by
    rw [outs_first m c t h0]
    refine (step_apply m c t _ _ r k fun k => rows_normed m c t r k).trans ?_
    rw [read_0, h0]
    simp only [Nat.mul_zero, Nat.zero_add, Nat.mul_one]
    rfl
  induction n with
  | zero => exact first ⟨0, hn⟩ rfl
  | succ n ih =>
    by_cases h0 : (n + 1) % 11 = 0
    · exact first ⟨n + 1, hn⟩ h0
    · have e : blockOf ⟨n + 1, hn⟩ = blockOf ⟨n, Nat.lt_of_succ_lt hn⟩ := Fin.ext (by simp only [blockOf]; omega)
      rw [outs_later m c ⟨n + 1, hn⟩ h0 _ _ rfl rfl]
      refine (step_apply m c ⟨n + 1, hn⟩ _ _ r k fun k => ?_).trans ?_
      · rw [e]; exact carry m c n _ r k
      · have hm : (n + 1) % 11 = n % 11 + 1 := by omega
        rw [e, hm, Nat.mul_add 512 (n % 11 + 1) 1, Nat.mul_one, Finset.sum_range_add, ← add_assoc]
        exact congrArg (· + _) (ih (Nat.lt_of_succ_lt hn))

/-- The three tiles after a point. -/
theorem tiles (t : Fin cfg0.N) :
    (outsAt0 m c t.val t.isLt).2.1 = k0_pay2 (iblk m c 5 t) ∧ (outsAt0 m c t.val t.isLt).2.2.1 = k0_pay3 (iblk m c 6 t)
      ∧ (outsAt0 m c t.val t.isLt).2.2.2.1 = k0_pay4 (iblk m c 7 t) := by
  by_cases h0 : t.val % 11 = 0
  · rw [outs_first m c t h0]; exact ⟨rfl, rfl, rfl⟩
  · rw [outs_later m c t h0 _ _ rfl rfl]; exact ⟨rfl, rfl, rfl⟩

/-- The first array: every hidden unit's part over the activations. -/
theorem out8 (r : Fin 16384) (k : Fin 2048) :
    Value.G8 m c (ix2 r k) = xs m c r k + ∑ l, unit m c r k l := by
  have hp : Value.pt8Of (ix2 r k) = 11 * (r.val / 1024) + 10 := by
    show 11 * (1 * (r.val / 1024 - 0) + 1 * (k.val / 2048 - 0)) + 10 = _
    have := Nat.div_eq_of_lt k.isLt; omega
  have hn : Value.pt8Of (ix2 r k) < cfg0.N := by rw [hp, points]; omega
  have hloc : Value.loc8Of (ix2 r k) = ix2 ⟨r.val % 1024, by omega⟩ k := by
    blk_ext []
  have hrow : rowOf (blockOf ⟨Value.pt8Of (ix2 r k), hn⟩) ⟨r.val % 1024, by omega⟩ = r := by
    refine Fin.ext ?_
    show 1024 * (Value.pt8Of (ix2 r k) / 11) + r.val % 1024 = r.val
    rw [hp]; omega
  unfold Value.G8
  rw [dif_pos hn, ← Value.outsAt0_sweep m c _ hn, hloc, acc, hrow]
  have hm : 512 * (Value.pt8Of (ix2 r k) % 11 + 1) = 5632 := by rw [hp]; omega
  rw [hm, Finset.sum_range]
  refine congrArg (xs m c r k + ·) (Finset.sum_congr rfl fun l _ => ?_)
  exact dif_pos l.isLt

/-- The second array: the next gate weights' first layer. -/
theorem out9 (r : Fin 2048) (l : Fin 5632) :
    Value.G9 m c (ix2 r l) = m ((c : Thread nD τ).loc main_arg5) (ix3 0 r l) := by
  have hp : Value.pt9Of (ix2 r l) = 11 * (r.val / 128) + l.val / 512 := by
    show 11 * (r.val / 128 - 0) + 1 * (l.val / 512 - 0) = _
    omega
  have hn : Value.pt9Of (ix2 r l) < cfg0.N := by rw [hp, points]; omega
  have hloc : Value.loc9Of (ix2 r l) = ix2 ⟨r.val % 128, by omega⟩ ⟨l.val % 512, by omega⟩ := by
    blk_ext []
  unfold Value.G9
  rw [dif_pos hn, ← Value.outsAt0_sweep m c _ hn, hloc, (tiles m c ⟨_, hn⟩).1, pay2_apply, read_5]
  blk_ext [hp]

/-- The third array: the next up weights' first layer. -/
theorem out10 (r : Fin 2048) (l : Fin 5632) :
    Value.G10 m c (ix2 r l) = m ((c : Thread nD τ).loc main_arg6) (ix3 0 r l) := by
  have hp : Value.pt10Of (ix2 r l) = 11 * (r.val / 128) + l.val / 512 := by
    show 11 * (r.val / 128 - 0) + 1 * (l.val / 512 - 0) = _
    omega
  have hn : Value.pt10Of (ix2 r l) < cfg0.N := by rw [hp, points]; omega
  have hloc : Value.loc10Of (ix2 r l) = ix2 ⟨r.val % 128, by omega⟩ ⟨l.val % 512, by omega⟩ := by
    blk_ext []
  unfold Value.G10
  rw [dif_pos hn, ← Value.outsAt0_sweep m c _ hn, hloc, (tiles m c ⟨_, hn⟩).2.1, pay3_apply, read_6]
  blk_ext [hp]

/-- The fourth array: the next down weights' first layer. -/
theorem out11 (l : Fin 5632) (r : Fin 2048) :
    Value.G11 m c (ix2 l r) = m ((c : Thread nD τ).loc main_arg7) (ix3 0 l r) := by
  have hp : Value.pt11Of (ix2 l r) = 11 * (r.val / 128) + l.val / 512 := by
    show 1 * (l.val / 512 - 0) + 11 * (r.val / 128 - 0) = _
    omega
  have hn : Value.pt11Of (ix2 l r) < cfg0.N := by rw [hp, points]; omega
  have hloc : Value.loc11Of (ix2 l r) = ix2 ⟨l.val % 512, by omega⟩ ⟨r.val % 128, by omega⟩ := by
    blk_ext []
  unfold Value.G11
  rw [dif_pos hn, ← Value.outsAt0_sweep m c _ hn, hloc, (tiles m c ⟨_, hn⟩).2.2, pay4_apply, read_7]
  blk_ext [hp]

end Cert.FfnIdeal.Sum

end
-- ==== Proof.Consts.lean ====
/-
  The constants both programs carry, as reals, and a finite non-negative factor taken into a sum of extended reals.
-/
module

public import Idealize.ShloMosaic.PureOps.Ideal
public import Idealize.ShloMosaic.Lib.IdealHost

@[expose] public section

namespace Cert.Consts

open Idealize.ShloMosaic

/-- The pattern of one half. -/
theorem half : Ideal.ofBits .f32 0x3F000000#32 = ((1 / 2 : ℝ) : EReal) := by
  simp [Ideal.ofBits, Ideal.ieee, -EReal.coe_mul]; norm_num

/-- The pattern of one eighth. -/
theorem eighth : Ideal.ofBits .f32 0x3E000000#32 = ((1 / 8 : ℝ) : EReal) := by
  simp [Ideal.ofBits, Ideal.ieee, -EReal.coe_mul]; norm_num

/-- The pattern of one eighth at half the width. -/
theorem eighth16 : Ideal.ofBits .bf16 0x3E00#16 = ((1 / 8 : ℝ) : EReal) := by
  simp [Ideal.ofBits, Ideal.ieee, -EReal.coe_mul]; norm_num

/-- The pattern of minus infinity. -/
theorem neg_inf : Ideal.ofBits .f32 0xFF800000#32 = ⊥ := by
  simp [Ideal.ofBits, Ideal.ieee]

/-- A non-negative real times a sum is the sum of the products, whatever the terms. -/
theorem mul_sum {ι : Type} (s : Finset ι) (a : ℝ) (ha : 0 ≤ a) (f : ι → EReal) :
    (a : EReal) * ∑ i ∈ s, f i = ∑ i ∈ s, (a : EReal) * f i := by
  classical
  induction s using Finset.induction_on with
  | empty => simp
  | insert i s hi ih =>
    rw [Finset.sum_insert hi, Finset.sum_insert hi,
      EReal.left_distrib_of_nonneg_of_ne_top (EReal.coe_nonneg.mpr ha) (EReal.coe_ne_top a), ih]

/-- A sum of real numbers, as extended reals. -/
theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

end Cert.Consts
-- ==== Proof.FfnClaim.lean ====
/-
  The feed-forward kernel and its reference end with equal results, whatever their arguments are.
-/
module

public import proofs.«01_k».proof.Defs
public import proofs.«01_k».proof.Proof.FfnValue
public import proofs.«01_k».proof.Proof.Consts
public import proofs.«01_k».proof.Proof.Gen.FfnRefIdeal.Run
public import Idealize.ShloMosaic.Adequacy

@[expose] public section

set_option maxRecDepth 16384

noncomputable section

namespace Cert.FfnIdeal.Sum

open Cert.FfnSpec Idealize.ShloMosaic Idealize.ShloMosaic.TcCoe Idealize.SL.Sem

/-- Halving each hidden unit is halving their sum. -/
theorem halves (m : (ℓ : Loc nD τ sig) → Buf (Elt Ideal) ℓ) (c : Dev nD) (r : Fin 16384) (k : Fin 2048) :
    xs m c r k + ∑ l, unit m c r k l = out (xs m c) (gs m c) (wgs m c) (wus m c) (wds m c) r k := by
  unfold out unit
  rw [Consts.half, Consts.mul_sum _ _ (by norm_num)]
  refine congrArg (xs m c r k + ·) (Finset.sum_congr rfl fun l _ => ?_)
  rw [mul_comm (hidden _ _ _ l), mul_assoc]

/-- The claim. -/
theorem algebraic : Cert.algebraic_FfnIdeal_FfnRefIdeal (hFfnIdeal := Cert.FfnIdeal.Gen.facts)
    (hFfnRefIdeal := Cert.FfnRefIdeal.Gen.facts) := by
  intro m ρ m' ρ' _ hagree
  refine ⟨Value.G8 m, Value.G9 m, Value.G10 m, Value.G11 m, Cert.FfnIdeal.Value.run (F := Ideal) m ρ,
    (θ_run _ _ _).mono (fun r h c => ?_) (Cert.FfnRefIdeal.Value.run (F := Ideal) m' ρ')⟩
  obtain ⟨h0, h1, h2, h3, hk⟩ := h c
  obtain ⟨a0, a1, a2, a3, a4, a5, a6, a7⟩ := hagree c
  refine ⟨h0.trans ?_, h1.trans ?_, h2.trans ?_, h3.trans ?_, hk⟩
  · rw [FfnRefIdeal.Read.val_main_v24_eq, a0, a1, a2, a3, a4]
    refine funext fun (j : FfnIdeal.S16384x2048.Idx) => ?_
    idx_vars j
    exact (ref_out _ _ _ _ _ j0 j1).trans ((halves m c j0 j1).symm.trans (out8 m c j0 j1).symm)
  · rw [FfnRefIdeal.Read.val_main_v27_eq, a5]
    refine funext fun (j : FfnIdeal.S2048x5632.Idx) => ?_
    idx_vars j
    exact (ref_next_gate _ j0 j1).trans (out9 m c j0 j1).symm
  · rw [FfnRefIdeal.Read.val_main_v30_eq, a6]
    refine funext fun (j : FfnIdeal.S2048x5632.Idx) => ?_
    idx_vars j
    exact (ref_next_up _ j0 j1).trans (out10 m c j0 j1).symm
  · rw [FfnRefIdeal.Read.val_main_v33_eq, a7]
    refine funext fun (j : FfnIdeal.S5632x2048.Idx) => ?_
    idx_vars j
    exact (ref_next_down _ j0 j1).trans (out11 m c j0 j1).symm

end Cert.FfnIdeal.Sum

end
-- ==== Proof.AttnSpec.lean ====
/-
  Windowed attention with a sink for one query, as plain sums over the extended reals, in the two orders in which the
  kernel and its reference divide: the two agree when the query, the keys and the sink are finite.
-/
module

public import proofs.«01_k».proof.Proof.Consts

@[expose] public section

noncomputable section

namespace Cert.AttnSpec

open Idealize.ShloMosaic

/-- The query at row `r` of its block sees key `x` of the two blocks: the 128 keys up to its own, and none before the
    sequence's start. -/
def Seen (first : Prop) (r : ℕ) (x : Fin 256) : Prop := r < x.val ∧ x.val ≤ r + 128 ∧ (128 ≤ x.val ∨ ¬ first)

/-- The score of key `x`, minus infinity where it is not seen. -/
def score (seen : Fin 256 → Prop) (q : Fin 64 → EReal) (k : Fin 256 → Fin 64 → EReal) (x : Fin 256) : EReal :=
  open Classical in if seen x then (∑ d, k x d * q d) * ((1 / 8 : ℝ) : EReal) else ⊥

/-- The largest score, the sink among them. -/
def top (s : Fin 256 → EReal) (sink : EReal) : EReal := max (Finset.univ.fold max ⊥ s) sink

/-- The exponentials' total, the sink's among them. -/
def total (s : Fin 256 → EReal) (sink : EReal) : EReal :=
  ∑ x, Ideal.exp (s x - top s sink) + Ideal.exp (sink - top s sink)

/-- The attention's output: the values weighted by the exponentials over their total. -/
def out (s v : Fin 256 → EReal) (sink : EReal) : EReal :=
  ∑ x, v x * Ideal.div (Ideal.exp (s x - top s sink)) (total s sink)

/-- The same, the total's reciprocal taken once. -/
def outRecip (s v : Fin 256 → EReal) (sink : EReal) : EReal :=
  ∑ x, v x * (Ideal.exp (s x - top s sink) * Ideal.div 1 (total s sink))

/-- A score is a real number or minus infinity. -/
def Low (a : EReal) : Prop := a = ⊥ ∨ ∃ t : ℝ, a = t

theorem Low.max {a b : EReal} (ha : Low a) (hb : Low b) : Low (max a b) := by
  rcases le_total a b with h | h
  · rwa [max_eq_right h]
  · rwa [max_eq_left h]

theorem Low.fold {s : Fin 256 → EReal} (hs : ∀ x, Low (s x)) (S : Finset (Fin 256)) : Low (S.fold Max.max ⊥ s) := by
  classical
  induction S using Finset.induction_on with
  | empty => exact Or.inl rfl
  | insert i S hi ih => rw [Finset.fold_insert hi]; exact (hs i).max ih

/-- The largest score is a real number, the sink being one. -/
theorem top_real {s : Fin 256 → EReal} (hs : ∀ x, Low (s x)) (t : ℝ) : ∃ u : ℝ, top s t = u := by
  rcases (Low.fold hs Finset.univ).max (Or.inr ⟨t, rfl⟩ : Low (t : EReal)) with h | h
  · exact absurd (le_trans (le_max_right _ _) h.le) (by simp)
  · exact h

/-- The exponential of a score less a real number is a non-negative real number. -/
theorem exp_low {a : EReal} (ha : Low a) (u : ℝ) : ∃ e : ℝ, 0 ≤ e ∧ Ideal.exp (a - u) = e := by
  rcases ha with rfl | ⟨t, rfl⟩
  · exact ⟨0, le_rfl, by rw [EReal.bot_sub]; rfl⟩
  · exact ⟨Real.exp (t - u), (Real.exp_pos _).le, by rw [← EReal.coe_sub]; rfl⟩

/-- The total is a positive real number. -/
theorem total_real {s : Fin 256 → EReal} (hs : ∀ x, Low (s x)) (t : ℝ) : ∃ d : ℝ, 0 < d ∧ total s t = d := by
  obtain ⟨u, hu⟩ := top_real hs t
  choose e he hx using fun x => exp_low (hs x) u
  refine ⟨∑ x, e x + Real.exp (t - u), add_pos_of_nonneg_of_pos (Finset.sum_nonneg fun x _ => he x) (Real.exp_pos _), ?_⟩
  unfold total
  rw [hu, EReal.coe_add, Consts.coe_sum, Finset.sum_congr rfl fun x _ => hx x, ← EReal.coe_sub]
  rfl

/-- Where the scores are real or minus infinity and the sink is real, the two orders agree. -/
theorem outRecip_eq_out {s v : Fin 256 → EReal} {sink : EReal} (hs : ∀ x, Low (s x)) (ht : ∃ t : ℝ, sink = t) :
    outRecip s v sink = out s v sink := by
  obtain ⟨t, rfl⟩ := ht
  obtain ⟨d, hd, h⟩ := total_real hs t
  unfold outRecip out
  refine Finset.sum_congr rfl fun x _ => ?_
  rw [h, Ideal.div_coe hd.ne', Ideal.div_coe hd.ne', one_mul]

/-- A score of finite queries and keys is real or minus infinity. -/
theorem score_low (seen : Fin 256 → Prop) {q : Fin 64 → EReal} {k : Fin 256 → Fin 64 → EReal} (hq : ∀ d, ∃ t : ℝ, q d = t)
    (x : Fin 256) (hk : seen x → ∀ d, ∃ t : ℝ, k x d = t) : Low (score seen q k x) := by
  classical
  unfold score
  split
  · rename_i hx
    choose qr hqr using hq
    choose kr hkr using hk hx
    refine Or.inr ⟨(∑ d, kr d * qr d) * (1 / 8), ?_⟩
    rw [EReal.coe_mul, Consts.coe_sum]
    simp only [hqr, hkr, EReal.coe_mul]
  · exact Or.inl rfl

/-- A key whose score is not minus infinity is seen. -/
theorem seen_of_score {seen : Fin 256 → Prop} {q : Fin 64 → EReal} {k : Fin 256 → Fin 64 → EReal} {x : Fin 256}
    (h : score seen q k x ≠ ⊥) : seen x := by
  classical
  by_contra hn
  exact h (if_neg hn)

/-- A value whose score is minus infinity has no weight. -/
theorem out_congr {s v w : Fin 256 → EReal} {sink : EReal} (hs : ∀ x, Low (s x)) (ht : ∃ t : ℝ, sink = t)
    (h : ∀ x, s x ≠ ⊥ → v x = w x) : out s v sink = out s w sink := by
  obtain ⟨t, rfl⟩ := ht
  obtain ⟨d, hd, htot⟩ := total_real hs t
  obtain ⟨u, hu⟩ := top_real hs t
  unfold out
  refine Finset.sum_congr rfl fun x _ => ?_
  by_cases hx : s x = ⊥
  · have hw : Ideal.div (Ideal.exp (s x - top s t)) (total s t) = 0 := by
      rw [hx, hu, htot, Ideal.div_coe hd.ne', EReal.bot_sub]
      exact zero_mul _
    rw [hw, mul_zero, mul_zero]
  · rw [h x hx]

/-- The position of key `x` of the 256 that the query at position `p` may see: its block and the one before. (Before
    the first block there is none; those keys are never seen.) -/
def place (p : Fin 4096) (x : Fin 256) : Fin 4096 :=
  ⟨if p.val < 128 ∧ x.val < 128 then x.val else 128 * (p.val / 128) + x.val - 128, by split <;> omega⟩

/-- The scores of the query of sequence `b`, position `p` and head `h`. -/
def scores (q : Fin 4 → Fin 4096 → Fin 16 → Fin 64 → EReal) (k : Fin 4 → Fin 4096 → Fin 4 → Fin 64 → EReal)
    (b : Fin 4) (p : Fin 4096) (h : Fin 16) : Fin 256 → EReal :=
  score (Seen (p.val < 128) (p.val % 128)) (q b p h) fun x d => k b (place p x) ⟨h.val / 4, by omega⟩ d

end Cert.AttnSpec

end
-- ==== Proof.AttnUnit.lean ====
/-
  One unit of the attention kernel: a tile of 128 queries (the two heads of a lane pair side by side) against the 256
  keys of its own block and the block before. The kernel writes the same computation out 32 times; here it is once,
  in the kernel's own operations, with what it is worth at an index over the extended reals.
-/
module

public import proofs.«01_k».proof.Proof.Gen.KernelIdeal.Skeleton
public import proofs.«01_k».proof.Proof.AttnSpec
public import Idealize.ShloMosaic.Lib.Pointwise
public import Idealize.ShloMosaic.Lib.WordCmp

@[expose] public section

noncomputable section

namespace Cert.KernelIdeal.Attn

open Cert.KernelIdeal Cert.KernelIdeal.Gen
open Cert.AttnSpec (Seen)
open Idealize.ShloMosaic Idealize.ShloMosaic.WordCmp

section Ops

variable {F : FTy → Type} [FloatOps F] [Named F]

/-- Scores of the 256 keys (rows) against the 128 queries of either head (columns, the heads one after the other). -/
def scores (lower : IVec S128x128 1) (q : Vec F S128x128 .bf16) (kh : FVec F S256x128 .bf16) : FVec F S256x256 .f32 :=
  have q' : FVec F S128x128 .bf16 := shapeCast S128x128 q shapeCasts_S128x128_S128x128
  have e : FVec F S128x128 .bf16 := broadcast S128x128 (Scalar.ofBits .bf16 0x3E00#16)
  have qs : FVec F S128x128 .bf16 := mulf q' e
  have z : FVec F S128x128 .bf16 := broadcast S128x128 (Scalar.ofBits .bf16 0x0000#16)
  have q2 : FVec F S256x128 .bf16 := concatenate S256x128 0 [⟨S128x128, select lower qs z⟩, ⟨S128x128, select lower z qs⟩] concatenates_S128x128_S128x128_S256x128_d0
  matmul dot_S256x128_S256x128_S256x256_1_1_0_0_n_n none kh q2 (constant S256x256 .f32 0x00000000#32)

/-- Scores outside the window, or before the sequence's start, replaced by the mask's value. -/
def masked (key : IVec S256x256 32) (band : IVec S256x256 1) (notFirst : BitVec 1) (s : FVec F S256x256 .f32) : FVec F S256x256 .f32 :=
  have own : IVec S256x256 1 := cmpi .sge key (broadcast S256x256 128#32)
  have ok : IVec S256x256 1 := andi band (ori own (broadcast S256x256 notFirst))
  select ok s (broadcast S256x256 (Named.named κ "mask" 0xF149F2CA#32))

/-- The largest score of each column, the sink among them. -/
def top (s : FVec F S256x256 .f32) (sink : FVec F S1x256 .f32) : FVec F S1x256 .f32 :=
  maximumf (shapeCast S1x256 (multiReduction .maximumf [0] S256 s 0xFF800000#32 reduces_S256x256_S256 (.inl rfl) rfl) shapeCasts_S256_S1x256) sink

/-- Exponentials of the scores less a value for each column. -/
def expo (s : FVec F S256x256 .f32) (t : FVec F S1x256 .f32) : FVec F S256x256 .f32 :=
  exp (subf s (broadcastTo S256x256 t broadcasts_S1x256_S256x256))

/-- The column sums of the exponentials and the sink's. -/
def total (p : FVec F S256x256 .f32) (sink t : FVec F S1x256 .f32) : FVec F S1x256 .f32 :=
  addf (shapeCast S1x256 (multiReduction .add [0] S256 p 0x00000000#32 reduces_S256x256_S256 (.inl rfl) rfl) shapeCasts_S256_S1x256)
    (exp (subf sink t))

/-- The exponentials times the reciprocal of their column's total. -/
def scaled (p : FVec F S256x256 .f32) (d : FVec F S1x256 .f32) : FVec F S256x256 .bf16 :=
  have r : FVec F S1x256 .f32 := divf (broadcast S1x256 (Scalar.ofBits .f32 0x3F800000#32)) d
  truncf .bf16 (mulf p (broadcastTo S256x256 r broadcasts_S1x256_S256x256)) bitsLt_bf16_f32

/-- The weights of the 256 keys for each column, from its scores. -/
def weights (key : IVec S256x256 32) (band : IVec S256x256 1) (notFirst : BitVec 1) (s : FVec F S256x256 .f32) (sink : FVec F S1x256 .f32) : FVec F S256x256 .bf16 :=
  scaled (expo (masked key band notFirst s) (top (masked key band notFirst s) sink))
    (total (expo (masked key band notFirst s) (top (masked key band notFirst s) sink)) sink (top (masked key band notFirst s) sink))

/-- The weighted values: the first head's lanes from the first 128 columns, the second's from the others. -/
def image (upper : IVec S128x128 1) (vh : FVec F S256x128 .bf16) (p : FVec F S256x256 .bf16) : FVec F S128x128 .bf16 :=
  have r : FVec F S128x256 .f32 := matmul dot_S256x128_S256x256_S128x256_0_0_1_1_n_n none vh p (constant S128x256 .f32 0x00000000#32)
  have hi : FVec F S128x128 .f32 := extractStridedSlice S128x128 ![0, 128] r slices_S128x256_o0_128_S128x128
  have lo : FVec F S128x128 .f32 := extractStridedSlice S128x128 ![0, 0] r slices_S128x256_o0_0_S128x128
  truncf .bf16 (transpose S128x128 [1, 0] (select upper hi lo) transposes_S128x128_p1_0_S128x128) bitsLt_bf16_f32

/-- One unit. -/
def unit (notFirst : BitVec 1) (q : Vec F S128x128 .bf16) (kh vh : FVec F S256x128 .bf16) (sink : Vec F S1x1x256 .f32) : FVec F S128x128 .bf16 :=
  image k0_pay6 vh (weights (iota .tc S256x256 32 [0] iota_S256x256_d0_w32) k0_pay5 notFirst (scores k0_pay4 q kh) (shapeCast S1x256 sink shapeCasts_S1x1x256_S1x256))

end Ops

/-- The remainder by 128 of a column number below 256. -/
theorem rem_col : ∀ j : Fin 256, IntOp.remsi .vector (BitVec.ofNat 32 j.val) 128#32 = BitVec.ofNat 32 (j.val % 128) := by
  decide +kernel

/-- The band: key `x` lies above the query's row and at most 128 keys higher. -/
theorem band_apply (x j : Fin 256) :
    k0_pay5 (ix2 x j) = BitVec.ofBool (decide (j.val % 128 < x.val) && decide (x.val ≤ j.val % 128 + 128)) := by
  have hx := x.isLt
  have hj := Nat.mod_lt j.val (by decide : 0 < 128)
  pointwise [k0_pay5]
  have e : Scalar.select (Scalar.cmpi CmpIPredicate.eq 128#32 0#32) 1#32 128#32 = 128#32 := rfl
  rw [e, rem_col]
  have h0 : IntOp.cmpi .slt (BitVec.ofNat 32 (j.val % 128)) 0#32 = BitVec.ofBool false := by
    rw [show (0#32) = BitVec.ofNat 32 0 from rfl, cmpi_slt_ofNat (by omega) (by omega)]; simp
  have h1 : Scalar.cmpi CmpIPredicate.slt 128#32 0#32 = BitVec.ofBool false := by decide
  rw [h0, h1]
  have h2 : ∀ y : BitVec 1, IntOp.andi (IntOp.xori (BitVec.ofBool false) (BitVec.ofBool false)) y = 0#1 := by decide
  rw [h2, select_zero, show (128#32) = BitVec.ofNat 32 128 from rfl, addi_ofNat,
    cmpi_sgt_ofNat (by omega) (by omega), cmpi_sle_ofNat (by omega) (by omega), andi_ofBool]

/-- Scores at an index: the products over the lanes of the column's head, the other lanes being zero. -/
theorem scores_apply (q : Vec Ideal S128x128 .bf16) (kh : FVec Ideal S256x128 .bf16) (x : Fin 256) (h : Fin 2) (r : Fin 128) :
    scores (F := Ideal) k0_pay4 q kh (ix2 x ⟨128 * h.val + r.val, by omega⟩)
      = ∑ d : Fin 64, (kh (ix2 x ⟨64 * h.val + d.val, by omega⟩) : EReal) *
          (q (ix2 r ⟨64 * h.val + d.val, by omega⟩) * Ideal.ofBits .bf16 0x3E00#16 : EReal) := by
  generalize hR : (∑ d : Fin 64, (kh (ix2 x ⟨64 * h.val + d.val, by omega⟩) : EReal) *
          (q (ix2 r ⟨64 * h.val + d.val, by omega⟩) * Ideal.ofBits .bf16 0x3E00#16 : EReal)) = R
  pointwise [scores, k0_pay4]
  subst hR
  refine (Fin.sum_univ_add (a := 64) (b := 64) _).trans ?_
  have lower : ∀ (d : Fin 64) (a b : EReal),
      Scalar.select (IntOp.cmpi CmpIPredicate.slt (BitVec.ofNat 32 (Fin.castAdd 64 d).val) 64#32) a b = a := fun d a b => by
    have := d.isLt
    rw [show (64#32) = BitVec.ofNat 32 64 from rfl, cmpi_slt_ofNat (by simp only [Fin.val_castAdd]; omega) (by omega), select_ofBool]
    simp
  have upper : ∀ (d : Fin 64) (a b : EReal),
      Scalar.select (IntOp.cmpi CmpIPredicate.slt (BitVec.ofNat 32 (Fin.natAdd 64 d).val) 64#32) a b = b := fun d a b => by
    have := d.isLt
    rw [show (64#32) = BitVec.ofNat 32 64 from rfl, cmpi_slt_ofNat (by simp only [Fin.val_natAdd]; omega) (by omega), select_ofBool]
    simp
  simp only [lower, upper]
  have hr := r.isLt
  have zero : ∀ f : Fin 64 → EReal, ∑ d, f d * 0 = 0 := fun f => by simp
  rcases (by omega : h.val = 0 ∨ h.val = 1) with e | e
  · obtain rfl : h = 0 := Fin.ext e
    simp only [Fin.val_zero, Nat.mul_zero, Nat.zero_add, hr, dite_true, zero, add_zero]
    rfl
  · obtain rfl : h = 1 := Fin.ext e
    have n : ¬ 128 * 1 + r.val < 128 := by omega
    have s : 128 * 1 + r.val - 128 = r.val := by omega
    simp only [Fin.val_one, n, dite_false, zero, zero_add, s]
    rfl

/-- Masked scores at an index. -/
theorem masked_apply (first : BitVec 1) (s : FVec Ideal S256x256 .f32) (x j : Fin 256) :
    masked (F := Ideal) (iota .tc S256x256 32 [0] iota_S256x256_d0_w32) k0_pay5 (Scalar.xori first 1#1) s (ix2 x j)
      = open Classical in if Seen (first = 1#1) (j.val % 128) x then s (ix2 x j) else ⊥ := by
  have hx := x.isLt
  have hn : (Named.named κ "mask" 0xF149F2CA#32 : Ideal .f32) = ⊥ := IdealRules.named_const.ideal_named_scalar _ _ _ _ rfl
  pointwise [masked, band_apply]
  rw [show (128#32) = BitVec.ofNat 32 128 from rfl, cmpi_sge_ofNat (by omega) (by omega)]
  have hf : Scalar.xori first 1#1 = BitVec.ofBool (decide (¬ first = 1#1)) := by revert first; decide
  rw [hf, ori_ofBool, andi_ofBool, select_ofBool, hn]
  unfold Seen
  simp [and_assoc]

/-- The largest score of a column. -/
theorem top_apply (s : FVec Ideal S256x256 .f32) (sink : FVec Ideal S1x256 .f32) (j : Fin 256) :
    top (F := Ideal) s sink (ix2 0 j) = AttnSpec.top (fun x => s (ix2 x j)) (sink (ix2 0 j)) := by
  pointwise [top]
  rw [Consts.neg_inf]
  rfl

theorem expo_apply (s : FVec Ideal S256x256 .f32) (t : FVec Ideal S1x256 .f32) (x j : Fin 256) :
    expo (F := Ideal) s t (ix2 x j) = Ideal.exp (s (ix2 x j) - t (ix2 0 j)) := by
  pointwise [expo]

theorem total_apply (p : FVec Ideal S256x256 .f32) (sink t : FVec Ideal S1x256 .f32) (j : Fin 256) :
    total (F := Ideal) p sink t (ix2 0 j) = ∑ x, p (ix2 x j) + Ideal.exp (sink (ix2 0 j) - t (ix2 0 j)) := by
  pointwise [total]

theorem scaled_apply (p : FVec Ideal S256x256 .f32) (d : FVec Ideal S1x256 .f32) (x j : Fin 256) :
    scaled (F := Ideal) p d (ix2 x j) = p (ix2 x j) * Ideal.div 1 (d (ix2 0 j)) := by
  pointwise [scaled]

/-- A weight: the exponential of the masked score times the reciprocal of its column's total. -/
theorem weights_apply (first : BitVec 1) (s : FVec Ideal S256x256 .f32) (sink : FVec Ideal S1x256 .f32) (x j : Fin 256)
    (S : Fin 256 → EReal)
    (hS : ∀ x, masked (F := Ideal) (iota .tc S256x256 32 [0] iota_S256x256_d0_w32) k0_pay5 (Scalar.xori first 1#1) s (ix2 x j) = S x) :
    weights (F := Ideal) (iota .tc S256x256 32 [0] iota_S256x256_d0_w32) k0_pay5 (Scalar.xori first 1#1) s sink (ix2 x j)
      = Ideal.exp (S x - AttnSpec.top S (sink (ix2 0 j))) * Ideal.div 1 (AttnSpec.total S (sink (ix2 0 j))) := by
  unfold weights
  rw [scaled_apply, total_apply, expo_apply, top_apply]
  simp only [expo_apply, top_apply, hS]
  rfl

/-- The weighted values at an index: the column is the row, in the half of the lane. -/
theorem image_apply (vh : FVec Ideal S256x128 .bf16) (p : FVec Ideal S256x256 .bf16) (r l : Fin 128) :
    image (F := Ideal) k0_pay6 vh p (ix2 r l)
      = ∑ x, vh (ix2 x l) * p (ix2 x ⟨128 * (l.val / 64) + r.val, by omega⟩) := by
  have hl := l.isLt
  pointwise [image, k0_pay6]
  rw [show (64#32) = BitVec.ofNat 32 64 from rfl, cmpi_sge_ofNat (by omega) (by omega), select_ofBool]
  by_cases h : 64 ≤ l.val
  · have e : 128 * (l.val / 64) + r.val = 128 + r.val := by omega
    simp [h, e]
  · have e : 128 * (l.val / 64) + r.val = r.val := by omega
    simp [h, e]

/-- Lane `d` of head `h` of a lane pair, and row `r` of that head's columns. -/
def lane (h : Fin 2) (d : Fin 64) : Fin 128 := ⟨64 * h.val + d.val, by omega⟩
def column (h : Fin 2) (r : Fin 128) : Fin 256 := ⟨128 * h.val + r.val, by omega⟩
/-- The head of a lane. -/
def half (l : Fin 128) : Fin 2 := ⟨l.val / 64, by omega⟩

/-- One unit at an index: the attention of the lane's head. -/
theorem unit_apply (first : BitVec 1) (q : Vec Ideal S128x128 .bf16) (kh vh : FVec Ideal S256x128 .bf16) (sink : Vec Ideal S1x1x256 .f32) (r l : Fin 128) :
    unit (F := Ideal) (Scalar.xori first 1#1) q kh vh sink (ix2 r l)
      = AttnSpec.outRecip (AttnSpec.score (Seen (first = 1#1) r.val) (fun d => q (ix2 r (lane (half l) d))) fun x d => kh (ix2 x (lane (half l) d)))
          (fun x => vh (ix2 x l)) (sink (ix3 0 0 (column (half l) r))) := by
  unfold unit AttnSpec.outRecip
  rw [image_apply]
  refine Finset.sum_congr rfl fun x _ => ?_
  have e : (⟨128 * (l.val / 64) + r.val, by omega⟩ : Fin 256) = column (half l) r := rfl
  have hs : (shapeCast S1x256 sink shapeCasts_S1x1x256_S1x256) (ix2 0 (column (half l) r)) = sink (ix3 0 0 (column (half l) r)) := by
    pointwise []
  rw [e, ← hs, weights_apply first _ _ x (column (half l) r) (AttnSpec.score (Seen (first = 1#1) r.val) (fun d => q (ix2 r (lane (half l) d))) fun x d => kh (ix2 x (lane (half l) d))) fun y => ?_]
  rw [masked_apply]
  have hr : (column (half l) r).val % 128 = r.val := by
    have := r.isLt
    simp only [column]
    omega
  rw [hr]
  unfold AttnSpec.score
  by_cases hS : Seen (first = 1#1) r.val y
  swap
  · rw [if_neg hS, if_neg hS]
  rw [if_pos hS, if_pos hS]
  refine (scores_apply q kh y (half l) r).trans (Eq.symm ?_)
  refine (mul_comm _ _).trans ((Consts.mul_sum _ (1 / 8) (by norm_num) _).trans (Finset.sum_congr rfl fun d _ => ?_))
  rw [Consts.eighth16, mul_comm, mul_assoc]
  rfl

end Cert.KernelIdeal.Attn

end
-- ==== Proof.AttnTiles.lean ====
/-
  The block that one step of the attention kernel writes: 4 tiles of queries by 8 lane pairs, each one unit. Read at an
  index it is the attention of that row and lane, whichever of the 32 units wrote it.
-/
module

public import proofs.«01_k».proof.Proof.AttnUnit
public import proofs.«01_k».proof.Proof.Gen.KernelIdeal.Frame
public import Idealize.ShloMosaic.Lib.Pipeline.ValueKit
public import Idealize.ShloMosaic.Lib.Pipeline.ReadBack

@[expose] public section

set_option maxRecDepth 16384

noncomputable section

namespace Cert.KernelIdeal.Attn

open Cert.KernelIdeal Cert.KernelIdeal.Gen
open Cert.AttnSpec (Seen)
open Idealize.ShloMosaic Idealize.ShloMosaic.WordCmp

/-- The attention of row `i` and lane `j` of the step's block, from the step's queries, the 640 keys and values it
    sees and the sinks; `first` says the step is its sequence's first. -/
def block (first : BitVec 1) (q : Vec Ideal S512x1024 .bf16) (ks vs : FVec Ideal S640x512 .bf16) (sinks : Vec Ideal S8x1x256 .f32)
    (i : Fin 512) (j : Fin 1024) : EReal :=
  AttnSpec.outRecip
    (AttnSpec.score (Seen (first = 1#1 ∧ i.val < 128) (i.val % 128))
      (fun d => q (ix2 i ⟨64 * (j.val / 64) + d.val, by omega⟩))
      fun x d => ks (ix2 ⟨128 * (i.val / 128) + x.val, by omega⟩ ⟨128 * (j.val / 256) + (64 * (j.val / 64 % 2) + d.val), by omega⟩))
    (fun x => vs (ix2 ⟨128 * (i.val / 128) + x.val, by omega⟩ ⟨128 * (j.val / 256) + j.val % 128, by omega⟩))
    (sinks (ix3 ⟨j.val / 128, by omega⟩ 0 ⟨128 * (j.val / 64 % 2) + i.val % 128, by omega⟩))

/-- The unit of tile `t` and lane pair `c` is the block's part there. -/
theorem tile (first f : BitVec 1) (q : Vec Ideal S512x1024 .bf16) (ks vs : FVec Ideal S640x512 .bf16) (sinks : Vec Ideal S8x1x256 .f32)
    (t c : ℕ) (ht : t < 4) (hc : c < 8) (hf : f = 1#1 ↔ first = 1#1 ∧ t = 0)
    (hq : ∀ a, (![128 * t, 128 * c] : Fin 2 → ℕ) a + S128x128.size a ≤ S512x1024.size a)
    (hk : S640x512.Slices ![128 * t, 128 * (c / 2)] S256x128)
    (hs : ∀ a, (![c, 0, 0] : Fin 3 → ℕ) a + S1x1x256.size a ≤ S8x1x256.size a)
    (x : S128x128.Idx) (i : Fin 512) (j : Fin 1024) (hi : i.val = 128 * t + (x 0).val) (hj : j.val = 128 * c + (x 1).val) :
    unit (F := Ideal) (Scalar.xori f 1#1) (View.ld q (Rect.unit (s := S512x1024) ![128 * t, 128 * c] S128x128.size hq))
        (extractStridedSlice S256x128 ![128 * t, 128 * (c / 2)] ks hk) (extractStridedSlice S256x128 ![128 * t, 128 * (c / 2)] vs hk)
        (View.ld sinks (Rect.unit (s := S8x1x256) ![c, 0, 0] S1x1x256.size hs)) x
      = block first q ks vs sinks i j := by
  obtain ⟨r, l, rfl⟩ : ∃ r l : Fin 128, x = ix2 r l := ⟨x 0, x 1, by idx_vars x⟩
  rw [unit_apply]
  have hr := r.isLt
  have hl := l.isLt
  change i.val = 128 * t + r.val at hi
  change j.val = 128 * c + l.val at hj
  unfold block
  have e1 : i.val % 128 = r.val := by omega
  have e2 : (first = 1#1 ∧ i.val < 128) ↔ f = 1#1 := by rw [hf]; exact and_congr Iff.rfl (by omega)
  have e3 : ∀ x : Fin 256, Seen (f = 1#1) r.val x ↔ Seen (first = 1#1 ∧ i.val < 128) (i.val % 128) x := fun x => by
    unfold Seen; rw [e1, e2]
  have eh : (half l).val = l.val / 64 := rfl
  congr 1
  · funext y
    unfold AttnSpec.score
    by_cases hS : Seen (f = 1#1) r.val y
    swap
    · rw [if_neg hS, if_neg fun h => hS ((e3 y).mpr h)]
    rw [if_pos hS, if_pos ((e3 y).mp hS)]
    refine congrArg (· * _) (Finset.sum_congr rfl fun d _ => congrArg₂ (· * ·) ?_ ?_)
    · pointwise []
      refine congrArg ks (congrArg₂ ix2 (Fin.ext ?_) (Fin.ext ?_)) <;> simp only [lane, eh] <;> omega
    · refine View.ld_unit_apply_of _ _ _ _ _ _ fun a => ?_
      have hd := d.isLt
      fin_cases a
      · exact hi
      · change 64 * (j.val / 64) + d.val = 128 * c + (64 * (half l).val + d.val)
        omega
  · funext y
    pointwise []
    refine congrArg vs (congrArg₂ ix2 (Fin.ext ?_) (Fin.ext ?_)) <;> simp only [] <;> omega
  · refine View.ld_unit_apply_of _ _ _ _ _ _ fun a => ?_
    fin_cases a
    · change j.val / 128 = c + 0
      omega
    · rfl
    · change 128 * (j.val / 64 % 2) + i.val % 128 = 0 + (128 * (half l).val + r.val)
      omega

/-- The same at the place where the tile's rectangle puts an index. -/
theorem tile_emb (first f : BitVec 1) (q : Vec Ideal S512x1024 .bf16) (ks vs : FVec Ideal S640x512 .bf16) (sinks : Vec Ideal S8x1x256 .f32)
    (t c : ℕ) (ht : t < 4) (hc : c < 8) (hf : f = 1#1 ↔ first = 1#1 ∧ t = 0)
    (hq : ∀ a, (![128 * t, 128 * c] : Fin 2 → ℕ) a + S128x128.size a ≤ S512x1024.size a)
    (hk : S640x512.Slices ![128 * t, 128 * (c / 2)] S256x128)
    (hs : ∀ a, (![c, 0, 0] : Fin 3 → ℕ) a + S1x1x256.size a ≤ S8x1x256.size a) (x : S128x128.Idx) :
    unit (F := Ideal) (Scalar.xori f 1#1) (View.ld q (Rect.unit (s := S512x1024) ![128 * t, 128 * c] S128x128.size hq))
        (extractStridedSlice S256x128 ![128 * t, 128 * (c / 2)] ks hk) (extractStridedSlice S256x128 ![128 * t, 128 * (c / 2)] vs hk)
        (View.ld sinks (Rect.unit (s := S8x1x256) ![c, 0, 0] S1x1x256.size hs)) x
      = block first q ks vs sinks ((Rect.unit (s := S512x1024) ![128 * t, 128 * c] S128x128.size hq).emb x 0)
          ((Rect.unit (s := S512x1024) ![128 * t, 128 * c] S128x128.size hq).emb x 1) := by
  refine tile first f q ks vs sinks t c ht hc hf hq hk hs x _ _ ?_ ?_
  · rw [Rect.emb_apply]
    change 128 * t + 1 * (x 0).val = _
    omega
  · rw [Rect.emb_apply]
    change 128 * c + 1 * (x 1).val = _
    omega

/-- The word that says a step is its sequence's first. -/
def firstWord (i : grid0.Coords) : BitVec 1 := Scalar.cmpi .eq (BitVec.ofNat 32 (i 1).val) 0#32

/-- The block the step writes, at an index. -/
theorem out_apply (i : grid0.Coords) (x0 : Vec Ideal S512x1024 .bf16) (x1 : Vec Ideal S512x512 .bf16) (x2 : Vec Ideal S128x512 .bf16)
    (x3 : Vec Ideal S512x512 .bf16) (x4 : Vec Ideal S128x512 .bf16) (x5 : Vec Ideal S8x1x256 .f32) (y : S512x1024.Idx) :
    out0_6 (F := Ideal) i x0 x1 x2 x3 x4 x5 y
      = block (firstWord i) x0 (k0_pay153 i x0 x1 x2 x3 x4 x5) (k0_pay154 i x0 x1 x2 x3 x4 x5) x5 (y 0) (y 1) := by
  have no : ∀ t : ℕ, t ≠ 0 → ((0#1 : BitVec 1) = 1#1 ↔ firstWord i = 1#1 ∧ t = 0) := fun t ht =>
    ⟨fun h => absurd h (by decide), fun h => absurd h.2 ht⟩
  have yes : firstWord i = 1#1 ↔ firstWord i = 1#1 ∧ 0 = 0 := by simp
  let G : S512x1024.Idx → Elt Ideal .bf16 := fun y =>
    block (firstWord i) x0 (k0_pay153 i x0 x1 x2 x3 x4 x5) (k0_pay154 i x0 x1 x2 x3 x4 x5) x5 (y 0) (y 1)
  unfold out0_6
  refine View.canon_apply_of_pieces G _ (View.PiecesOf.mem ?_) y (cover0_6 _ _ _ _ _ _ _ _ _ _ _ _ _ _ _ _ _ _ _ _ _ _ _ _ _ _ _ _ _ _ _ _ y)
  exact ⟨fun x => tile_emb (firstWord i) 0#1 x0 _ _ x5 3 7 (by decide) (by decide) (no 3 (by decide)) _ _ _ x,
    fun x => tile_emb (firstWord i) 0#1 x0 _ _ x5 3 6 (by decide) (by decide) (no 3 (by decide)) _ _ _ x,
    fun x => tile_emb (firstWord i) 0#1 x0 _ _ x5 3 5 (by decide) (by decide) (no 3 (by decide)) _ _ _ x,
    fun x => tile_emb (firstWord i) 0#1 x0 _ _ x5 3 4 (by decide) (by decide) (no 3 (by decide)) _ _ _ x,
    fun x => tile_emb (firstWord i) 0#1 x0 _ _ x5 3 3 (by decide) (by decide) (no 3 (by decide)) _ _ _ x,
    fun x => tile_emb (firstWord i) 0#1 x0 _ _ x5 3 2 (by decide) (by decide) (no 3 (by decide)) _ _ _ x,
    fun x => tile_emb (firstWord i) 0#1 x0 _ _ x5 3 1 (by decide) (by decide) (no 3 (by decide)) _ _ _ x,
    fun x => tile_emb (firstWord i) 0#1 x0 _ _ x5 3 0 (by decide) (by decide) (no 3 (by decide)) _ _ _ x,
    fun x => tile_emb (firstWord i) 0#1 x0 _ _ x5 2 7 (by decide) (by decide) (no 2 (by decide)) _ _ _ x,
    fun x => tile_emb (firstWord i) 0#1 x0 _ _ x5 2 6 (by decide) (by decide) (no 2 (by decide)) _ _ _ x,
    fun x => tile_emb (firstWord i) 0#1 x0 _ _ x5 2 5 (by decide) (by decide) (no 2 (by decide)) _ _ _ x,
    fun x => tile_emb (firstWord i) 0#1 x0 _ _ x5 2 4 (by decide) (by decide) (no 2 (by decide)) _ _ _ x,
    fun x => tile_emb (firstWord i) 0#1 x0 _ _ x5 2 3 (by decide) (by decide) (no 2 (by decide)) _ _ _ x,
    fun x => tile_emb (firstWord i) 0#1 x0 _ _ x5 2 2 (by decide) (by decide) (no 2 (by decide)) _ _ _ x,
    fun x => tile_emb (firstWord i) 0#1 x0 _ _ x5 2 1 (by decide) (by decide) (no 2 (by decide)) _ _ _ x,
    fun x => tile_emb (firstWord i) 0#1 x0 _ _ x5 2 0 (by decide) (by decide) (no 2 (by decide)) _ _ _ x,
    fun x => tile_emb (firstWord i) 0#1 x0 _ _ x5 1 7 (by decide) (by decide) (no 1 (by decide)) _ _ _ x,
    fun x => tile_emb (firstWord i) 0#1 x0 _ _ x5 1 6 (by decide) (by decide) (no 1 (by decide)) _ _ _ x,
    fun x => tile_emb (firstWord i) 0#1 x0 _ _ x5 1 5 (by decide) (by decide) (no 1 (by decide)) _ _ _ x,
    fun x => tile_emb (firstWord i) 0#1 x0 _ _ x5 1 4 (by decide) (by decide) (no 1 (by decide)) _ _ _ x,
    fun x => tile_emb (firstWord i) 0#1 x0 _ _ x5 1 3 (by decide) (by decide) (no 1 (by decide)) _ _ _ x,
    fun x => tile_emb (firstWord i) 0#1 x0 _ _ x5 1 2 (by decide) (by decide) (no 1 (by decide)) _ _ _ x,
    fun x => tile_emb (firstWord i) 0#1 x0 _ _ x5 1 1 (by decide) (by decide) (no 1 (by decide)) _ _ _ x,
    fun x => tile_emb (firstWord i) 0#1 x0 _ _ x5 1 0 (by decide) (by decide) (no 1 (by decide)) _ _ _ x,
    fun x => tile_emb (firstWord i) (firstWord i) x0 _ _ x5 0 7 (by decide) (by decide) yes _ _ _ x,
    fun x => tile_emb (firstWord i) (firstWord i) x0 _ _ x5 0 6 (by decide) (by decide) yes _ _ _ x,
    fun x => tile_emb (firstWord i) (firstWord i) x0 _ _ x5 0 5 (by decide) (by decide) yes _ _ _ x,
    fun x => tile_emb (firstWord i) (firstWord i) x0 _ _ x5 0 4 (by decide) (by decide) yes _ _ _ x,
    fun x => tile_emb (firstWord i) (firstWord i) x0 _ _ x5 0 3 (by decide) (by decide) yes _ _ _ x,
    fun x => tile_emb (firstWord i) (firstWord i) x0 _ _ x5 0 2 (by decide) (by decide) yes _ _ _ x,
    fun x => tile_emb (firstWord i) (firstWord i) x0 _ _ x5 0 1 (by decide) (by decide) yes _ _ _ x,
    fun x => tile_emb (firstWord i) (firstWord i) x0 _ _ x5 0 0 (by decide) (by decide) yes _ _ _ x, trivial⟩

end Cert.KernelIdeal.Attn

end
-- ==== Proof.AttnArr.lean ====
/-
  The blocks of one step of the attention kernel, each read at an index as the argument it is cut from. Step `t` is
  sequence `t / 8` and its stretch `t % 8` of 512 positions; the host has put every key and value head twice, and the
  sinks in rows.
-/
module

public import proofs.«01_k».proof.Proof.AttnTiles
public import proofs.«01_k».proof.Proof.Gen.KernelIdeal.Value
public import Idealize.ShloMosaic.Lib.Pointwise

@[expose] public section

set_option maxRecDepth 16384

noncomputable section

namespace Cert.KernelIdeal.Attn

open Cert.KernelIdeal Cert.KernelIdeal.Gen
open Idealize.ShloMosaic Idealize.ShloMosaic.TcCoe

/-- The block indices of the windows, decided over the grid. -/
theorem places : ∀ t : Fin cfg0.N,
    win0_0.index t = ![t.val, 0] ∧ win0_1.index t = ![t.val, 0] ∧ win0_2.index t = ![32 * (t.val / 8) + (4 * (t.val % 8) - 1), 0]
      ∧ win0_3.index t = ![t.val, 0] ∧ win0_4.index t = ![32 * (t.val / 8) + (4 * (t.val % 8) - 1), 0]
      ∧ win0_5.index t = ![0, 0, 0] ∧ win0_6.index t = ![t.val, 0] :=
  (by decide +kernel : ∀ t : Fin grid0.N, _)

theorem points : cfg0.N = 32 := N_0

/-- The step within its sequence. -/
theorem steps : ∀ t : Fin cfg0.N, (grid0.coords t 1).val = t.val % 8 :=
  (by decide +kernel : ∀ t : Fin grid0.N, _)

variable (m : (ℓ : Loc nD τ sig) → Buf (Elt Ideal) ℓ) (c : Dev nD) (t : Fin cfg0.N)

/-- The queries as rows. -/
theorem host_q (r : Fin 16384) (j : Fin 1024) :
    V m c main_v4 (ix2 r j) = m ((c : Thread nD τ).loc main_arg0)
      (ix4 ⟨r.val / 4096, by omega⟩ ⟨r.val % 4096, by omega⟩ ⟨j.val / 64, by omega⟩ ⟨j.val % 64, by omega⟩) := by
  entry_read
  pointwise []

/-- The keys as rows, every head twice. -/
theorem host_k (r : Fin 16384) (l : Fin 512) :
    V m c main_v6 (ix2 r l) = m ((c : Thread nD τ).loc main_arg1)
      (ix4 ⟨r.val / 4096, by omega⟩ ⟨r.val % 4096, by omega⟩ ⟨l.val / 128, by omega⟩ ⟨l.val % 64, by omega⟩) := by
  entry_read
  pointwise []
  split <;> exact congrArg (m ((c : Thread nD τ).loc _)) (congrArg (ix4 _ _ _) (Fin.ext (by simp only []; omega)))

/-- The values as rows, every head twice. -/
theorem host_v (r : Fin 16384) (l : Fin 512) :
    V m c main_v8 (ix2 r l) = m ((c : Thread nD τ).loc main_arg2)
      (ix4 ⟨r.val / 4096, by omega⟩ ⟨r.val % 4096, by omega⟩ ⟨l.val / 128, by omega⟩ ⟨l.val % 64, by omega⟩) := by
  entry_read
  pointwise []
  split <;> exact congrArg (m ((c : Thread nD τ).loc _)) (congrArg (ix4 _ _ _) (Fin.ext (by simp only []; omega)))

/-- The sinks in rows. -/
theorem host_s (p : Fin 16) (j : Fin 256) :
    V m c main_v3 (ix3 p 0 j) = m ((c : Thread nD τ).loc main_arg3) (ix2 ⟨p.val / 8, by omega⟩ ⟨2 * (p.val % 8) + j.val / 128, by omega⟩) := by
  entry_read
  pointwise []
  exact congrArg (m ((c : Thread nD τ).loc _)) (congrArg (ix2 _) (Fin.ext (by simp only []; omega)))

/-- The step's queries. -/
theorem read_0 (r : Fin 512) (j : Fin 1024) :
    iblk m c 0 t (ix2 r j) = V m c main_v4 (ix2 ⟨512 * t.val + r.val, (by have := lt_of_lt_of_eq t.isLt points; omega)⟩ j) := by
  have hp := places t
  have hN : t.val < 32 := lt_of_lt_of_eq t.isLt points
  blk_ext [iblk, hp]

/-- The step's own keys. -/
theorem read_1 (r l : Fin 512) :
    iblk m c 1 t (ix2 r l) = V m c main_v6 (ix2 ⟨512 * t.val + r.val, (by have := lt_of_lt_of_eq t.isLt points; omega)⟩ l) := by
  have hp := places t
  have hN : t.val < 32 := lt_of_lt_of_eq t.isLt points
  blk_ext [iblk, hp]

/-- The keys before. -/
theorem read_2 (r : Fin 128) (l : Fin 512) :
    iblk m c 2 t (ix2 r l) = V m c main_v6
      (ix2 ⟨128 * (32 * (t.val / 8) + (4 * (t.val % 8) - 1)) + r.val, (by have := lt_of_lt_of_eq t.isLt points; omega)⟩ l) := by
  have hp := places t
  have hN : t.val < 32 := lt_of_lt_of_eq t.isLt points
  blk_ext [iblk, hp]

/-- The step's own values. -/
theorem read_3 (r l : Fin 512) :
    iblk m c 3 t (ix2 r l) = V m c main_v8 (ix2 ⟨512 * t.val + r.val, (by have := lt_of_lt_of_eq t.isLt points; omega)⟩ l) := by
  have hp := places t
  have hN : t.val < 32 := lt_of_lt_of_eq t.isLt points
  blk_ext [iblk, hp]

/-- The values before. -/
theorem read_4 (r : Fin 128) (l : Fin 512) :
    iblk m c 4 t (ix2 r l) = V m c main_v8
      (ix2 ⟨128 * (32 * (t.val / 8) + (4 * (t.val % 8) - 1)) + r.val, (by have := lt_of_lt_of_eq t.isLt points; omega)⟩ l) := by
  have hp := places t
  have hN : t.val < 32 := lt_of_lt_of_eq t.isLt points
  blk_ext [iblk, hp]

/-- The sinks of the first layer. -/
theorem read_5 (p : Fin 8) (j : Fin 256) :
    iblk m c 5 t (ix3 p 0 j) = V m c main_v3 (ix3 ⟨p.val, by omega⟩ 0 j) := by
  have hp := places t
  have hN : t.val < 32 := lt_of_lt_of_eq t.isLt points
  blk_ext [iblk, hp]

end Cert.KernelIdeal.Attn

end
-- ==== Proof.AttnValue.lean ====
/-
  The array the attention kernel leaves, at an index: the attention of that row and head.
-/
module

public import proofs.«01_k».proof.Proof.AttnArr

@[expose] public section

set_option maxRecDepth 16384

noncomputable section

namespace Cert.KernelIdeal.Attn

open Cert.KernelIdeal Cert.KernelIdeal.Gen
open Cert.AttnSpec (Seen place)
open Idealize.ShloMosaic Idealize.ShloMosaic.TcCoe Idealize.ShloMosaic.WordCmp

/-- The keys a step sees: those before, then its own. -/
theorem keys_apply (i : grid0.Coords) (x0 : Vec Ideal S512x1024 .bf16) (x1 : Vec Ideal S512x512 .bf16) (x2 : Vec Ideal S128x512 .bf16)
    (x3 : Vec Ideal S512x512 .bf16) (x4 : Vec Ideal S128x512 .bf16) (x5 : Vec Ideal S8x1x256 .f32) (y : Fin 640) (l : Fin 512) :
    k0_pay153 (F := Ideal) i x0 x1 x2 x3 x4 x5 (ix2 y l)
      = if h : y.val < 128 then x2 (ix2 ⟨y.val, h⟩ l) else x1 (ix2 ⟨y.val - 128, by omega⟩ l) := by
  unfold k0_pay153
  pointwise [k0_pay2]

/-- The values it sees. -/
theorem values_apply (i : grid0.Coords) (x0 : Vec Ideal S512x1024 .bf16) (x1 : Vec Ideal S512x512 .bf16) (x2 : Vec Ideal S128x512 .bf16)
    (x3 : Vec Ideal S512x512 .bf16) (x4 : Vec Ideal S128x512 .bf16) (x5 : Vec Ideal S8x1x256 .f32) (y : Fin 640) (l : Fin 512) :
    k0_pay154 (F := Ideal) i x0 x1 x2 x3 x4 x5 (ix2 y l)
      = if h : y.val < 128 then x4 (ix2 ⟨y.val, h⟩ l) else x3 (ix2 ⟨y.val - 128, by omega⟩ l) := by
  unfold k0_pay154
  pointwise [k0_pay3]

variable (m : (ℓ : Loc nD τ sig) → Buf (Elt Ideal) ℓ) (c : Dev nD) (t : Fin cfg0.N)

/-- The arguments as functions of their indices. -/
def qs (b : Fin 4) (p : Fin 4096) (h : Fin 16) (d : Fin 64) : EReal := m ((c : Thread nD τ).loc main_arg0) (ix4 b p h d)
def ks (b : Fin 4) (p : Fin 4096) (g : Fin 4) (d : Fin 64) : EReal := m ((c : Thread nD τ).loc main_arg1) (ix4 b p g d)
def vs (b : Fin 4) (p : Fin 4096) (g : Fin 4) (d : Fin 64) : EReal := m ((c : Thread nD τ).loc main_arg2) (ix4 b p g d)
def ss (h : Fin 16) : EReal := m ((c : Thread nD τ).loc main_arg3) (ix2 0 h)

/-- The result at row `r` and lane `j`. -/
def result (r : Fin 16384) (j : Fin 1024) : EReal :=
  AttnSpec.outRecip (AttnSpec.scores (qs m c) (ks m c) ⟨r.val / 4096, by omega⟩ ⟨r.val % 4096, by omega⟩ ⟨j.val / 64, by omega⟩)
    (fun x => vs m c ⟨r.val / 4096, by omega⟩ (place ⟨r.val % 4096, by omega⟩ x) ⟨j.val / 256, by omega⟩ ⟨j.val % 64, by omega⟩)
    (ss m c ⟨j.val / 64, by omega⟩)

/-- The row of the 16384 that key `x` of row `i` of the step's block lies in. -/
theorem row_eq (t i : ℕ) (x : Fin 256) (ht : t < 32) (hi : i < 512) (r : Fin 16384) (hr : r.val = 512 * t + i) :
    (if 128 * (i / 128) + x.val < 128 then 128 * (32 * (t / 8) + (4 * (t % 8) - 1)) + (128 * (i / 128) + x.val)
        else 512 * t + (128 * (i / 128) + x.val - 128))
      = 4096 * (r.val / 4096) + (place ⟨r.val % 4096, by omega⟩ x).val := by
  unfold place
  simp only []
  split <;> split <;> omega

/-- A key, by the position it is at. -/
theorem key_at (i : Fin 512) (x : Fin 256) (l : Fin 512) (r : Fin 16384) (hr : r.val = 512 * t.val + i.val) :
    k0_pay153 (F := Ideal) (grid0.coords t) (iblk m c 0 t) (iblk m c 1 t) (iblk m c 2 t) (iblk m c 3 t) (iblk m c 4 t) (iblk m c 5 t)
        (ix2 ⟨128 * (i.val / 128) + x.val, by omega⟩ l)
      = ks m c ⟨r.val / 4096, by omega⟩ (place ⟨r.val % 4096, by omega⟩ x) ⟨l.val / 128, by omega⟩ ⟨l.val % 64, by omega⟩ := by
  have hN : t.val < 32 := lt_of_lt_of_eq t.isLt points
  have e := row_eq t.val i.val x hN i.isLt r hr
  have hb := (place ⟨r.val % 4096, by omega⟩ x).isLt
  rw [keys_apply]
  split
  · next h =>
    change 128 * (i.val / 128) + x.val < 128 at h
    rw [if_pos h] at e
    rw [read_2, host_k]
    exact congrArg (m ((c : Thread nD τ).loc _)) (congrArg₂ (ix4 · · _ _) (Fin.ext (by simp only []; omega)) (Fin.ext (by simp only []; omega)))
  · next h =>
    change ¬ 128 * (i.val / 128) + x.val < 128 at h
    rw [if_neg h] at e
    rw [read_1, host_k]
    exact congrArg (m ((c : Thread nD τ).loc _)) (congrArg₂ (ix4 · · _ _) (Fin.ext (by simp only []; omega)) (Fin.ext (by simp only []; omega)))

/-- A value, by the position it is at. -/
theorem value_at (i : Fin 512) (x : Fin 256) (l : Fin 512) (r : Fin 16384) (hr : r.val = 512 * t.val + i.val) :
    k0_pay154 (F := Ideal) (grid0.coords t) (iblk m c 0 t) (iblk m c 1 t) (iblk m c 2 t) (iblk m c 3 t) (iblk m c 4 t) (iblk m c 5 t)
        (ix2 ⟨128 * (i.val / 128) + x.val, by omega⟩ l)
      = vs m c ⟨r.val / 4096, by omega⟩ (place ⟨r.val % 4096, by omega⟩ x) ⟨l.val / 128, by omega⟩ ⟨l.val % 64, by omega⟩ := by
  have hN : t.val < 32 := lt_of_lt_of_eq t.isLt points
  have e := row_eq t.val i.val x hN i.isLt r hr
  have hb := (place ⟨r.val % 4096, by omega⟩ x).isLt
  rw [values_apply]
  split
  · next h =>
    change 128 * (i.val / 128) + x.val < 128 at h
    rw [if_pos h] at e
    rw [read_4, host_v]
    exact congrArg (m ((c : Thread nD τ).loc _)) (congrArg₂ (ix4 · · _ _) (Fin.ext (by simp only []; omega)) (Fin.ext (by simp only []; omega)))
  · next h =>
    change ¬ 128 * (i.val / 128) + x.val < 128 at h
    rw [if_neg h] at e
    rw [read_3, host_v]
    exact congrArg (m ((c : Thread nD τ).loc _)) (congrArg₂ (ix4 · · _ _) (Fin.ext (by simp only []; omega)) (Fin.ext (by simp only []; omega)))

/-- Whether the step is its sequence's first. -/
theorem first_iff : firstWord (grid0.coords t) = 1#1 ↔ t.val % 8 = 0 := by
  unfold firstWord
  rw [steps]
  change IntOp.cmpi .eq _ _ = 1#1 ↔ _
  rw [show (0#32) = BitVec.ofNat 32 0 from rfl, cmpi_eq_ofNat (by omega) (by omega)]
  by_cases h : t.val % 8 = 0 <;> simp [h]

/-- The block a step writes is its part of the result. -/
theorem step_block (i : Fin 512) (j : Fin 1024) (r : Fin 16384) (hr : r.val = 512 * t.val + i.val) :
    out0_6 (F := Ideal) (grid0.coords t) (iblk m c 0 t) (iblk m c 1 t) (iblk m c 2 t) (iblk m c 3 t) (iblk m c 4 t) (iblk m c 5 t) (ix2 i j)
      = result m c r j := by
  have hN : t.val < 32 := lt_of_lt_of_eq t.isLt points
  rw [out_apply]
  change block _ _ _ _ _ i j = _
  unfold result block AttnSpec.scores
  have e1 : (firstWord (grid0.coords t) = 1#1 ∧ i.val < 128) = (r.val % 4096 < 128) := propext (by rw [first_iff]; omega)
  have e2 : i.val % 128 = (r.val % 4096) % 128 := by omega
  congr 1
  · congr 1
    · exact congrArg₂ Seen e1 e2
    · funext d
      refine (read_0 m c t _ _).trans ((host_q m c _ _).trans ?_)
      refine congrArg (m ((c : Thread nD τ).loc _)) ?_
      blk_ext []
    · funext x d
      refine (key_at m c t i x _ r hr).trans ?_
      refine congrArg₂ (ks m c _ _) (Fin.ext ?_) (Fin.ext ?_) <;> simp only [] <;> (change _ = _) <;> omega
  · funext x
    refine (value_at m c t i x _ r hr).trans ?_
    refine congrArg₂ (vs m c _ _) (Fin.ext ?_) (Fin.ext ?_) <;> simp only [] <;> (change _ = _) <;> omega
  · refine (read_5 m c t _ _).trans ((host_s m c _ _).trans ?_)
    refine congrArg (m ((c : Thread nD τ).loc _)) ?_
    blk_ext []

/-- The array. -/
theorem array_eq : (dats m 0 c).arrAt 6 cfg0.N = fun y : S16384x1024.Idx => result m c (y 0) (y 1) :=
  (dats m 0 c).arrAt_eq_of_covers 6 _ (by decide +kernel) fun t hf y => by
    have hp := places t
    have hN : t.val < 32 := lt_of_lt_of_eq t.isLt points
    change (dats m 0 c).after 6 t ((cfg0.win 6).xinj (cfg0.grid.coords t) y) = _
    rw [after0_6]
    generalize hz : ((cfg0.win 6).xinj (cfg0.grid.coords t) y) = z
    change S512x1024.Idx at z
    idx_vars z
    have h0 := congrArg (fun z : S512x1024.Idx => (z 0).val) hz
    have h1 := congrArg (fun z : S512x1024.Idx => (z 1).val) hz
    refine (step_block m c t z0 z1 (((cfg0.win 6).blk t).view.emb y 0) ?_).trans (congrArg (result m c _) (Fin.ext ?_))
    · blk_simp [hp]
      have e : (y 0).val = z0.val := h0
      omega
    · blk_simp [hp]
      exact h1.symm

end Cert.KernelIdeal.Attn

end
-- ==== Proof.AttnRead.lean ====
/-
  The reference's stages read at an index, each from the stage before it: the padded windows of keys and of values, the
  scores joined with the sinks, their maxima and sums, and the result.
-/
module

public import proofs.«01_k».proof.Proof.AttnSpec
public import proofs.«01_k».proof.Proof.Gen.ReferenceIdeal.Read
public import Idealize.ShloMosaic.Lib.Pointwise

@[expose] public section

set_option maxRecDepth 16384

noncomputable section

namespace Cert.ReferenceIdeal.Attn

open Cert.ReferenceIdeal Cert.ReferenceIdeal.Gen Cert.ReferenceIdeal.Read
open Idealize.ShloMosaic

/-- The type of the queries. -/
abbrev Queries : Type := (⟨S4x4096x16x64, .bf16⟩ : BufTy).Contents (Elt Ideal)

/-- The type of the keys, and of the values. -/
abbrev Keys : Type := (⟨S4x4096x4x64, .bf16⟩ : BufTy).Contents (Elt Ideal)

/-- The type of the sinks. -/
abbrev Sinks : Type := (⟨S2x16, .f32⟩ : BufTy).Contents (Elt Ideal)

/-- A block's window of keys: the block before (nothing before the first one), then the block. -/
theorem keys_apply (x1 : Keys) (B : Fin 128) (x : Fin 256) (g : Fin 4) (d : Fin 64) :
    val_main_v8 (F := Ideal) x1 (ix4 B x g d)
      = if _h : x.val < 128 then
          (if h : B.val / 32 < 4 ∧ 128 ≤ B.val % 32 * 128 + x.val ∧ B.val % 32 * 128 + x.val - 128 < 4096 then
            x1 (ix4 ⟨B.val / 32, h.1⟩ ⟨B.val % 32 * 128 + x.val - 128, h.2.2⟩ g d)
          else (FloatOps.sitofp (F := Ideal) .f32 0#32 : EReal))
        else x1 (ix4 ⟨B.val / 32, by omega⟩ ⟨B.val % 32 * 128 + (x.val - 128), by omega⟩ g d) := by
  pointwise [val_main_v8, val_main_v6, val_main_v7, val_main_v5, val_main_v4, val_main_v1, val_main_call0_v0, val_main_c]

/-- A block's window of values, likewise. -/
theorem values_apply (x2 : Keys) (B : Fin 128) (x : Fin 256) (g : Fin 4) (d : Fin 64) :
    val_main_v13 (F := Ideal) x2 (ix4 B x g d)
      = if _h : x.val < 128 then
          (if h : B.val / 32 < 4 ∧ 128 ≤ B.val % 32 * 128 + x.val ∧ B.val % 32 * 128 + x.val - 128 < 4096 then
            x2 (ix4 ⟨B.val / 32, h.1⟩ ⟨B.val % 32 * 128 + x.val - 128, h.2.2⟩ g d)
          else (FloatOps.sitofp (F := Ideal) .f32 0#32 : EReal))
        else x2 (ix4 ⟨B.val / 32, by omega⟩ ⟨B.val % 32 * 128 + (x.val - 128), by omega⟩ g d) := by
  pointwise [val_main_v13, val_main_v11, val_main_v12, val_main_v10, val_main_v9, val_main_v2, val_main_call1_v0, val_main_c_0]

/-- The mask, from the index words of row and place. -/
theorem mask_apply (B : Fin 128) (r : Fin 128) (x : Fin 256) :
    val_main_v50 (F := Ideal) (ix3 B r x)
      = IntOp.andi
          (IntOp.andi
            (IntOp.cmpi .sge (IntOp.subi (IntOp.addi (BitVec.ofNat 32 r.val) 128#32) (BitVec.ofNat 32 x.val)) 0#32)
            (IntOp.cmpi .slt (IntOp.subi (IntOp.addi (BitVec.ofNat 32 r.val) 128#32) (BitVec.ofNat 32 x.val)) 128#32))
          (IntOp.cmpi .sge
            (IntOp.subi (IntOp.addi (IntOp.muli (BitVec.ofNat 32 (B.val % 32)) 128#32) (BitVec.ofNat 32 x.val)) 128#32)
            0#32) := by
  pointwise [val_main_v50, val_main_v49, val_main_v48, val_main_v47, val_main_v46, val_main_v45, val_main_v44, val_main_v43,
    val_main_v42, val_main_v41, val_main_v40, val_main_v39, val_main_v38, val_main_v37, val_main_v36, val_main_v35,
    val_main_v34, val_main_v33, val_main_v32, val_main_v31, val_main_v30, val_main_v29, val_main_v28, val_main_v27,
    val_main_v26, val_main_v25, val_main_v24, val_main_v23, val_main_v22, val_main_v21, val_main_v20, val_main_v19,
    val_main_v18, val_main_c_1, val_main_c_2, val_main_c_3, val_main_c_4, val_main_c_5, val_main_c_6]

/-- The masked scores, from the windows of keys and the mask. -/
theorem scores_apply (x0 : Queries) (x1 : Keys) (B : Fin 128) (g e : Fin 4) (r : Fin 128) (x : Fin 256) :
    val_main_v52 (F := Ideal) x0 x1 (ix5 B g e r x)
      = Scalar.select (val_main_v50 (F := Ideal) (ix3 B r x))
          ((∑ d : Fin 64, val_main_v8 (F := Ideal) x1 (ix4 B x g d)
            * x0 (ix4 ⟨B.val / 32, by omega⟩ ⟨B.val % 32 * 128 + r.val, by omega⟩ ⟨g.val * 4 + e.val, by omega⟩ d))
              * Ideal.ofBits .f32 0x3E000000#32)
          (Ideal.ofBits .f32 0xFF800000#32) := by
  unfold val_main_v52 val_main_call2_v2 val_main_call2_v1 val_main_call2_v0 val_main_v51 val_main_v17 val_main_v16 val_main_v15
    val_main_v14 val_main_v3 val_main_v0
  generalize val_main_v50 (F := Ideal) = m
  generalize val_main_v8 (F := Ideal) x1 = y
  pointwise [val_main_cst, val_main_cst_7]
  rfl

/-- The scores of a row, its head's sink after them. -/
theorem joined_apply (x0 : Queries) (x1 : Keys) (x3 : Sinks) (B : Fin 128) (g e : Fin 4) (r : Fin 128) (x : Fin 257) :
    val_main_v58 (F := Ideal) x0 x1 x3 (ix5 B g e r x)
      = if h : x.val < 256 then val_main_v52 (F := Ideal) x0 x1 (ix5 B g e r ⟨x.val, h⟩)
        else x3 (ix2 0 ⟨g.val * 4 + e.val, by omega⟩) := by
  unfold val_main_v58
  generalize val_main_v52 (F := Ideal) x0 x1 = y
  pointwise [val_main_v57, val_main_v56, val_main_v55, val_main_v54, val_main_v53]

/-- A row's scores and its sink are along the last axis of what the maximum is taken of. -/
theorem lastReduces : S128x4x4x128x257.Reduces [4] S128x4x4x128 := by decide

theorem lift_last (j : S128x4x4x128.Idx) (x : Fin 257) : lastReduces.lift j x = ix5 (j 0) (j 1) (j 2) (j 3) x := by
  funext a
  fin_cases a <;> rfl

/-- The maximum along that axis, read at an index. -/
theorem fold_last (y : S128x4x4x128x257.Idx → EReal) (c : S_.Idx → EReal) (j : S128x4x4x128.Idx) :
    Host.reduce (max : EReal → EReal → EReal) y c reducesTo_S128x4x4x128x257_S128x4x4x128_d4 h_S_ j
      = Finset.univ.fold max (c (Shape.Idx.first h_S_)) fun x : Fin 257 => y (ix5 (j 0) (j 1) (j 2) (j 3) x) := by
  rw [Host.reduce_eq_fold_single (max : EReal → EReal → EReal) y c _ lastReduces h_S_ j]
  congr 1
  funext x
  exact congrArg y (lift_last j x)

theorem fold_rows (y : S128x4x4x128x257.Idx → EReal) (B : Fin 128) (g e : Fin 4) (r : Fin 128) :
    Host.reduce (FloatOps.maximumf (F := Ideal) (φ := .f32)) y (val_main_cst_8 (F := Ideal))
        reducesTo_S128x4x4x128x257_S128x4x4x128_d4 h_S_ (ix4 B g e r)
      = Finset.univ.fold max ⊥ fun x : Fin 257 => y (ix5 B g e r x) := by
  have h := fold_last y (val_main_cst_8 (F := Ideal)) (ix4 B g e r)
  rw [show val_main_cst_8 (F := Ideal) (Shape.Idx.first h_S_) = (⊥ : EReal) from Consts.neg_inf] at h
  exact h

/-- The maximum of a row's scores and its sink. -/
theorem top_apply (x0 : Queries) (x1 : Keys) (x3 : Sinks) (B : Fin 128) (g e : Fin 4) (r : Fin 128) :
    val_main_v61 (F := Ideal) x0 x1 x3 (ix4 B g e r)
      = max ⊥ (Finset.univ.fold max ⊥ fun x : Fin 257 => val_main_v58 (F := Ideal) x0 x1 x3 (ix5 B g e r x)) := by
  rw [val_main_v61_apply]
  refine congrArg₂ max Consts.neg_inf ?_
  exact fold_rows (val_main_v58 (F := Ideal) x0 x1 x3) B g e r

/-- The sum of the exponentials over the row's scores and its sink. -/
theorem total_apply (x0 : Queries) (x1 : Keys) (x3 : Sinks) (B : Fin 128) (g e : Fin 4) (r : Fin 128) :
    val_main_v66 (F := Ideal) x0 x1 x3 (ix4 B g e r)
      = ∑ x : Fin 257, Ideal.exp (val_main_v58 (F := Ideal) x0 x1 x3 (ix5 B g e r x)
          - val_main_v61 (F := Ideal) x0 x1 x3 (ix4 B g e r)) := by
  unfold val_main_v66 val_main_v65 val_main_v64 val_main_v63 val_main_v62
  generalize val_main_v58 (F := Ideal) x0 x1 x3 = y
  generalize val_main_v61 (F := Ideal) x0 x1 x3 = z
  pointwise [val_main_cst_10]

/-- The result at a row of tokens and a lane of heads. -/
theorem result_apply (x0 : Queries) (x1 x2 : Keys) (x3 : Sinks) (R : Fin 16384) (C : Fin 1024) :
    val_main_v74 (F := Ideal) x0 x1 x2 x3 (ix2 R C)
      = ∑ x : Fin 256,
          val_main_v13 (F := Ideal) x2
              (ix4 ⟨R.val / 128, by omega⟩ x ⟨C.val / 256, by omega⟩ ⟨C.val % 64, by omega⟩)
            * Ideal.div
                (Ideal.exp (val_main_v58 (F := Ideal) x0 x1 x3
                    (ix5 ⟨R.val / 128, by omega⟩ ⟨C.val / 256, by omega⟩ ⟨C.val / 64 % 4, by omega⟩
                      ⟨R.val % 128, by omega⟩ ⟨x.val, by omega⟩)
                  - val_main_v61 (F := Ideal) x0 x1 x3
                    (ix4 ⟨R.val / 128, by omega⟩ ⟨C.val / 256, by omega⟩ ⟨C.val / 64 % 4, by omega⟩
                      ⟨R.val % 128, by omega⟩)))
                (val_main_v66 (F := Ideal) x0 x1 x3
                  (ix4 ⟨R.val / 128, by omega⟩ ⟨C.val / 256, by omega⟩ ⟨C.val / 64 % 4, by omega⟩
                    ⟨R.val % 128, by omega⟩)) := by
  unfold val_main_v74 val_main_v73 val_main_v72 val_main_v71 val_main_v70 val_main_v69 val_main_v68 val_main_v67
    val_main_v65 val_main_v64 val_main_v63 val_main_v62
  generalize val_main_v58 (F := Ideal) x0 x1 x3 = y
  generalize val_main_v61 (F := Ideal) x0 x1 x3 = z
  generalize val_main_v66 (F := Ideal) x0 x1 x3 = w
  generalize val_main_v13 (F := Ideal) x2 = v
  pointwise []

end Cert.ReferenceIdeal.Attn
-- ==== Proof.AttnMask.lean ====
/-
  The reference's mask: the words it compares are small, so the mask is one exactly where the query sees the key.
-/
module

public import proofs.«01_k».proof.Proof.AttnRead
public import Idealize.ShloMosaic.Lib.WordCmp

@[expose] public section

noncomputable section

namespace Cert.ReferenceIdeal.Attn

open Cert.ReferenceIdeal Cert.ReferenceIdeal.Gen Cert.ReferenceIdeal.Read
open Idealize.ShloMosaic Idealize.ShloMosaic.WordCmp

/-- A small natural number's word, as an integer. -/
theorem word_toInt (a : ℕ) (h : a < 100000) : (BitVec.ofNat 32 a).toInt = a := by
  rw [BitVec.toInt_eq_toNat_of_lt] <;> rw [BitVec.toNat_ofNat] <;> omega

/-- The difference of two such words is the integers' difference. -/
theorem sub_toInt (a b : ℕ) (ha : a < 100000) (hb : b < 100000) :
    (IntOp.subi (BitVec.ofNat 32 a) (BitVec.ofNat 32 b)).toInt = (a : ℤ) - b := by
  change (BitVec.ofNat 32 a - BitVec.ofNat 32 b).toInt = _
  rw [BitVec.toInt_sub, word_toInt a ha, word_toInt b hb]
  simp only [Int.bmod]
  omega

theorem sub_sge (a b : ℕ) (ha : a < 100000) (hb : b < 100000) :
    IntOp.cmpi .sge (IntOp.subi (BitVec.ofNat 32 a) (BitVec.ofNat 32 b)) 0#32 = BitVec.ofBool (decide (b ≤ a)) := by
  simp only [IntOp.cmpi, BitVec.sle, sub_toInt a b ha hb]
  congr 1
  simp only [decide_eq_decide, BitVec.toInt_zero]
  omega

theorem sub_slt (a b c : ℕ) (ha : a < 100000) (hb : b < 100000) (hc : c < 100000) :
    IntOp.cmpi .slt (IntOp.subi (BitVec.ofNat 32 a) (BitVec.ofNat 32 b)) (BitVec.ofNat 32 c)
      = BitVec.ofBool (decide (a < b + c)) := by
  simp only [IntOp.cmpi, BitVec.slt, sub_toInt a b ha hb, word_toInt c hc]
  congr 1
  simp only [decide_eq_decide]
  omega

/-- The mask at row `r` of a block and place `x` of its window. -/
theorem mask_eq (B : Fin 128) (r : Fin 128) (x : Fin 256) :
    val_main_v50 (F := Ideal) (ix3 B r x)
      = BitVec.ofBool (decide (r.val < x.val ∧ x.val ≤ r.val + 128 ∧ 128 ≤ B.val % 32 * 128 + x.val)) := by
  rw [mask_apply]
  change IntOp.andi (IntOp.andi
      (IntOp.cmpi .sge (IntOp.subi (IntOp.addi (BitVec.ofNat 32 r.val) (BitVec.ofNat 32 128)) (BitVec.ofNat 32 x.val)) 0#32)
      (IntOp.cmpi .slt (IntOp.subi (IntOp.addi (BitVec.ofNat 32 r.val) (BitVec.ofNat 32 128)) (BitVec.ofNat 32 x.val))
        (BitVec.ofNat 32 128)))
    (IntOp.cmpi .sge (IntOp.subi
      (IntOp.addi (IntOp.muli (BitVec.ofNat 32 (B.val % 32)) (BitVec.ofNat 32 128)) (BitVec.ofNat 32 x.val))
      (BitVec.ofNat 32 128)) 0#32) = _
  rw [addi_ofNat, muli_ofNat, addi_ofNat, sub_sge _ _ (by omega) (by omega),
    sub_slt _ _ _ (by omega) (by omega) (by omega), sub_sge _ _ (by omega) (by omega), andi_ofBool,
    andi_ofBool]
  congr 1
  rw [← Bool.decide_and, ← Bool.decide_and, decide_eq_decide]
  omega

end Cert.ReferenceIdeal.Attn
-- ==== Proof.AttnRef.lean ====
/-
  The reference's result at a row and a lane is the attention of that row's query with that lane's head.
-/
module

public import proofs.«01_k».proof.Proof.AttnMask

@[expose] public section

noncomputable section

namespace Cert.ReferenceIdeal.Attn

open Cert.ReferenceIdeal Cert.ReferenceIdeal.Gen Cert.ReferenceIdeal.Read
open Idealize.ShloMosaic Idealize.ShloMosaic.WordCmp

/-- A key of the window that is seen is the key at its place in the sequence. -/
theorem window_seen (y : Fin 4 → Fin 4096 → EReal) (z : EReal) (B : Fin 128) (r : Fin 128) (x : Fin 256)
    (hx : 128 ≤ B.val % 32 * 128 + x.val) :
    (if _h : x.val < 128 then
        (if h : B.val / 32 < 4 ∧ 128 ≤ B.val % 32 * 128 + x.val ∧ B.val % 32 * 128 + x.val - 128 < 4096 then
          y ⟨B.val / 32, h.1⟩ ⟨B.val % 32 * 128 + x.val - 128, h.2.2⟩
        else z)
      else y ⟨B.val / 32, by omega⟩ ⟨B.val % 32 * 128 + (x.val - 128), by omega⟩)
      = y ⟨B.val / 32, by omega⟩ (AttnSpec.place ⟨B.val % 32 * 128 + r.val, by omega⟩ x) := by
  have hp : ∀ n (hn : n < 4096), n = B.val % 32 * 128 + x.val - 128 →
      (⟨n, hn⟩ : Fin 4096) = AttnSpec.place ⟨B.val % 32 * 128 + r.val, by omega⟩ x := by
    intro n hn e
    apply Fin.ext
    change n = if B.val % 32 * 128 + r.val < 128 ∧ x.val < 128 then x.val
      else 128 * ((B.val % 32 * 128 + r.val) / 128) + x.val - 128
    rw [if_neg (by omega)]
    omega
  by_cases h : x.val < 128
  · rw [dif_pos h, dif_pos (by omega)]
    exact congrArg _ (hp _ _ rfl)
  · rw [dif_neg h]
    exact congrArg _ (hp _ _ (by omega))

/-- The masked scores are the attention's. -/
theorem scores_eq (x0 : Queries) (x1 : Keys) (B : Fin 128) (g e : Fin 4) (r : Fin 128) (x : Fin 256) :
    val_main_v52 (F := Ideal) x0 x1 (ix5 B g e r x)
      = AttnSpec.scores (fun b p h d => x0 (ix4 b p h d)) (fun b p h d => x1 (ix4 b p h d)) ⟨B.val / 32, by omega⟩
          ⟨B.val % 32 * 128 + r.val, by omega⟩ ⟨g.val * 4 + e.val, by omega⟩ x := by
  rw [scores_apply, mask_eq, select_ofBool, Consts.eighth, Consts.neg_inf]
  unfold AttnSpec.scores AttnSpec.score
  have hs : AttnSpec.Seen (B.val % 32 * 128 + r.val < 128) ((B.val % 32 * 128 + r.val) % 128) x
      ↔ r.val < x.val ∧ x.val ≤ r.val + 128 ∧ 128 ≤ B.val % 32 * 128 + x.val := by
    unfold AttnSpec.Seen
    omega
  by_cases hx : r.val < x.val ∧ x.val ≤ r.val + 128 ∧ 128 ≤ B.val % 32 * 128 + x.val
  · rw [decide_eq_true hx, if_pos rfl, if_pos (hs.mpr hx)]
    refine congrArg (· * ((1 / 8 : ℝ) : EReal)) (Finset.sum_congr rfl fun d _ => ?_)
    rw [keys_apply, window_seen (fun b p => x1 (ix4 b p g d)) _ B r x hx.2.2]
    have hg : (⟨(g.val * 4 + e.val) / 4, by omega⟩ : Fin 4) = g := Fin.ext (by simp only; omega)
    rw [hg]
  · rw [decide_eq_false hx, if_neg (by simp), if_neg (fun h => hx (hs.mp h))]

/-- A maximum over 257 entries is the maximum over the first 256 and the last. -/
theorem fold_succ (f : Fin 257 → EReal) :
    Finset.univ.fold max ⊥ f = max (Finset.univ.fold max ⊥ fun x : Fin 256 => f x.castSucc) (f (Fin.last 256)) := by
  rw [Fin.univ_castSuccEmb, Finset.fold_cons, Finset.fold_map, max_comm]
  rfl

section Row

variable (x0 : Queries) (x1 : Keys) (x3 : Sinks) (B : Fin 128) (g e : Fin 4) (r : Fin 128)

/-- The scores of a row of a block. -/
def row : Fin 256 → EReal :=
  AttnSpec.scores (fun b p h d => x0 (ix4 b p h d)) (fun b p h d => x1 (ix4 b p h d)) ⟨B.val / 32, by omega⟩
    ⟨B.val % 32 * 128 + r.val, by omega⟩ ⟨g.val * 4 + e.val, by omega⟩

/-- The sink of a row of a block. -/
def sink : EReal := x3 (ix2 0 ⟨g.val * 4 + e.val, by omega⟩)

theorem joined_score (x : Fin 256) (h : x.val < 257) :
    val_main_v58 (F := Ideal) x0 x1 x3 (ix5 B g e r ⟨x.val, h⟩) = row x0 x1 B g e r x := by
  rw [joined_apply, dif_pos x.isLt]
  exact scores_eq x0 x1 B g e r x

theorem joined_sink :
    val_main_v58 (F := Ideal) x0 x1 x3 (ix5 B g e r (Fin.last 256)) = sink x3 g e := by
  rw [joined_apply, dif_neg (by simp)]
  rfl

theorem top_eq :
    val_main_v61 (F := Ideal) x0 x1 x3 (ix4 B g e r) = AttnSpec.top (row x0 x1 B g e r) (sink x3 g e) := by
  rw [top_apply, fold_succ, joined_sink, max_eq_right bot_le]
  unfold AttnSpec.top
  refine congrArg (max · _) ?_
  congr 1
  funext x
  exact joined_score x0 x1 x3 B g e r x _

theorem total_eq :
    val_main_v66 (F := Ideal) x0 x1 x3 (ix4 B g e r) = AttnSpec.total (row x0 x1 B g e r) (sink x3 g e) := by
  rw [total_apply, Fin.sum_univ_castSucc, joined_sink, top_eq]
  unfold AttnSpec.total
  refine congrArg (· + _) (Finset.sum_congr rfl fun x _ => ?_)
  exact congrArg (fun a => Ideal.exp (a - _)) (joined_score x0 x1 x3 B g e r x _)

end Row

/-- A window's value that is seen is the value at its place. -/
theorem value_seen (x2 : Keys) (B : Fin 128) (r : Fin 128) (x : Fin 256) (g : Fin 4) (d : Fin 64)
    (hx : 128 ≤ B.val % 32 * 128 + x.val) :
    val_main_v13 (F := Ideal) x2 (ix4 B x g d)
      = x2 (ix4 ⟨B.val / 32, by omega⟩ (AttnSpec.place ⟨B.val % 32 * 128 + r.val, by omega⟩ x) g d) := by
  rw [values_apply, window_seen (fun b p => x2 (ix4 b p g d)) _ B r x hx]

/-- The result from a row's scores. -/
theorem result_row (x0 : Queries) (x1 x2 : Keys) (x3 : Sinks) (R : Fin 16384) (C : Fin 1024) :
    val_main_v74 (F := Ideal) x0 x1 x2 x3 (ix2 R C)
      = AttnSpec.out
          (row x0 x1 ⟨R.val / 128, by omega⟩ ⟨C.val / 256, by omega⟩ ⟨C.val / 64 % 4, by omega⟩ ⟨R.val % 128, by omega⟩)
          (fun x => val_main_v13 (F := Ideal) x2
            (ix4 ⟨R.val / 128, by omega⟩ x ⟨C.val / 256, by omega⟩ ⟨C.val % 64, by omega⟩))
          (sink x3 ⟨C.val / 256, by omega⟩ ⟨C.val / 64 % 4, by omega⟩) := by
  rw [result_apply, top_eq, total_eq]
  unfold AttnSpec.out
  refine Finset.sum_congr rfl fun x _ => ?_
  rw [joined_score]

/-- Where queries, keys and sinks are finite, the reference's result is the attention, its values read in their places. -/
theorem result_eq (x0 : Queries) (x1 x2 : Keys) (x3 : Sinks) (h0 : ∀ i, ∃ t : ℝ, x0 i = t) (h1 : ∀ i, ∃ t : ℝ, x1 i = t)
    (h3 : ∀ i, ∃ t : ℝ, x3 i = t) (R : Fin 16384) (C : Fin 1024) :
    val_main_v74 (F := Ideal) x0 x1 x2 x3 (ix2 R C)
      = AttnSpec.out
          (AttnSpec.scores (fun b p h d => x0 (ix4 b p h d)) (fun b p h d => x1 (ix4 b p h d)) ⟨R.val / 4096, by omega⟩
            ⟨R.val % 4096, by omega⟩ ⟨C.val / 64, by omega⟩)
          (fun x => x2 (ix4 ⟨R.val / 4096, by omega⟩ (AttnSpec.place ⟨R.val % 4096, by omega⟩ x) ⟨C.val / 256, by omega⟩
            ⟨C.val % 64, by omega⟩))
          (x3 (ix2 0 ⟨C.val / 64, by omega⟩)) := by
  have eb : (⟨R.val / 128 / 32, by omega⟩ : Fin 4) = ⟨R.val / 4096, by omega⟩ := Fin.ext (by simp only; omega)
  have ep : (⟨R.val / 128 % 32 * 128 + R.val % 128, by omega⟩ : Fin 4096) = ⟨R.val % 4096, by omega⟩ :=
    Fin.ext (by simp only; omega)
  have eh : (⟨C.val / 256 * 4 + C.val / 64 % 4, by omega⟩ : Fin 16) = ⟨C.val / 64, by omega⟩ :=
    Fin.ext (by simp only; omega)
  rw [result_row]
  have hrow : row x0 x1 ⟨R.val / 128, by omega⟩ ⟨C.val / 256, by omega⟩ ⟨C.val / 64 % 4, by omega⟩ ⟨R.val % 128, by omega⟩
      = AttnSpec.scores (fun b p h d => x0 (ix4 b p h d)) (fun b p h d => x1 (ix4 b p h d)) ⟨R.val / 4096, by omega⟩
            ⟨R.val % 4096, by omega⟩ ⟨C.val / 64, by omega⟩ := by
    unfold row
    rw [eb, ep, eh]
  have hsink : sink x3 ⟨C.val / 256, by omega⟩ ⟨C.val / 64 % 4, by omega⟩ = x3 (ix2 0 ⟨C.val / 64, by omega⟩) := by
    unfold sink
    rw [eh]
  rw [hrow, hsink]
  refine AttnSpec.out_congr
    (fun x => AttnSpec.score_low _ (fun d => h0 _) x fun _ d => h1 _) (h3 _) fun x hx => ?_
  have hs := AttnSpec.seen_of_score hx
  have hv := value_seen x2 ⟨R.val / 128, by omega⟩ ⟨R.val % 128, by omega⟩ x ⟨C.val / 256, by omega⟩ ⟨C.val % 64, by omega⟩
    (by
      unfold AttnSpec.Seen at hs
      simp only at hs ⊢
      omega)
  rw [hv]
  simp only [eb, ep]

end Cert.ReferenceIdeal.Attn
-- ==== Proof.AttnFinite.lean ====
/-
  The precondition's word, read back: all ones says that every query, key and sink is a real number.
-/
module

public import proofs.«01_k».proof.Proof.Gen.Pre_finite
public import Idealize.ShloMosaic.Lib.ReduceAll
public import Idealize.ShloMosaic.Lib.Affine
public import Idealize.ShloMosaic.Lib.IdealHost
public import Idealize.ShloMosaic.Lib.Pointwise

@[expose] public section

noncomputable section

namespace Cert.Pre_finite.Attn

open Cert.Pre_finite Cert.Pre_finite.Gen
open Idealize.ShloMosaic

/-- The pattern of infinity. -/
theorem inf : Ideal.ofBits .f32 0x7F800000#32 = ⊤ := by
  simp [Ideal.ofBits, Ideal.ieee]

/-- What is below infinity with its negative is a real number. -/
theorem real_of_abs (a : EReal) (h : Ideal.cmp .olt (max a (-a)) (Ideal.ofBits .f32 0x7F800000#32) = 1#1) :
    ∃ t : ℝ, a = t := by
  rw [inf] at h
  have hlt : max a (-a) < ⊤ := by
    by_contra hn
    simp [Ideal.cmp, hn] at h
  induction a with
  | bot => exact absurd hlt (by simp)
  | top => exact absurd hlt (by simp)
  | coe t => exact ⟨t, rfl⟩

instance : Subsingleton S_.Idx := ⟨fun a b => funext fun k => Fin.elim0 k⟩

/-- All ones over an array whose elements are compared with infinity says that every one is a real number. -/
theorem reals {s : Shape} {axes : List (Fin s.rank)} (x : s.Idx → EReal) (p : s.Idx → BitVec 1) (init : S_.Idx → BitVec 1)
    (h : s.ReducesTo axes S_) (e : Host.reduce IntOp.andi p init h h_S_ ix0 = 1#1)
    (hp : ∀ i, p i = Ideal.cmp .olt (max (x i) (-x i)) (Ideal.ofBits .f32 0x7F800000#32)) (i : s.Idx) :
    ∃ t : ℝ, x i = t :=
  real_of_abs _ ((hp i).symm.trans (Host.reduce_andi_all p init h h_S_ ix0 e i))

attribute [local instance] Cert.Pre_finite.Gen.facts

/-- Under the precondition every query, key and sink is a real number. -/
theorem finite (x0 : FVec Ideal S4x4096x16x64 .bf16) (x1 x2 : FVec Ideal S4x4096x4x64 .bf16) (x3 : FVec Ideal S2x16 .f32)
    (h : Cert.Pre_finite.fn (F := Ideal) x0 x1 x2 x3 = fun _ => 1#1) :
    (∀ i, ∃ t : ℝ, x0 i = t) ∧ (∀ i, ∃ t : ℝ, x1 i = t) ∧ ∀ i, ∃ t : ℝ, x3 i = t := by
  have e := congrFun h ix0
  unfold Cert.Pre_finite.fn at e
  obtain ⟨e', e3⟩ := IntOp.andi_eq_one.1 e
  obtain ⟨e0, e1⟩ := IntOp.andi_eq_one.1 e'
  exact ⟨reals x0 _ _ _ e0 fun i => rfl, reals x1 _ _ _ e1 fun i => rfl, reals x3 _ _ _ e3 fun i => rfl⟩

end Cert.Pre_finite.Attn
-- ==== Proof.AttnClaim.lean ====
/-
  The attention kernel and its reference end with equal results, wherever queries, keys and sinks are finite.
-/
module

public import proofs.«01_k».proof.Defs
public import proofs.«01_k».proof.Proof.AttnValue
public import proofs.«01_k».proof.Proof.AttnRef
public import proofs.«01_k».proof.Proof.AttnFinite
public import proofs.«01_k».proof.Proof.Gen.ReferenceIdeal.Run
public import Idealize.ShloMosaic.Adequacy

@[expose] public section

set_option maxRecDepth 16384

noncomputable section

namespace Cert.KernelIdeal.Attn

open Idealize.ShloMosaic Idealize.ShloMosaic.TcCoe Idealize.SL.Sem

/-- The claim. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m ρ m' ρ' hpre hagree
  refine ⟨fun c => (Cert.KernelIdeal.Gen.dats m 0 c).arrAt 6 cfg0.N, Cert.KernelIdeal.Value.run_blocks (F := Ideal) m ρ,
    (θ_run _ _ _).mono (fun r h c => ?_) (Cert.ReferenceIdeal.Value.run (F := Ideal) m' ρ')⟩
  obtain ⟨h0, hk⟩ := h c
  obtain ⟨a0, a1, a2, a3⟩ := hagree c
  refine ⟨h0.trans ?_, hk⟩
  obtain ⟨f0, f1, f3⟩ := Cert.Pre_finite.Attn.finite _ _ _ _ (hpre c)
  rw [ReferenceIdeal.Read.val_main_v74_eq, a0, a1, a2, a3]
  refine Eq.trans ?_ (array_eq m c).symm
  refine funext fun (j : Cert.KernelIdeal.S16384x1024.Idx) => ?_
  idx_vars j
  refine (ReferenceIdeal.Attn.result_eq _ _ _ _ f0 f1 f3 j0 j1).trans ?_
  refine (AttnSpec.outRecip_eq_out (fun x => AttnSpec.score_low _ (fun d => f0 _) x fun _ d => f1 _) (f3 _)).symm

end Cert.KernelIdeal.Attn

end
-- ==== Proof.LastStep.lean ====
/-
  What one grid point of the last feed-forward kernel leaves in its output and in its carry, as the kernel's pure
  computations on the blocks it is given: at the first point of a row block, between, and at the last.
-/
module

public import proofs.«01_k».proof.Proof.Gen.LastIdeal.Frame
public import Idealize.ShloMosaic.Lib.Tactic
public import Idealize.ShloMosaic.Lib.Pipeline.Value

@[expose] public section

noncomputable section

namespace Cert.LastIdeal.Step

open Cert.LastIdeal Cert.LastIdeal.Gen Idealize.ShloMosaic

variable {F : FTy → Type} [FloatOps F] (c : Dev nD) (i : grid0.Coords)
  (arg2 : Memref sig .tc .vmem S1024x2048 .f32) (harg2 : arg2.IsWhole)
  (arg3 : Memref sig .tc .vmem S1x1x2048 .f32) (harg3 : arg3.IsWhole)
  (arg4 : Memref sig .tc .vmem S2048x512 .bf16) (harg4 : arg4.IsWhole)
  (arg5 : Memref sig .tc .vmem S2048x512 .bf16) (harg5 : arg5.IsWhole)
  (arg6 : Memref sig .tc .vmem S512x2048 .bf16) (harg6 : arg6.IsWhole)
  (arg7 : Memref sig .tc .vmem S1x2048 .f32) (harg7 : arg7.IsWhole)
  (arg8 : Memref sig .tc .vmem S1024x2048 .f32) (harg8 : arg8.IsWhole)
  (arg9 : Memref sig .tc .vmem S1024x2048 .bf16) (harg9 : arg9.IsWhole)
  (x0 : Vec F S1024x2048 .f32) (x1 : Vec F S1x1x2048 .f32) (x2 : Vec F S2048x512 .bf16) (x3 : Vec F S2048x512 .bf16) (x4 : Vec F S512x2048 .bf16)
  (x5 : Vec F S1x2048 .f32) (xo6 : Vec F S1024x2048 .f32) (xs0 : Vec F S1024x2048 .bf16)

theorem origin2 : (![0, 0] : Fin 2 → Nat) = fun _ => 0 := funext (by decide)

theorem origin3 : (![0, 0, 0] : Fin 3 → Nat) = fun _ => 0 := funext (by decide)

/-- The accumulator after a first point. -/
theorem out0_A_6_eq (hc0 : cond0_0 i) (hc1 : ¬ cond0_1 i) :
    out0_A_6 c i arg2 harg2 arg3 harg3 arg4 harg4 arg5 harg5 arg6 harg6 arg7 harg7 arg8 harg8 arg9 harg9 hc0 hc1 x0 x1 x2 x3 x4 x5
      = k0_pay2 (k0_pay1 x0 x1) x2 x3 x0 x4 := by
  unfold out0_A_6
  rw [View.read_writes_eq_canon _ _ _ (cover0_A_6 c i arg2 harg2 arg3 harg3 arg4 harg4 arg5 harg5 arg6 harg6 arg7 harg7 arg8 harg8 arg9 harg9 hc0 hc1 x0 x1 x2 x3 x4 x5)]
  unfold kernelRun0_A
  dsimp only
  sl_unfold_words
  rw [View.canon_cons_unit_zero (S := S1024x2048) origin2]
  simp only [View.readAt_eq_ld, harg2.read_unread, harg3.read_unread, harg4.read_unread, harg5.read_unread,
    harg6.read_unread, harg7.read_unread, harg8.read_unread, harg9.read_unread, View.ld_unit_zero (S := S1024x2048) origin2,
    View.ld_unit_zero (S := S2048x512) origin2, View.ld_unit_zero (S := S512x2048) origin2,
    View.ld_unit_zero (S := S1x2048) origin2, View.ld_unit_zero (S := S1x1x2048) origin3, shapeCast_self]
  rw [View.readCov_unit_zero (S := S1024x2048) _ origin2, View.readCov_unit_zero (S := S1024x2048) _ origin2]

/-- The carried normalized rows after a first point. -/
theorem sout0_A_0_eq (hc0 : cond0_0 i) (hc1 : ¬ cond0_1 i) :
    sout0_A_0 c i arg2 harg2 arg3 harg3 arg4 harg4 arg5 harg5 arg6 harg6 arg7 harg7 arg8 harg8 arg9 harg9 hc0 hc1 x0 x1 x2 x3 x4 x5
      = k0_pay1 x0 x1 := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3 x4 x5)]
  unfold kernelRun0_A
  dsimp only
  sl_unfold_words
  rw [View.canon_cons_unit_zero (S := S1024x2048) origin2]
  simp only [View.readAt_eq_ld, harg2.read_unread, harg3.read_unread, harg4.read_unread, harg5.read_unread,
    harg6.read_unread, harg7.read_unread, harg8.read_unread, harg9.read_unread, View.ld_unit_zero (S := S1024x2048) origin2,
    View.ld_unit_zero (S := S2048x512) origin2, View.ld_unit_zero (S := S512x2048) origin2,
    View.ld_unit_zero (S := S1x2048) origin2, View.ld_unit_zero (S := S1x1x2048) origin3, shapeCast_self]

/-- The accumulator after a point between. -/
theorem out0_B_6_eq (hc0 : ¬ cond0_0 i) (hc1 : ¬ cond0_1 i) :
    out0_B_6 c i arg2 harg2 arg3 harg3 arg4 harg4 arg5 harg5 arg6 harg6 arg7 harg7 arg8 harg8 arg9 harg9 hc0 hc1 x0 x1 x2 x3 x4 x5 xo6 xs0
      = k0_pay2 xs0 x2 x3 xo6 x4 := by
  unfold out0_B_6
  rw [View.read_writes_eq_canon _ _ _ (cover0_B_6 c i arg2 harg2 arg3 harg3 arg4 harg4 arg5 harg5 arg6 harg6 arg7 harg7 arg8 harg8 arg9 harg9 hc0 hc1 x0 x1 x2 x3 x4 x5 xo6 xs0)]
  unfold kernelRun0_B
  dsimp only
  sl_unfold_words
  rw [View.canon_cons_unit_zero (S := S1024x2048) origin2]
  simp only [View.readAt_eq_ld, harg2.read_unread, harg3.read_unread, harg4.read_unread, harg5.read_unread,
    harg6.read_unread, harg7.read_unread, harg8.read_unread, harg9.read_unread, View.ld_unit_zero (S := S1024x2048) origin2,
    View.ld_unit_zero (S := S2048x512) origin2, View.ld_unit_zero (S := S512x2048) origin2,
    View.ld_unit_zero (S := S1x2048) origin2, View.ld_unit_zero (S := S1x1x2048) origin3, shapeCast_self]

/-- The accumulator after a last point: normalized once more. -/
theorem out0_C_6_eq (hc0 : ¬ cond0_0 i) (hc1 : cond0_1 i) :
    out0_C_6 c i arg2 harg2 arg3 harg3 arg4 harg4 arg5 harg5 arg6 harg6 arg7 harg7 arg8 harg8 arg9 harg9 hc0 hc1 x0 x1 x2 x3 x4 x5 xo6 xs0
      = k0_pay3 (k0_pay2 xs0 x2 x3 xo6 x4) x5 := by
  unfold out0_C_6
  rw [View.read_writes_eq_canon _ _ _ (cover0_C_6 c i arg2 harg2 arg3 harg3 arg4 harg4 arg5 harg5 arg6 harg6 arg7 harg7 arg8 harg8 arg9 harg9 hc0 hc1 x0 x1 x2 x3 x4 x5 xo6 xs0)]
  unfold kernelRun0_C
  dsimp only
  sl_unfold_words
  rw [View.canon_cons_unit_zero (S := S1024x2048) origin2]
  simp only [View.readAt_eq_ld, harg2.read_unread, harg3.read_unread, harg4.read_unread, harg5.read_unread,
    harg6.read_unread, harg7.read_unread, harg8.read_unread, harg9.read_unread, View.ld_unit_zero (S := S1024x2048) origin2,
    View.ld_unit_zero (S := S2048x512) origin2, View.ld_unit_zero (S := S512x2048) origin2,
    View.ld_unit_zero (S := S1x2048) origin2, View.ld_unit_zero (S := S1x1x2048) origin3, shapeCast_self]
  rw [View.readCov_unit_zero (S := S1024x2048) _ origin2]

end Cert.LastIdeal.Step

end
-- ==== Proof.LastPay.lean ====
/-
  What the last feed-forward kernel's pure computations are worth at an index: the normalized row block, the
  accumulation of one stretch of 512 hidden columns, and the closing normalization of the finished rows.
-/
module

public import proofs.«01_k».proof.Proof.Gen.LastIdeal.Skeleton
public import Idealize.ShloMosaic.Lib.Pointwise

@[expose] public section

noncomputable section

namespace Cert.LastIdeal.Pay

open Cert.LastIdeal Cert.LastIdeal.Gen Idealize.ShloMosaic

/-- A row of the block, normalized by its root mean square. -/
theorem pay1_apply (x : Vec Ideal S1024x2048 .f32) (g : Vec Ideal S1x1x2048 .f32) (r : Fin 1024) (k : Fin 2048) :
    k0_pay1 x g (ix2 r k)
      = x (ix2 r k) * Ideal.rsqrt (Ideal.div (∑ k', x (ix2 r k') * x (ix2 r k')) (Ideal.ofBits .f32 0x45000000#32)
          + Ideal.ofBits .f32 0x3727C5AC#32) * g (ix3 0 0 k) := by
  pointwise [k0_pay1]

/-- The accumulator takes the image of the stretch's halved hidden units. -/
theorem pay2_apply (xn : Vec Ideal S1024x2048 .bf16) (wg wu : Vec Ideal S2048x512 .bf16) (o : Vec Ideal S1024x2048 .f32)
    (wd : Vec Ideal S512x2048 .bf16) (r : Fin 1024) (k : Fin 2048) :
    k0_pay2 xn wg wu o wd (ix2 r k)
      = o (ix2 r k) + ∑ l, ((∑ x, xn (ix2 r x) * wg (ix2 x l)) * Ideal.logistic (∑ x, xn (ix2 r x) * wg (ix2 x l))
          * (∑ x, xn (ix2 r x) * wu (ix2 x l)) * Ideal.ofBits .f32 0x3F000000#32) * wd (ix2 l k) := by
  pointwise [k0_pay2]

/-- A finished row, normalized by its root mean square. -/
theorem pay3_apply (x : Vec Ideal S1024x2048 .f32) (g : Vec Ideal S1x2048 .f32) (r : Fin 1024) (k : Fin 2048) :
    k0_pay3 x g (ix2 r k)
      = x (ix2 r k) * Ideal.rsqrt (Ideal.div (∑ k', x (ix2 r k') * x (ix2 r k')) (Ideal.ofBits .f32 0x45000000#32)
          + Ideal.ofBits .f32 0x3727C5AC#32) * g (ix2 0 k) := by
  pointwise [k0_pay3]

end Cert.LastIdeal.Pay

end
-- ==== Proof.LastPoint.lean ====
/-
  One grid point of the last feed-forward kernel, on the blocks of its arguments. Point `t` is row block `t / 11` and
  hidden stretch `t % 11`; each block is read at an index as the argument it is cut from.
-/
module

public import proofs.«01_k».proof.Proof.LastStep
public import proofs.«01_k».proof.Proof.LastPay
public import Idealize.ShloMosaic.Lib.Pipeline.ValueKit

@[expose] public section

set_option maxRecDepth 16384

noncomputable section

namespace Cert.LastIdeal.Point

open Cert.LastIdeal Cert.LastIdeal.Gen Cert.LastIdeal.Step Idealize.ShloMosaic Idealize.ShloMosaic.TcCoe

/-- The block indices of the windows, decided over the grid. -/
theorem places : ∀ t : Fin cfg0.N,
    win0_0.index t = ![t.val / 11, 0] ∧ win0_1.index t = ![3, 0, 0] ∧ win0_2.index t = ![0, t.val % 11]
      ∧ win0_3.index t = ![0, t.val % 11] ∧ win0_4.index t = ![t.val % 11, 0] ∧ win0_5.index t = ![0, 0] :=
  (by decide +kernel : ∀ t : Fin grid0.N, _)

theorem points : cfg0.N = 176 := N_0

section Contents

variable {F : FTy → Type} [FloatOps F] (m : (ℓ : Loc nD τ sig) → Buf (Elt F) ℓ) (c : Dev nD) (t : Fin cfg0.N)

/-- What the output and the carry hold after a first point of a row block. -/
theorem outs_first (h0 : t.val % 11 = 0) :
    outsAt0 m c t.val t.isLt
      = (k0_pay2 (k0_pay1 (iblk m c 0 t) (iblk m c 1 t)) (iblk m c 2 t) (iblk m c 3 t) (iblk m c 0 t) (iblk m c 4 t),
          k0_pay1 (iblk m c 0 t) (iblk m c 1 t)) := by
  rw [outsAt0_A m c t h0 (by omega), out0_A_6_eq, sout0_A_0_eq]

variable (o : Vec F S1024x2048 .f32) (xn : Vec F S1024x2048 .bf16)
  (ho : (outsAt0 m c (t.val - 1) (Nat.lt_of_le_of_lt (Nat.sub_le _ _) t.isLt)).1 = o)
  (hx : (outsAt0 m c (t.val - 1) (Nat.lt_of_le_of_lt (Nat.sub_le _ _) t.isLt)).2 = xn)

include ho hx

/-- What they hold after a point between, over what the point before left. -/
theorem outs_between (h0 : ¬ t.val % 11 = 0) (h1 : ¬ t.val % 11 = 10) :
    outsAt0 m c t.val t.isLt = (k0_pay2 xn (iblk m c 2 t) (iblk m c 3 t) o (iblk m c 4 t), xn) := by
  rw [outsAt0_B m c t h0 h1, out0_B_6_eq, ho, hx]
  rfl

/-- What they hold after a last point. -/
theorem outs_last (h1 : t.val % 11 = 10) :
    outsAt0 m c t.val t.isLt
      = (k0_pay3 (k0_pay2 xn (iblk m c 2 t) (iblk m c 3 t) o (iblk m c 4 t)) (iblk m c 5 t), xn) := by
  rw [outsAt0_C m c t (by omega) h1, out0_C_6_eq, ho, hx]
  rfl

end Contents

variable (m : (ℓ : Loc nD τ sig) → Buf (Elt Ideal) ℓ) (c : Dev nD) (t : Fin cfg0.N)

/-- The rows of the activations. -/
theorem read_0 (r : Fin 1024) (k : Fin 2048) :
    iblk m c 0 t (ix2 r k) = m ((c : Thread nD τ).loc main_arg0) (ix2 ⟨1024 * (t.val / 11) + r.val, (by have := lt_of_lt_of_eq t.isLt points; omega)⟩ k) := by
  have hp := places t
  have hN : t.val < 176 := lt_of_lt_of_eq t.isLt points
  rw [← V_main_arg0 m c]
  blk_ext [iblk, hp]

/-- The layer norm weights. -/
theorem read_1 (k : Fin 2048) :
    iblk m c 1 t (ix3 0 0 k) = m ((c : Thread nD τ).loc main_arg1) (ix3 3 0 k) := by
  have hp := places t
  have hN : t.val < 176 := lt_of_lt_of_eq t.isLt points
  rw [← V_main_arg1 m c]
  blk_ext [iblk, hp]

/-- The stretch of the gate weights. -/
theorem read_2 (k : Fin 2048) (l : Fin 512) :
    iblk m c 2 t (ix2 k l) = m ((c : Thread nD τ).loc main_arg2) (ix2 k ⟨512 * (t.val % 11) + l.val, by omega⟩) := by
  have hp := places t
  have hN : t.val < 176 := lt_of_lt_of_eq t.isLt points
  rw [← V_main_arg2 m c]
  blk_ext [iblk, hp]

/-- The stretch of the up weights. -/
theorem read_3 (k : Fin 2048) (l : Fin 512) :
    iblk m c 3 t (ix2 k l) = m ((c : Thread nD τ).loc main_arg3) (ix2 k ⟨512 * (t.val % 11) + l.val, by omega⟩) := by
  have hp := places t
  have hN : t.val < 176 := lt_of_lt_of_eq t.isLt points
  rw [← V_main_arg3 m c]
  blk_ext [iblk, hp]

/-- The stretch of the down weights. -/
theorem read_4 (l : Fin 512) (k : Fin 2048) :
    iblk m c 4 t (ix2 l k) = m ((c : Thread nD τ).loc main_arg4) (ix2 ⟨512 * (t.val % 11) + l.val, by omega⟩ k) := by
  have hp := places t
  have hN : t.val < 176 := lt_of_lt_of_eq t.isLt points
  rw [← V_main_arg4 m c]
  blk_ext [iblk, hp]

/-- The closing norm weights, given to the kernel as one row. -/
theorem host_5 (k : Fin 2048) : V m c main_v0 (ix2 0 k) = m ((c : Thread nD τ).loc main_arg5) (ix1 k) := by
  entry_read
  pointwise []

/-- The closing norm weights. -/
theorem read_5 (k : Fin 2048) :
    iblk m c 5 t (ix2 0 k) = m ((c : Thread nD τ).loc main_arg5) (ix1 k) := by
  have hp := places t
  have hN : t.val < 176 := lt_of_lt_of_eq t.isLt points
  rw [← host_5 m c]
  blk_ext [iblk, hp]

end Cert.LastIdeal.Point

end
-- ==== Proof.LastValue.lean ====
/-
  The array the last feed-forward kernel leaves, at an index: the activations plus the sum over all 5632 hidden units of
  the halved unit times its row of the down weights, that row then normalized.
-/
module

public import proofs.«01_k».proof.Proof.LastPoint
public import proofs.«01_k».proof.Proof.FfnSpec
public import proofs.«01_k».proof.Proof.Gen.LastIdeal.Value

@[expose] public section

set_option maxRecDepth 16384

noncomputable section

namespace Cert.LastIdeal.Sum

open Cert.LastIdeal Cert.LastIdeal.Gen Cert.LastIdeal.Point Cert.LastIdeal.Pay Cert.FfnSpec
open Idealize.ShloMosaic Idealize.ShloMosaic.TcCoe

variable (m : (ℓ : Loc nD τ sig) → Buf (Elt Ideal) ℓ) (c : Dev nD)

/-- The activations, the norm weights, the three weight matrices and the closing norm weights, as functions of their
    indices. -/
def xs (r : Fin 16384) (k : Fin 2048) : EReal := m ((c : Thread nD τ).loc main_arg0) (ix2 r k)
def gs (k : Fin 2048) : EReal := m ((c : Thread nD τ).loc main_arg1) (ix3 3 0 k)
def wgs (k : Fin 2048) (l : Fin 5632) : EReal := m ((c : Thread nD τ).loc main_arg2) (ix2 k l)
def wus (k : Fin 2048) (l : Fin 5632) : EReal := m ((c : Thread nD τ).loc main_arg3) (ix2 k l)
def wds (l : Fin 5632) (k : Fin 2048) : EReal := m ((c : Thread nD τ).loc main_arg4) (ix2 l k)
def fgs (k : Fin 2048) : EReal := m ((c : Thread nD τ).loc main_arg5) (ix1 k)

/-- What hidden unit `l` adds to the place `(r, k)`. -/
def unit (r : Fin 16384) (k : Fin 2048) (l : Fin 5632) : EReal :=
  hidden (normed (xs m c) (gs m c) r) (wgs m c) (wus m c) l * Ideal.ofBits .f32 0x3F000000#32 * wds m c l k

/-- The same for a hidden unit given by its number, nothing past the last. -/
def unitAt (r : Fin 16384) (k : Fin 2048) (l : ℕ) : EReal :=
  if h : l < 5632 then unit m c r k ⟨l, h⟩ else 0

/-- A row before the closing normalization. -/
def row (r : Fin 16384) (k : Fin 2048) : EReal := xs m c r k + ∑ l, unit m c r k l

/-- Row `r` of row block `b`. -/
def rowOf (b : Fin 16) (r : Fin 1024) : Fin 16384 := ⟨1024 * b.val + r.val, by omega⟩

/-- Row block of a point. -/
def blockOf (t : Fin cfg0.N) : Fin 16 := ⟨t.val / 11, by have := lt_of_lt_of_eq t.isLt points; omega⟩

/-- The rows a point normalizes. -/
theorem rows_normed (t : Fin cfg0.N) (r : Fin 1024) (k : Fin 2048) :
    k0_pay1 (iblk m c 0 t) (iblk m c 1 t) (ix2 r k) = normed (xs m c) (gs m c) (rowOf (blockOf t) r) k := by
  rw [pay1_apply]
  simp only [read_0, read_1]
  rfl

/-- What a point adds to the accumulator, its normalized rows given. -/
theorem step_apply (t : Fin cfg0.N) (xn : Vec Ideal S1024x2048 .bf16) (o : Vec Ideal S1024x2048 .f32)
    (r : Fin 1024) (k : Fin 2048)
    (hx : ∀ k, xn (ix2 r k) = normed (xs m c) (gs m c) (rowOf (blockOf t) r) k) :
    k0_pay2 xn (iblk m c 2 t) (iblk m c 3 t) o (iblk m c 4 t) (ix2 r k)
      = o (ix2 r k) + ∑ l ∈ Finset.range 512, unitAt m c (rowOf (blockOf t) r) k (512 * (t.val % 11) + l) := by
  rw [pay2_apply, Finset.sum_range]
  refine congrArg (o (ix2 r k) + ·) (Finset.sum_congr rfl fun l _ => ?_)
  have hl : 512 * (t.val % 11) + l.val < 5632 := by omega
  rw [unitAt, dif_pos hl]
  simp only [hx, read_2, read_3, read_4]
  rfl

/-- The row block stays from one point to the next of the same block. -/
theorem block_succ (n : ℕ) (hn : n + 1 < cfg0.N) (h0 : ¬ (n + 1) % 11 = 0) :
    blockOf ⟨n + 1, hn⟩ = blockOf ⟨n, Nat.lt_of_succ_lt hn⟩ := Fin.ext (by simp only [blockOf]; omega)

/-- After point `t`, the carry holds the normalized rows of its row block. -/
theorem carry (n : ℕ) (hn : n < cfg0.N) (r : Fin 1024) (k : Fin 2048) :
    (outsAt0 m c n hn).2 (ix2 r k) = normed (xs m c) (gs m c) (rowOf (blockOf ⟨n, hn⟩) r) k := by
  induction n with
  | zero => rw [outs_first m c ⟨0, hn⟩ rfl]; exact rows_normed m c ⟨0, hn⟩ r k
  | succ n ih =>
    by_cases h0 : (n + 1) % 11 = 0
    · rw [outs_first m c ⟨n + 1, hn⟩ h0]; exact rows_normed m c ⟨n + 1, hn⟩ r k
    · rw [block_succ n hn h0]
      by_cases h1 : (n + 1) % 11 = 10
      · rw [outs_last m c ⟨n + 1, hn⟩ _ _ rfl rfl h1]; exact ih (Nat.lt_of_succ_lt hn)
      · rw [outs_between m c ⟨n + 1, hn⟩ _ _ rfl rfl h0 h1]; exact ih (Nat.lt_of_succ_lt hn)

/-- After a point that is not a last one, the accumulator holds the activations and the units of the stretches up to
    its own. -/
theorem acc (n : ℕ) (hn : n < cfg0.N) (h1 : ¬ n % 11 = 10) (r : Fin 1024) (k : Fin 2048) :
    (outsAt0 m c n hn).1 (ix2 r k)
      = xs m c (rowOf (blockOf ⟨n, hn⟩) r) k
        + ∑ l ∈ Finset.range (512 * (n % 11 + 1)), unitAt m c (rowOf (blockOf ⟨n, hn⟩) r) k l := by
  have first : ∀ t : Fin cfg0.N, t.val % 11 = 0 → (outsAt0 m c t.val t.isLt).1 (ix2 r k)
      = xs m c (rowOf (blockOf t) r) k
        + ∑ l ∈ Finset.range (512 * (t.val % 11 + 1)), unitAt m c (rowOf (blockOf t) r) k l := fun t h0 => by
    rw [outs_first m c t h0]
    refine (step_apply m c t _ _ r k fun k => rows_normed m c t r k).trans ?_
    rw [read_0, h0]
    simp only [Nat.mul_zero, Nat.zero_add, Nat.mul_one]
    rfl
  induction n with
  | zero => exact first ⟨0, hn⟩ rfl
  | succ n ih =>
    by_cases h0 : (n + 1) % 11 = 0
    · exact first ⟨n + 1, hn⟩ h0
    · have e := block_succ n hn h0
      rw [outs_between m c ⟨n + 1, hn⟩ _ _ rfl rfl h0 h1]
      refine (step_apply m c ⟨n + 1, hn⟩ _ _ r k fun k => ?_).trans ?_
      · rw [e]; exact carry m c n _ r k
      · have hm : (n + 1) % 11 = n % 11 + 1 := by omega
        rw [e, hm, Nat.mul_add 512 (n % 11 + 1) 1, Nat.mul_one, Finset.sum_range_add, ← add_assoc]
        exact congrArg (· + _) (ih (Nat.lt_of_succ_lt hn) (by omega))

/-- What a last point normalizes: the finished row. -/
theorem finished (n : ℕ) (hn : n + 1 < cfg0.N) (h1 : (n + 1) % 11 = 10) (r : Fin 1024) (k : Fin 2048) :
    k0_pay2 (outsAt0 m c n (Nat.lt_of_succ_lt hn)).2 (iblk m c 2 ⟨n + 1, hn⟩) (iblk m c 3 ⟨n + 1, hn⟩)
        (outsAt0 m c n (Nat.lt_of_succ_lt hn)).1 (iblk m c 4 ⟨n + 1, hn⟩) (ix2 r k)
      = row m c (rowOf (blockOf ⟨n + 1, hn⟩) r) k := by
  have e := block_succ n hn (by omega)
  refine (step_apply m c ⟨n + 1, hn⟩ _ _ r k fun k => ?_).trans ?_
  · rw [e]; exact carry m c n _ r k
  · rw [acc m c n _ (by omega), e, add_assoc]
    unfold row
    refine congrArg (xs m c _ k + ·) ?_
    have hm : n % 11 + 1 = 10 := by omega
    show _ + ∑ l ∈ Finset.range 512, unitAt m c _ k (512 * ((n + 1) % 11) + l) = _
    rw [hm, h1, show 512 * 10 = 5120 from rfl, ← Finset.sum_range_add (unitAt m c _ k) 5120 512, Finset.sum_range]
    exact Finset.sum_congr rfl fun l _ => dif_pos l.isLt

/-- The array: every finished row, normalized. -/
theorem out6 (r : Fin 16384) (k : Fin 2048) :
    Value.G6 m c (ix2 r k) = normed (row m c) (fgs m c) r k := by
  have hp : Value.pt6Of (ix2 r k) = 11 * (r.val / 1024) + 10 := by
    show 11 * (1 * (r.val / 1024 - 0) + 1 * (k.val / 2048 - 0)) + 10 = _
    have := Nat.div_eq_of_lt k.isLt; omega
  have hn : Value.pt6Of (ix2 r k) < cfg0.N := by rw [hp, points]; omega
  have hloc : Value.loc6Of (ix2 r k) = ix2 ⟨r.val % 1024, by omega⟩ k := by
    blk_ext []
  unfold Value.G6
  rw [dif_pos hn, ← Value.outsAt0_sweep m c _ hn, hloc]
  have hq : 11 * (r.val / 1024) + 9 + 1 < cfg0.N := by rw [points]; omega
  have hrow : rowOf (blockOf ⟨11 * (r.val / 1024) + 9 + 1, hq⟩) ⟨r.val % 1024, by omega⟩ = r := by
    refine Fin.ext ?_
    show 1024 * ((11 * (r.val / 1024) + 9 + 1) / 11) + r.val % 1024 = r.val
    omega
  have h1 : (11 * (r.val / 1024) + 9 + 1) % 11 = 10 := by omega
  have hlast := outs_last m c ⟨11 * (r.val / 1024) + 9 + 1, hq⟩ _ _ rfl rfl h1
  have hpt : outsAt0 m c (Value.pt6Of (ix2 r k)) hn = outsAt0 m c (11 * (r.val / 1024) + 9 + 1) hq := by
    congr 1
  rw [hpt]
  refine (congrArg (fun p => p.1 (ix2 ⟨r.val % 1024, by omega⟩ k)) hlast).trans ?_
  refine (pay3_apply _ _ _ k).trans ?_
  have hf := fun k => finished m c (11 * (r.val / 1024) + 9) hq h1 ⟨r.val % 1024, by omega⟩ k
  rw [hrow] at hf
  rw [read_5]
  unfold normed
  exact congr (congrArg HMul.hMul (congr (congrArg HMul.hMul (hf k)) (congrArg Ideal.rsqrt (congrArg (· + _)
    (congrArg (Ideal.div · _) (Finset.sum_congr rfl fun k' _ => congr (congrArg HMul.hMul (hf k')) (hf k'))))))) rfl

end Cert.LastIdeal.Sum

end
-- ==== Proof.LastSpec.lean ====
/-
  The reference of the last feed-forward call read at an index: the feed-forward output, normalized once more.
-/
module

public import proofs.«01_k».proof.Proof.FfnSpec
public import proofs.«01_k».proof.Proof.Gen.LastRefIdeal.Read

@[expose] public section

noncomputable section

namespace Cert.LastSpec

open Cert.FfnSpec Cert.LastRefIdeal Cert.LastRefIdeal.Gen Cert.LastRefIdeal.Read Idealize.ShloMosaic

variable (x : Vec Ideal S16384x2048 .f32) (g : Vec Ideal S4x1x2048 .f32) (wg wu : Vec Ideal S2048x5632 .bf16)
  (wd : Vec Ideal S5632x2048 .bf16) (fg : Vec Ideal S2048 .f32)

/-- The normalized rows. -/
theorem ref_normed (r : Fin 16384) (k : Fin 2048) :
    val_main_v13 (F := Ideal) x g (ix2 r k) = normed (fun r k => x (ix2 r k)) (fun k => g (ix3 3 0 k)) r k := by
  unfold normed
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]

/-- The hidden units. -/
theorem ref_hidden (r : Fin 16384) (l : Fin 5632) :
    val_main_v20 (F := Ideal) x g wg wu (ix2 r l)
      = FfnSpec.hidden (normed (fun r k => x (ix2 r k)) (fun k => g (ix3 3 0 k)) r) (fun k l => wg (ix2 k l)) (fun k l => wu (ix2 k l)) l := by
  unfold FfnSpec.hidden
  pointwise [val_main_v20, val_main_v19, val_main_v18, val_main_v17, val_main_v15, val_main_v14, ref_normed, val_main_call0_v5, val_main_call0_v4, val_main_call0_v3, val_main_call0_v2, val_main_call0_v1, val_main_call0_v0, val_main_call0_cst, val_main_call0_cst_0]
  rfl

/-- The feed-forward output. -/
theorem ref_out (r : Fin 16384) (k : Fin 2048) :
    val_main_v24 (F := Ideal) x g wg wu wd (ix2 r k)
      = out (fun r k => x (ix2 r k)) (fun k => g (ix3 3 0 k)) (fun k l => wg (ix2 k l)) (fun k l => wu (ix2 k l)) (fun l k => wd (ix2 l k)) r k := by
  unfold out
  pointwise [val_main_v24, val_main_v23, val_main_v22, val_main_v21, val_main_v16, ref_hidden, val_main_cst_2]

/-- The result: the output's rows, normalized. -/
theorem ref_final (r : Fin 16384) (k : Fin 2048) :
    val_main_v37 (F := Ideal) x g wg wu wd fg (ix2 r k)
      = normed (out (fun r k => x (ix2 r k)) (fun k => g (ix3 3 0 k)) (fun k l => wg (ix2 k l)) (fun k l => wu (ix2 k l)) (fun l k => wd (ix2 l k)))
          (fun k => fg (ix1 k)) r k := by
  unfold normed
  pointwise [val_main_v37, val_main_v36, val_main_v35, val_main_v34, val_main_v33, val_main_v32, val_main_v31, val_main_v30, val_main_v29, val_main_v28, val_main_v27, val_main_v26, val_main_v25, ref_out, val_main_cst_3, val_main_cst_4, val_main_cst_5]

end Cert.LastSpec

end
-- ==== Proof.LastClaim.lean ====
/-
  The last feed-forward kernel and its reference end with equal results, whatever their arguments are.
-/
module

public import proofs.«01_k».proof.Defs
public import proofs.«01_k».proof.Proof.LastValue
public import proofs.«01_k».proof.Proof.LastSpec
public import proofs.«01_k».proof.Proof.Consts
public import proofs.«01_k».proof.Proof.Gen.Last.Frame
public import proofs.«01_k».proof.Proof.Gen.LastRefIdeal.Run
public import Idealize.ShloMosaic.Adequacy

@[expose] public section

set_option maxRecDepth 16384

noncomputable section

namespace Cert.LastIdeal.Sum

open Cert.FfnSpec Cert.LastSpec Idealize.ShloMosaic Idealize.ShloMosaic.TcCoe Idealize.SL.Sem

/-- Halving each hidden unit is halving their sum. -/
theorem halves (m : (ℓ : Loc nD τ sig) → Buf (Elt Ideal) ℓ) (c : Dev nD) :
    row m c = out (xs m c) (gs m c) (wgs m c) (wus m c) (wds m c) := by
  funext r k
  unfold row out unit
  rw [Consts.half, Consts.mul_sum _ _ (by norm_num)]
  refine congrArg (xs m c r k + ·) (Finset.sum_congr rfl fun l _ => ?_)
  rw [mul_comm (hidden _ _ _ l), mul_assoc]

/-- The claim. -/
theorem algebraic : Cert.algebraic_LastIdeal_LastRefIdeal (hLastIdeal := Cert.LastIdeal.Gen.facts)
    (hLastRefIdeal := Cert.LastRefIdeal.Gen.facts) := by
  intro m ρ m' ρ' _ hagree
  refine ⟨Value.G6 m, Cert.LastIdeal.Value.run (F := Ideal) m ρ,
    (θ_run _ _ _).mono (fun r h c => ?_) (Cert.LastRefIdeal.Value.run (F := Ideal) m' ρ')⟩
  obtain ⟨h0, hk⟩ := h c
  obtain ⟨a0, a1, a2, a3, a4, a5⟩ := hagree c
  refine ⟨h0.trans ?_, hk⟩
  rw [LastRefIdeal.Read.val_main_v37_eq, a0, a1, a2, a3, a4, a5]
  refine funext fun (j : LastIdeal.S16384x2048.Idx) => ?_
  idx_vars j
  exact (ref_final _ _ _ _ _ _ j0 j1).trans ((congrArg (normed · (fgs m c) j0 j1) (halves m c).symm).trans (out6 m c j0 j1).symm)

end Cert.LastIdeal.Sum

end
-- ==== Proof.OddInRun.lean ====
/-
  The recurrence layers' input projection, one grid point at a time. A point is of one of three kinds: the first of its
  row block, which normalizes the rows into the scratch, projects the time steps and a stretch of plain columns; one that
  projects a stretch of plain columns; and one that projects a stretch of columns and convolves them. Each kind's run, on
  any staging buffers, ends with what its stores leave.
-/
module

public import proofs.«01_k».proof.Proof.Gen.OddInIdeal.Frame
public import proofs.«01_k».proof.Proof.Gen.OddInIdeal.Skeleton

@[expose] public section

set_option maxRecDepth 16384

noncomputable section

namespace Cert.OddInIdeal.Run

open Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords)
  (a2 : Memref sig .tc .vmem S1024x2048 .f32) (h2 : a2.IsWhole) (a3 : Memref sig .tc .vmem S16x2048 .f32) (h3 : a3.IsWhole)
  (a4 : Memref sig .tc .vmem S1x2048 .f32) (h4 : a4.IsWhole) (a5 : Memref sig .tc .vmem S1x2048x1024 .bf16) (h5 : a5.IsWhole)
  (a6 : Memref sig .tc .vmem S1x2048x128 .bf16) (h6 : a6.IsWhole) (a7 : Memref sig .tc .vmem S4x1024 .f32) (h7 : a7.IsWhole)
  (a8 : Memref sig .tc .vmem S1x1024 .f32) (h8 : a8.IsWhole) (a9 : Memref sig .tc .vmem S1024x1024 .f32) (h9 : a9.IsWhole)
  (a10 : Memref sig .tc .vmem S1024x128 .f32) (h10 : a10.IsWhole) (a11 : Memref sig .tc .vmem S1040x2048 .bf16) (h11 : a11.IsWhole)
  (x2 : Vec F S1024x2048 .f32) (x3 : Vec F S16x2048 .f32) (x4 : Vec F S1x2048 .f32) (x5 : Vec F S1x2048x1024 .bf16)
  (x6 : Vec F S1x2048x128 .bf16) (x7 : Vec F S4x1024 .f32) (x8 : Vec F S1x1024 .f32)

/-- The seven inputs' buffers at their blocks. -/
def inputs : sProp 𝕄 :=
  iprop(owns (c : Thread nD τ) a2 fullShare x2 ∗ owns (c : Thread nD τ) a3 fullShare x3 ∗ owns (c : Thread nD τ) a4 fullShare x4
    ∗ owns (c : Thread nD τ) a5 fullShare x5 ∗ owns (c : Thread nD τ) a6 fullShare x6 ∗ owns (c : Thread nD τ) a7 fullShare x7
    ∗ owns (c : Thread nD τ) a8 fullShare x8)

/-- A buffer with a list of pieces written over something. -/
def written {s : Shape} {e : EltTy} (a : Memref sig .tc .vmem s e) (L : List (View.Piece (Elt F) s e)) : sProp 𝕄 :=
  iprop(∃ f, a.view.loc (c : Thread nD τ) ↦[a.view.set]{fullShare} a.view.writes (Elt F) f L)

/-- A whole buffer at the contents that read as a block. -/
theorem owns_of {s : Shape} {e : EltTy} (a : Memref sig .tc .vmem s e) (h : a.IsWhole) (x : Vec F s e) :
    (a.view.loc (c : Thread nD τ) ↦[a.view.set]{fullShare} h.unread x : sProp 𝕄) ⊢ owns (c : Thread nD τ) a fullShare x := by
  refine (owns_intro (c : Thread nD τ) a fullShare (h.unread x)).trans ?_
  rw [h.read_unread x]

/-- The inputs given back: a run only reads their buffers. -/
theorem inputs_of : (iprop((a2.view.loc (c : Thread nD τ) ↦[a2.view.set]{fullShare} h2.unread x2) ∗ (a3.view.loc (c : Thread nD τ) ↦[a3.view.set]{fullShare} h3.unread x3) ∗ (a4.view.loc (c : Thread nD τ) ↦[a4.view.set]{fullShare} h4.unread x4) ∗ (a5.view.loc (c : Thread nD τ) ↦[a5.view.set]{fullShare} h5.unread x5) ∗ (a6.view.loc (c : Thread nD τ) ↦[a6.view.set]{fullShare} h6.unread x6) ∗ (a7.view.loc (c : Thread nD τ) ↦[a7.view.set]{fullShare} h7.unread x7) ∗ (a8.view.loc (c : Thread nD τ) ↦[a8.view.set]{fullShare} h8.unread x8)) : sProp 𝕄)
    ⊢ inputs c a2 a3 a4 a5 a6 a7 a8 x2 x3 x4 x5 x6 x7 x8 := by
  unfold inputs
  exact BIClass.sep_mono (owns_of c a2 h2 x2) (BIClass.sep_mono (owns_of c a3 h3 x3) (BIClass.sep_mono (owns_of c a4 h4 x4)
    (BIClass.sep_mono (owns_of c a5 h5 x5) (BIClass.sep_mono (owns_of c a6 h6 x6) (BIClass.sep_mono (owns_of c a7 h7 x7) (owns_of c a8 h8 x8))))))

set_option maxHeartbeats 1600000 in
/-- The first point of a row block: the scratch, the time steps' block and the block of columns are each covered by what it stores. -/
def first (hf : k0_cond1 i = 1#1) (hp : k0_cond2 i = 1#1) (hc : ¬k0_cond3 i = 1#1) :
    Σ' (L9 : List (View.Piece (Elt F) S1024x1024 .f32)) (L10 : List (View.Piece (Elt F) S1024x128 .f32)),
      { L11 : List (View.Piece (Elt F) S1040x2048 .bf16) //
      ∀ (E : Set ℕ) (K : PUnit → sProp 𝕄),
        iprop(inputs c a2 a3 a4 a5 a6 a7 a8 x2 x3 x4 x5 x6 x7 x8 ∗ (∃ d, owns (c : Thread nD τ) a9 fullShare d)
            ∗ (∃ d, owns (c : Thread nD τ) a10 fullShare d) ∗ (∃ d, owns (c : Thread nD τ) a11 fullShare d)
            ∗ (iprop(inputs c a2 a3 a4 a5 a6 a7 a8 x2 x3 x4 x5 x6 x7 x8 ∗ written c a9 L9 ∗ written c a10 L10 ∗ written c a11 L11) -∗ K ⟨⟩))
          ⊢ wp frame (wpE (defs₀ (F := F)) Variants.none c none) E (cc0_odd_inproj_conv i a2 h2 a3 h3 a4 h4 a5 h5 a6 h6 a7 h7 a8 h8 a9 h9 a10 h10 a11 h11) K } := by
  refine ⟨?_, ?_, ?_, fun E K => ?run⟩
  case run =>
    simp only [cc0_odd_inproj_conv_eq_skeleton, k0_part1_eq_skeleton, k0_part2_eq_skeleton]; unfold cc0_odd_inproj_conv_skel
    have hi := inputs_of c a2 h2 a3 h3 a4 h4 a5 h5 a6 h6 a7 h7 a8 h8 x2 x3 x4 x5 x6 x7 x8
    unfold inputs owns at hi; unfold inputs written owns
    iintro ⟨⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩⟩,
      ⟨%d9, %f9, %e9, H9⟩, ⟨%d10, %f10, %e10, H10⟩, ⟨%d11, %f11, %e11, H11⟩, Hk⟩
    obtain rfl := h2.eq_unread e2; obtain rfl := h3.eq_unread e3; obtain rfl := h4.eq_unread e4; obtain rfl := h5.eq_unread e5
    obtain rfl := h6.eq_unread e6; obtain rfl := h7.eq_unread e7; obtain rfl := h8.eq_unread e8
    sl_exec (disch := first | sl_exact hf | sl_exact hp | sl_exact hc)
    sl_step
    iapply Hk
    isplitl [H2 H3 H4 H5 H6 H7 H8]
    · iapply hi
      isplitl [H2]; · iexact H2
      isplitl [H3]; · iexact H3
      isplitl [H4]; · iexact H4
      isplitl [H5]; · iexact H5
      isplitl [H6]; · iexact H6
      isplitl [H7]; · iexact H7
      iexact H8
    isplitl [H9]; · iexists _; iexact H9
    isplitl [H10]; · iexists _; iexact H10
    iexists _; iexact H11

variable (x11 : Vec F S1040x2048 .bf16)

set_option maxHeartbeats 1600000 in
/-- A later point on plain columns: it reads the scratch as the first point left it, and leaves the time steps' block alone. -/
def plain (hf : ¬k0_cond1 i = 1#1) (hp : k0_cond2 i = 1#1) (hc : ¬k0_cond3 i = 1#1) :
    { L9 : List (View.Piece (Elt F) S1024x1024 .f32) //
      ∀ (E : Set ℕ) (K : PUnit → sProp 𝕄),
        iprop(inputs c a2 a3 a4 a5 a6 a7 a8 x2 x3 x4 x5 x6 x7 x8 ∗ (∃ d, owns (c : Thread nD τ) a9 fullShare d) ∗ owns (c : Thread nD τ) a11 fullShare x11
            ∗ (iprop(inputs c a2 a3 a4 a5 a6 a7 a8 x2 x3 x4 x5 x6 x7 x8 ∗ written c a9 L9 ∗ owns (c : Thread nD τ) a11 fullShare x11) -∗ K ⟨⟩))
          ⊢ wp frame (wpE (defs₀ (F := F)) Variants.none c none) E (cc0_odd_inproj_conv i a2 h2 a3 h3 a4 h4 a5 h5 a6 h6 a7 h7 a8 h8 a9 h9 a10 h10 a11 h11) K } := by
  refine ⟨?_, fun E K => ?run⟩
  case run =>
    simp only [cc0_odd_inproj_conv_eq_skeleton, k0_part1_eq_skeleton, k0_part2_eq_skeleton]; unfold cc0_odd_inproj_conv_skel
    have hi := inputs_of c a2 h2 a3 h3 a4 h4 a5 h5 a6 h6 a7 h7 a8 h8 x2 x3 x4 x5 x6 x7 x8
    have ho := owns_of c a11 h11 x11
    unfold inputs owns at hi; unfold owns at ho; unfold inputs written owns
    iintro ⟨⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩⟩,
      ⟨%d9, %f9, %e9, H9⟩, ⟨%f11, %e11, H11⟩, Hk⟩
    obtain rfl := h2.eq_unread e2; obtain rfl := h3.eq_unread e3; obtain rfl := h4.eq_unread e4; obtain rfl := h5.eq_unread e5
    obtain rfl := h6.eq_unread e6; obtain rfl := h7.eq_unread e7; obtain rfl := h8.eq_unread e8; obtain rfl := h11.eq_unread e11
    sl_exec (disch := first | sl_exact hf | sl_exact hp | sl_exact hc)
    sl_step
    iapply Hk
    isplitl [H2 H3 H4 H5 H6 H7 H8]
    · iapply hi
      isplitl [H2]; · iexact H2
      isplitl [H3]; · iexact H3
      isplitl [H4]; · iexact H4
      isplitl [H5]; · iexact H5
      isplitl [H6]; · iexact H6
      isplitl [H7]; · iexact H7
      iexact H8
    isplitl [H9]; · iexists _; iexact H9
    iapply ho
    iexact H11

set_option maxHeartbeats 1600000 in
/-- A later point on convolved columns: as `plain`, with the rows before the block read from the scratch too. -/
def conv (hf : ¬k0_cond1 i = 1#1) (hp : ¬k0_cond2 i = 1#1) (hc : k0_cond3 i = 1#1) :
    { L9 : List (View.Piece (Elt F) S1024x1024 .f32) //
      ∀ (E : Set ℕ) (K : PUnit → sProp 𝕄),
        iprop(inputs c a2 a3 a4 a5 a6 a7 a8 x2 x3 x4 x5 x6 x7 x8 ∗ (∃ d, owns (c : Thread nD τ) a9 fullShare d) ∗ owns (c : Thread nD τ) a11 fullShare x11
            ∗ (iprop(inputs c a2 a3 a4 a5 a6 a7 a8 x2 x3 x4 x5 x6 x7 x8 ∗ written c a9 L9 ∗ owns (c : Thread nD τ) a11 fullShare x11) -∗ K ⟨⟩))
          ⊢ wp frame (wpE (defs₀ (F := F)) Variants.none c none) E (cc0_odd_inproj_conv i a2 h2 a3 h3 a4 h4 a5 h5 a6 h6 a7 h7 a8 h8 a9 h9 a10 h10 a11 h11) K } := by
  refine ⟨?_, fun E K => ?run⟩
  case run =>
    simp only [cc0_odd_inproj_conv_eq_skeleton, k0_part1_eq_skeleton, k0_part2_eq_skeleton]; unfold cc0_odd_inproj_conv_skel
    have hi := inputs_of c a2 h2 a3 h3 a4 h4 a5 h5 a6 h6 a7 h7 a8 h8 x2 x3 x4 x5 x6 x7 x8
    have ho := owns_of c a11 h11 x11
    unfold inputs owns at hi; unfold owns at ho; unfold inputs written owns
    iintro ⟨⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩⟩,
      ⟨%d9, %f9, %e9, H9⟩, ⟨%f11, %e11, H11⟩, Hk⟩
    obtain rfl := h2.eq_unread e2; obtain rfl := h3.eq_unread e3; obtain rfl := h4.eq_unread e4; obtain rfl := h5.eq_unread e5
    obtain rfl := h6.eq_unread e6; obtain rfl := h7.eq_unread e7; obtain rfl := h8.eq_unread e8; obtain rfl := h11.eq_unread e11
    sl_exec (disch := first | sl_exact hf | sl_exact hp | sl_exact hc)
    sl_step
    iapply Hk
    isplitl [H2 H3 H4 H5 H6 H7 H8]
    · iapply hi
      isplitl [H2]; · iexact H2
      isplitl [H3]; · iexact H3
      isplitl [H4]; · iexact H4
      isplitl [H5]; · iexact H5
      isplitl [H6]; · iexact H6
      isplitl [H7]; · iexact H7
      iexact H8
    isplitl [H9]; · iexists _; iexact H9
    iapply ho
    iexact H11

end Cert.OddInIdeal.Run

end
-- ==== Proof.OddInPoint.lean ====
/-
  What the recurrence layers' input projection leaves in its buffers at each grid point. Ten points make a row block: the
  first fills the scratch and the time steps' block, which the other nine leave alone, and each point covers a block of
  columns.
-/
module

public import proofs.«01_k».proof.Proof.OddInRun

@[expose] public section

set_option maxRecDepth 16384

noncomputable section

namespace Cert.OddInIdeal.Run

open Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F]

local notation "𝕄" => MT nD τ sig Unit (Elt F) ℕ (UR sig nD τ) ℕ

variable (m : (ℓ : Loc nD τ sig) → Buf (Elt F) ℓ) (c : Dev nD)

theorem points (t : Fin cfg0.N) : t.val < 160 := lt_of_lt_of_eq t.isLt N_0

theorem coord1 (t : Fin cfg0.N) : (grid0.coords t 1).val = t.val % 10 := by
  have e : (grid0.coords t 1).val = t.val / 1 % 10 := Pipeline.Grid.coords_val t 1 (by decide) rfl
  rw [e, Nat.div_one]

/-- The first point of a row block. -/
theorem cond1_iff (t : Fin cfg0.N) : k0_cond1 (grid0.coords t) = 1#1 ↔ t.val % 10 = 0 := by
  have ht := points t
  simp only [k0_cond1, coord1]
  word_cmp

/-- A stretch of plain columns. -/
theorem cond2_iff (t : Fin cfg0.N) : k0_cond2 (grid0.coords t) = 1#1 ↔ t.val % 10 < 4 := by
  have ht := points t
  simp only [k0_cond2, coord1]
  word_cmp

/-- A stretch of convolved columns. -/
theorem cond3_iff (t : Fin cfg0.N) : k0_cond3 (grid0.coords t) = 1#1 ↔ ¬t.val % 10 < 4 := by
  have ht := points t
  simp only [k0_cond3, coord1]
  word_cmp

/-- The scratch. -/
abbrev scM : Memref sig .tc .vmem S1040x2048 .bf16 := Memref.whole cc0_scratch0

/-- A buffer of each output, to state what it holds through. -/
abbrev colsM : Memref sig .tc .vmem S1024x1024 .f32 := Memref.whole cc0_stg7_0
abbrev stepM : Memref sig .tc .vmem S1024x128 .f32 := Memref.whole cc0_stg8_0

/-- The contents a list of pieces leaves in a buffer it covers. -/
def leaves {s : Shape} {e : EltTy} (a : Memref sig .tc .vmem s e) (L : List (View.Piece (Elt F) s e)) : Vec F s e :=
  a.view.read (Elt F) (a.view.writes (Elt F) a.view.junk L)

/-- The body's run at a first point, -/
def firstAt (t : Fin cfg0.N) (h : t.val % 10 = 0) :=
  first (F := F) c (grid0.coords t) (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (win0_4.stage (cfg0.slots t 4)) (hstage0_4 ((cfg0.slots t 4).cast nbuf0_4))
    (win0_5.stage (cfg0.slots t 5)) (hstage0_5 ((cfg0.slots t 5).cast nbuf0_5))
    (win0_6.stage (cfg0.slots t 6)) (hstage0_6 ((cfg0.slots t 6).cast nbuf0_6))
    (win0_7.stage (cfg0.slots t 7)) (hstage0_7 ((cfg0.slots t 7).cast nbuf0_7))
    (win0_8.stage (cfg0.slots t 8)) (hstage0_8 ((cfg0.slots t 8).cast nbuf0_8)) scM (Memref.isWhole_whole _)
    (iblk m c 0 t) (iblk m c 1 t) (iblk m c 2 t) (iblk m c 3 t) (iblk m c 4 t) (iblk m c 5 t) (iblk m c 6 t)
    ((cond1_iff t).mpr h) ((cond2_iff t).mpr (by omega)) (fun h' => (cond3_iff t).mp h' (by omega))

/-- at a later point on plain columns, -/
def plainAt (t : Fin cfg0.N) (h : ¬t.val % 10 = 0) (hp : t.val % 10 < 4) (x : Vec F S1040x2048 .bf16) :=
  plain (F := F) c (grid0.coords t) (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (win0_4.stage (cfg0.slots t 4)) (hstage0_4 ((cfg0.slots t 4).cast nbuf0_4))
    (win0_5.stage (cfg0.slots t 5)) (hstage0_5 ((cfg0.slots t 5).cast nbuf0_5))
    (win0_6.stage (cfg0.slots t 6)) (hstage0_6 ((cfg0.slots t 6).cast nbuf0_6))
    (win0_7.stage (cfg0.slots t 7)) (hstage0_7 ((cfg0.slots t 7).cast nbuf0_7))
    (win0_8.stage (cfg0.slots t 8)) (hstage0_8 ((cfg0.slots t 8).cast nbuf0_8)) scM (Memref.isWhole_whole _)
    (iblk m c 0 t) (iblk m c 1 t) (iblk m c 2 t) (iblk m c 3 t) (iblk m c 4 t) (iblk m c 5 t) (iblk m c 6 t) x
    (fun h' => h ((cond1_iff t).mp h')) ((cond2_iff t).mpr hp) (fun h' => (cond3_iff t).mp h' hp)

/-- and at a point on convolved columns. -/
def convAt (t : Fin cfg0.N) (hp : ¬t.val % 10 < 4) (x : Vec F S1040x2048 .bf16) :=
  conv (F := F) c (grid0.coords t) (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (win0_4.stage (cfg0.slots t 4)) (hstage0_4 ((cfg0.slots t 4).cast nbuf0_4))
    (win0_5.stage (cfg0.slots t 5)) (hstage0_5 ((cfg0.slots t 5).cast nbuf0_5))
    (win0_6.stage (cfg0.slots t 6)) (hstage0_6 ((cfg0.slots t 6).cast nbuf0_6))
    (win0_7.stage (cfg0.slots t 7)) (hstage0_7 ((cfg0.slots t 7).cast nbuf0_7))
    (win0_8.stage (cfg0.slots t 8)) (hstage0_8 ((cfg0.slots t 8).cast nbuf0_8)) scM (Memref.isWhole_whole _)
    (iblk m c 0 t) (iblk m c 1 t) (iblk m c 2 t) (iblk m c 3 t) (iblk m c 4 t) (iblk m c 5 t) (iblk m c 6 t) x
    (fun h' => by have := (cond1_iff t).mp h'; omega) (fun h' => hp ((cond2_iff t).mp h')) ((cond3_iff t).mpr hp)

/-- The first points. -/
abbrev First := { s : Fin cfg0.N // s.val % 10 = 0 }

/-- The first point of a point's row block. -/
def start (t : Fin cfg0.N) : First :=
  ⟨⟨t.val / 10 * 10, lt_of_le_of_lt (Nat.div_mul_le_self _ _) t.isLt⟩, Nat.mul_mod_left _ _⟩

theorem start_first (t : Fin cfg0.N) (h : t.val % 10 = 0) : start t = ⟨t, h⟩ :=
  Subtype.ext (Fin.ext (by unfold start; dsimp only; omega))

theorem start_prev (t : Fin cfg0.N) (h : ¬t.val % 10 = 0) :
    start ⟨t.val - 1, Nat.lt_of_le_of_lt (Nat.sub_le _ _) t.isLt⟩ = start t :=
  Subtype.ext (Fin.ext (by unfold start; dsimp only; omega))

/-- What a first point leaves in the scratch, in the time steps' block and in the block of columns. -/
def scrOf (s : First) : Vec F S1040x2048 .bf16 := leaves scM (firstAt m c s.1 s.2).2.2.1
def stepOf (s : First) : Vec F S1024x128 .f32 := leaves stepM (firstAt m c s.1 s.2).2.1
def colsFirst (s : First) : Vec F S1024x1024 .f32 := leaves colsM (firstAt m c s.1 s.2).1

/-- What a later point leaves in the block of columns. -/
def colsPlain (t : Fin cfg0.N) (h : ¬t.val % 10 = 0) (hp : t.val % 10 < 4) : Vec F S1024x1024 .f32 :=
  leaves colsM (plainAt m c t h hp (scrOf m c (start t))).1
def colsConv (t : Fin cfg0.N) (hp : ¬t.val % 10 < 4) : Vec F S1024x1024 .f32 :=
  leaves colsM (convAt m c t hp (scrOf m c (start t))).1

/-- What a point leaves in the block of columns. -/
def cols (t : Fin cfg0.N) : Vec F S1024x1024 .f32 :=
  if h : t.val % 10 = 0 then colsFirst m c ⟨t, h⟩
  else if hp : t.val % 10 < 4 then colsPlain m c t h hp else colsConv m c t hp

/-- Each run's pieces cover what they are written to. -/
theorem cover_scr (s : First) (y : S1040x2048.Idx) : ∃ pc ∈ (firstAt m c s.1 s.2).2.2.1, y ∈ pc.1.set :=
  View.cover_of_tiledBy (firstAt m c s.1 s.2).2.2.1 S16x2048.size (by sl_kernel_rfl) y
theorem cover_step (s : First) (y : S1024x128.Idx) : ∃ pc ∈ (firstAt m c s.1 s.2).2.1, y ∈ pc.1.set :=
  View.cover_of_tiledL (firstAt m c s.1 s.2).2.1 S1024x128.size (by sl_kernel_rfl) y
theorem cover_first (s : First) (y : S1024x1024.Idx) : ∃ pc ∈ (firstAt m c s.1 s.2).1, y ∈ pc.1.set :=
  View.cover_of_tiledL (firstAt m c s.1 s.2).1 S1024x1024.size (by sl_kernel_rfl) y
theorem cover_plain (t : Fin cfg0.N) (h : ¬t.val % 10 = 0) (hp : t.val % 10 < 4) (x : Vec F S1040x2048 .bf16) (y : S1024x1024.Idx) :
    ∃ pc ∈ (plainAt m c t h hp x).1, y ∈ pc.1.set :=
  View.cover_of_tiledL (plainAt m c t h hp x).1 S1024x1024.size (by sl_kernel_rfl) y
theorem cover_conv (t : Fin cfg0.N) (hp : ¬t.val % 10 < 4) (x : Vec F S1040x2048 .bf16) (y : S1024x1024.Idx) :
    ∃ pc ∈ (convAt m c t hp x).1, y ∈ pc.1.set :=
  View.cover_of_tiledL (convAt m c t hp x).1 S1024x1024.size (by sl_kernel_rfl) y

/-- Pieces that cover a buffer leave their contents, whichever buffer they are stated through. -/
theorem written_owns {s : Shape} {e : EltTy} (a b : Memref sig .tc .vmem s e) (L : List (View.Piece (Elt F) s e))
    (hL : ∀ y, ∃ pc ∈ L, y ∈ pc.1.set) : written c a L ⊢ (owns (c : Thread nD τ) a fullShare (leaves b L) : sProp 𝕄) := by
  unfold written leaves owns
  iintro ⟨%f, H⟩
  iexists _; isplitr
  swap; · iexact H
  ipureintro; exact View.read_writes_of_cover _ _ _ _ _ hL

/-- The invariant between points: before the first the scratch at anything, later at its row block's contents. -/
def inv : (n : ℕ) → n ≤ cfg0.N → sProp 𝕄
  | 0, _ => Pipeline.ΦA spec0 c
  | n + 1, hn => iprop(owns (c : Thread nD τ) scM fullShare (scrOf m c (start ⟨n, hn⟩)) ∗ ∃ r, prngReg c r)

theorem inv_pos (n : ℕ) (h : n ≤ cfg0.N) (hz : n ≠ 0) :
    inv m c n h = iprop(owns (c : Thread nD τ) scM fullShare (scrOf m c (start ⟨n - 1, by omega⟩)) ∗ ∃ r, prngReg c r) := by
  cases n with
  | zero => exact absurd rfl hz
  | succ n => rfl

/-- The launch's invariant is the scratch at anything. -/
theorem launch_inv : (Pipeline.ΦA spec0 c : sProp 𝕄) = iprop((∃ d, owns (c : Thread nD τ) scM fullShare d) ∗ ∃ r, prngReg c r) := by
  unfold Pipeline.ΦA; rw [scopedRest0_eq]; simp only [scM, owns_whole]; rfl

/-- At any point the invariant has the scratch at something. -/
theorem inv_some (n : ℕ) (h : n ≤ cfg0.N) :
    inv m c n h ⊢ iprop((∃ d, owns (c : Thread nD τ) scM fullShare d) ∗ ∃ r, prngReg c r) := by
  rcases Nat.eq_zero_or_pos n with rfl | hz
  · rw [show inv m c 0 h = Pipeline.ΦA spec0 c from rfl, launch_inv]
  · rw [inv_pos m c n h (by omega)]
    iintro ⟨H, Hg⟩
    isplitl [H]; · iexists _; iexact H
    iexact Hg

/-- The pipeline's data: the inputs' buffers keep their blocks, the outputs' hold what the points leave. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => cols m c t
    | ⟨8, _⟩ => stepOf m c (start t)
  Φ t := inv m c t.val (Nat.le_of_lt_succ t.isLt)
  q w := Pipeline.shareOf spec0 w
  owed _ := 0

theorem A_eq (w : Fin cfg0.W) : (dats m 0 c).A w = V m c (Pipeline.arrRef spec0 w) := by dsimp only [dats]
theorem after7 (t : Fin cfg0.N) : (dats m 0 c).after 7 t = cols m c t := by dsimp only [dats]
theorem after8 (t : Fin cfg0.N) : (dats m 0 c).after 8 t = stepOf m c (start t) := by dsimp only [dats]

theorem idle8 (t : Fin cfg0.N) (h : ¬t.val % 10 = 0) : cfg0.idle 8 (cfg0.grid.coords t) = true := by
  show (!(k0_cond1 (grid0.coords t) == 1#1)) = true
  rw [Bool.not_eq_true', beq_eq_false_iff_ne]
  exact fun h' => h ((cond1_iff t).mp h')

theorem live8 (t : Fin cfg0.N) (h : t.val % 10 = 0) : cfg0.idle 8 (cfg0.grid.coords t) = false := by
  show (!(k0_cond1 (grid0.coords t) == 1#1)) = false
  rw [(cond1_iff t).mpr h]; rfl

theorem live7 (t : Fin cfg0.N) : cfg0.idle 7 (cfg0.grid.coords t) = false := by
  show (!(k0_cond2 (grid0.coords t) == 1#1) && !(k0_cond3 (grid0.coords t) == 1#1)) = false
  by_cases hp : t.val % 10 < 4
  · rw [(cond2_iff t).mpr hp]; rfl
  · rw [(cond3_iff t).mpr hp, Bool.and_comm]; rfl

/-- The time steps' buffer keeps, at a later point, what the row block's first point left. -/
theorem before8 : ∀ (n : ℕ) (hn : n < cfg0.N), ¬n % 10 = 0 → ∀ d, (dats m 0 c).before 8 ⟨n, hn⟩ d = stepOf m c (start ⟨n, hn⟩)
  | 0, _, h, _ => absurd rfl h
  | n + 1, hn, h, d => by
    have hf : (cfg0.win 8).flush ⟨n, Nat.lt_of_succ_lt hn⟩ = false :=
      Bool.eq_false_iff.mpr fun e => by have := (flush0_8 _).mp e; dsimp only at this; omega
    have hs : start ⟨n, Nat.lt_of_succ_lt hn⟩ = start ⟨n + 1, hn⟩ := start_prev ⟨n + 1, hn⟩ h
    rw [(dats m 0 c).before_of_pos 8 ⟨n + 1, hn⟩ (Nat.succ_ne_zero n) ((cfg0.win 8).fetch_out rfl _)]
    refine (if_neg (by rw [show (cfg0.win 8).flush ⟨n + 1 - 1, _⟩ = false from hf]; exact Bool.false_ne_true)).trans ?_
    show (dats m 0 c).left 8 ⟨n, Nat.lt_of_succ_lt hn⟩ d = _
    unfold Dat.left
    by_cases h0 : n % 10 = 0
    · rw [live8 _ h0]
      dsimp only
      unfold Dat.kept
      rw [Pipeline.fill_of_clip_none 8 _ (fun _ => rfl) d ((dats m 0 c).after 8 _), Pipeline.Window.fill_cut, after8, hs]
    · rw [idle8 _ h0]
      dsimp only
      rw [before8 n _ h0, hs]

/-- What a point returns the outputs' buffers at. -/
theorem returns7 (t : Fin cfg0.N) :
    owns (c : Thread nD τ) (win0_7.stage (cfg0.slots t 7)) fullShare (cols m c t) ⊢ ((dats m 0 c).leavesExact 7 t : sProp 𝕄) := by
  unfold Dat.leavesExact
  rw [live7 t, after7]

theorem returns8 (t : Fin cfg0.N) :
    owns (c : Thread nD τ) (win0_8.stage (cfg0.slots t 8)) fullShare (stepOf m c (start t)) ⊢ ((dats m 0 c).leavesExact 8 t : sProp 𝕄) := by
  unfold Dat.leavesExact
  by_cases h : t.val % 10 = 0
  · rw [live8 t h, after8]
  · rw [idle8 t h]
    cases (cfg0.win 8).flush t
    · dsimp only
      iintro H
      iexists stepOf m c (start t)
      rw [before8 m c t.val t.isLt h]
      iexact H
    · rw [after8]

end Cert.OddInIdeal.Run

end
-- ==== Proof.OddInBody.lean ====
/-
  The recurrence layers' input projection as a whole: at every grid point the body takes the pipeline's data from before
  the point to after it, so every execution ends with the argument arrays as they were and the results' arrays at what
  the points leave.
-/
module

public import proofs.«01_k».proof.Proof.OddInPoint
public import Idealize.ShloMosaic.Lib.Claim

@[expose] public section

set_option maxRecDepth 16384

noncomputable section

namespace Cert.OddInIdeal.Run

open Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

/-- What the body is called with and what it returns, besides the invariant: the inputs' buffers at their blocks. -/
def blocks (t : Fin cfg0.N) : sProp 𝕄 :=
  inputs c (win0_0.stage (cfg0.slots t 0)) (win0_1.stage (cfg0.slots t 1)) (win0_2.stage (cfg0.slots t 2)) (win0_3.stage (cfg0.slots t 3)) (win0_4.stage (cfg0.slots t 4)) (win0_5.stage (cfg0.slots t 5)) (win0_6.stage (cfg0.slots t 6))
    (iblk m c 0 t) (iblk m c 1 t) (iblk m c 2 t) (iblk m c 3 t) (iblk m c 4 t) (iblk m c 5 t) (iblk m c 6 t)

/-- The outputs' buffers as the body finds them, -/
def found (t : Fin cfg0.N) : sProp 𝕄 :=
  iprop((∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d)))

/-- and as it leaves them. -/
def made (t : Fin cfg0.N) : sProp 𝕄 :=
  iprop(owns (c : Thread nD τ) (win0_7.stage (cfg0.slots t 7)) fullShare (cols m c t) ∗ owns (c : Thread nD τ) (win0_8.stage (cfg0.slots t 8)) fullShare (stepOf m c (start t)))

set_option maxHeartbeats 3200000 in
/-- The body at any point. -/
theorem body_at (t : Fin cfg0.N) :
    iprop(inv m c t.val (Nat.le_of_lt t.isLt) ∗ blocks m c t ∗ found m c t)
      ⊢ wp frame (wpE (defs₀ (F := F)) Variants.none c none) Set.univ (bodyAt0 t)
          (fun _ => iprop(inv m c (t.val + 1) t.isLt ∗ blocks m c t ∗ made m c t)) := by
  have hi : inv m c (t.val + 1) t.isLt = iprop(owns (c : Thread nD τ) scM fullShare (scrOf m c (start t)) ∗ ∃ r, prngReg c r) := rfl
  unfold found made blocks bodyAt0
  rw [hi]
  by_cases h : t.val % 10 = 0
  · have hc : cols m c t = colsFirst m c ⟨t, h⟩ := dif_pos h
    rw [hc, start_first t h]
    refine (BIClass.sep_mono (inv_some m c _ _) .rfl).trans ?_
    iintro ⟨⟨HS, Hg⟩, HB, ⟨%d7, H7⟩, ⟨%d8, H8⟩⟩
    iapply ((firstAt m c t h).2.2.2 Set.univ _)
    isplitl [HB]; · iexact HB
    isplitl [H7]; · iexists _; iexact H7
    isplitl [H8]; · iexists _; iexact H8
    isplitl [HS]; · iexact HS
    iintro ⟨HB, H7, H8, HS⟩
    isplitl [HS Hg]
    · isplitl [HS]; · iapply (written_owns c scM scM _ (cover_scr m c ⟨t, h⟩)); iexact HS
      iexact Hg
    isplitl [HB]; · iexact HB
    isplitl [H7]; · iapply (written_owns c _ colsM _ (cover_first m c ⟨t, h⟩)); iexact H7
    iapply (written_owns c _ stepM _ (cover_step m c ⟨t, h⟩)); iexact H8
  · have hz : t.val ≠ 0 := fun e => h (by rw [e])
    rw [inv_pos m c t.val _ hz, start_prev t h]
    simp only [before8 m c t.val t.isLt h]
    by_cases hp : t.val % 10 < 4
    · have hc : cols m c t = colsPlain m c t h hp := (dif_neg h).trans (dif_pos hp)
      rw [hc]
      iintro ⟨⟨HS, Hg⟩, HB, ⟨%d7, H7⟩, ⟨%d8, H8⟩⟩
      iapply ((plainAt m c t h hp (scrOf m c (start t))).2 Set.univ _)
      isplitl [HB]; · iexact HB
      isplitl [H7]; · iexists _; iexact H7
      isplitl [HS]; · iexact HS
      iintro ⟨HB, H7, HS⟩
      isplitl [HS Hg]
      · isplitl [HS]; · iexact HS
        iexact Hg
      isplitl [HB]; · iexact HB
      isplitl [H7]; · iapply (written_owns c _ colsM _ (cover_plain m c t h hp _)); iexact H7
      iexact H8
    · have hc : cols m c t = colsConv m c t hp := (dif_neg h).trans (dif_neg hp)
      rw [hc]
      iintro ⟨⟨HS, Hg⟩, HB, ⟨%d7, H7⟩, ⟨%d8, H8⟩⟩
      iapply ((convAt m c t hp (scrOf m c (start t))).2 Set.univ _)
      isplitl [HB]; · iexact HB
      isplitl [H7]; · iexists _; iexact H7
      isplitl [HS]; · iexact HS
      iintro ⟨HB, H7, HS⟩
      isplitl [HS Hg]
      · isplitl [HS]; · iexact HS
        iexact Hg
      isplitl [HB]; · iexact HB
      isplitl [H7]; · iapply (written_owns c _ colsM _ (cover_conv m c t hp _)); iexact H7
      iexact H8

/-- What the pipeline calls the body with at a point, the windows one by one, -/
def called (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d)))

/-- and what it takes back. -/
def taken (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ (dats m 0 c).leavesExact 7 t ∗ (dats m 0 c).leavesExact 8 t)

/-- The inputs' buffers hold their blocks at every point. -/
theorem called_blocks (t : Fin cfg0.N) :
    called m c t ⊢ iprop((dats m 0 c).owesAt () t.castSucc ∗ (inv m c t.val (Nat.le_of_lt t.isLt) ∗ blocks m c t ∗ found m c t)) := by
  unfold called blocks inputs found
  rw [show (dats m 0 c).Φ t.castSucc = inv m c t.val (Nat.le_of_lt t.isLt) from rfl]
  simp only [before0_0_of m (dats m 0 c) (A_eq m c 0) (fun _ => rfl) t]
  simp only [before0_1_of m (dats m 0 c) (A_eq m c 1) (fun _ => rfl) t]
  simp only [before0_2_of m (dats m 0 c) (A_eq m c 2) (fun _ => rfl) t]
  simp only [before0_3_of m (dats m 0 c) (A_eq m c 3) (fun _ => rfl) t]
  simp only [before0_4_of m (dats m 0 c) (A_eq m c 4) (fun _ => rfl) t]
  simp only [before0_5_of m (dats m 0 c) (A_eq m c 5) (fun _ => rfl) t]
  simp only [before0_6_of m (dats m 0 c) (A_eq m c 6) (fun _ => rfl) t]
  iintro ⟨HI, Ho, ⟨%d0, H0⟩, ⟨%d1, H1⟩, ⟨%d2, H2⟩, ⟨%d3, H3⟩, ⟨%d4, H4⟩, ⟨%d5, H5⟩, ⟨%d6, H6⟩, H7, H8⟩
  isplitl [Ho]; · iexact Ho
  isplitl [HI]; · iexact HI
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  isplitl [H7]; · iexact H7
  iexact H8

theorem made_taken (t : Fin cfg0.N) :
    iprop((dats m 0 c).owesAt () t.castSucc ∗ (inv m c (t.val + 1) t.isLt ∗ blocks m c t ∗ made m c t)) ⊢ taken m c t := by
  unfold taken blocks inputs made
  rw [show (dats m 0 c).Φ t.succ = inv m c (t.val + 1) t.isLt from rfl,
    show (dats m 0 c).owesAt () t.succ = (dats m 0 c).owesAt () t.castSucc from rfl]
  iintro ⟨Ho, HI, ⟨H0, H1, H2, H3, H4, H5, H6⟩, H7, H8⟩
  isplitl [HI]; · iexact HI
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply (returns7 m c t); iexact H7
  iapply (returns8 m c t); iexact H8

/-- The body's obligation, at every point. -/
theorem obligation : BodyObligation (dats (F := F) m 0 c) (defs₀ (F := F)) Variants.none () Set.univ := fun t => by
  rw [bigSep_W0, bigSep_W0, show defs₀ (F := F) .tc cfg0.body (cfg0.bodyArgs t (cfg0.slots t)) = bodyAt0 t by unfold defs₀; rw [Defs.onTc_tc]]
  refine triple_restated (P := called m c t) (Q := fun _ => taken m c t) ?_ rfl .rfl fun _ => .rfl
  refine (called_blocks m c t).trans ?_
  refine (BIClass.sep_mono .rfl (body_at m c t)).trans ?_
  exact (wp_frame_l _ _ _).trans (wp_mono _ _ _ fun _ => made_taken m c t)

/-- The launch hands the region the invariant before the first point, -/
theorem enters : Pipeline.ΦA spec0 c ⊢ (dats (F := F) m 0 c).Φ 0 := by
  rw [show (dats m 0 c).Φ 0 = Pipeline.ΦA spec0 c from rfl]

/-- and the one after the last gives it back. -/
theorem leaves_region : (dats m 0 c).Φ (Fin.last cfg0.N) ⊢ Pipeline.ΦA spec0 c := by
  rw [launch_inv]
  exact inv_some m c cfg0.N le_rfl

set_option backward.isDefEq.respectTransparency.types false in
/-- Every execution ends with the arrays at what the data say, and every counter at zero. -/
theorem runs : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hin := enters m) (hout := leaves_region m)

/-- The frame: the argument arrays end as they were. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) ((θ_run defs _ _).mono (fun _ h => h.1) (runs m ρ)))
    ((θ_run defs _ _).mono (fun _ h => h.2) (runs m ρ))

end Cert.OddInIdeal.Run

end
-- ==== Proof.OddInFrame.lean ====
/-
  The frame of the recurrence layers' input projection as printed. Its idealization changes no operation, so the two
  programs are one, and what was shown of the idealization for any float operations holds of the program.
-/
module

public import proofs.«01_k».proof.Proof.Gen.OddIn.Frame
public import proofs.«01_k».proof.Proof.OddInBody

@[expose] public section

set_option maxRecDepth 16384

noncomputable section

namespace Cert.OddIn.Run

open Idealize.ShloMosaic Idealize.ShloMosaic.TcCoe
open Idealize.SL Idealize.SL.Sem

variable {F : FTy → Type} [FloatOps F]
variable (m : (ℓ : Loc nD τ sig) → Buf (Elt F) ℓ) (ρ : Dev nD → PrngReg)

set_option backward.isDefEq.respectTransparency.types false in
/-- The bodies are one. -/
theorem same_body : OddInIdeal.cc0_odd_inproj_conv (F := F) = cc0_odd_inproj_conv (F := F) := rfl

set_option backward.isDefEq.respectTransparency.types false in
/-- The body tables are one. -/
theorem same_bodies : OddInIdeal.defs₀ (F := F) = defs₀ (F := F) := by
  refine congrArg (Defs.onTc (nD := nD) (τ := τ) (sig := sig) (Val := Elt F) (Λ := Λ₀)) ?_
  funext ℓ a
  obtain ⟨k, hk⟩ := ℓ
  cases k with
  | zero => rfl
  | succ k => exact absurd hk (Nat.not_lt.2 (Nat.le_add_left _ _))

set_option backward.isDefEq.respectTransparency.types false in
/-- The programs' tables are one. -/
theorem same_defs : OddInIdeal.defs (F := F) = defs (F := F) :=
  congrArg (Pipeline.defs (pcfgs (F := F))) same_bodies

set_option backward.isDefEq.respectTransparency.types false in
/-- The frame: the argument arrays end as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  have h := OddInIdeal.Run.frame (F := F) m ρ
  rw [same_defs] at h
  exact h

end Cert.OddIn.Run

end
-- ==== Proof.OddInStep.lean ====
/-
  What a grid point of the recurrence layers' input projection leaves, as the kernel's pure computations on the blocks it
  is given: the scratch by its rows, the time steps' block, and the block of columns of each kind of point.
-/
module

public import proofs.«01_k».proof.Proof.OddInPoint
public import Idealize.ShloMosaic.Lib.Pipeline.ValueKit
public import Idealize.ShloMosaic.Lib.Pointwise

@[expose] public section

set_option maxRecDepth 16384

noncomputable section

namespace Cert.OddInIdeal.Run

open Gen Idealize.ShloMosaic Idealize.ShloMosaic.TcCoe

variable {F : FTy → Type} [FloatOps F] (m : (ℓ : Loc nD τ sig) → Buf (Elt F) ℓ) (c : Dev nD)

theorem origin2 : (![0, 0] : Fin 2 → Nat) = fun _ => 0 := funext (by decide)

theorem origin3 : (![0, 0, 0] : Fin 3 → Nat) = fun _ => 0 := funext (by decide)

/-- The rows a first point normalizes: its own, and the sixteen before them. -/
def own (s : First) : Vec F S1024x2048 .bf16 := k0_pay6 (iblk m c 2 s.1) (iblk m c 0 s.1)
def halo (s : First) : Vec F S16x2048 .bf16 := k0_pay5 (iblk m c 2 s.1) (iblk m c 1 s.1)

/-- The scratch: the rows before, then the point's own. -/
theorem scrOf_eq (s : First) :
    scrOf m c s = View.canon (Val := Elt F) (s := S1040x2048) (e := .bf16) [⟨Rect.unit ![16, 0] S1024x2048.size inb_S1040x2048_S1024x2048_16_0, own m c s⟩,
      ⟨Rect.unit ![0, 0] S16x2048.size inb_S1040x2048_S16x2048_0_0, halo m c s⟩] := by
  unfold scrOf leaves
  rw [View.read_writes_eq_canon _ _ _ (cover_scr m c s)]
  unfold firstAt first
  dsimp only
  sl_unfold_words
  simp only [View.readAt_eq_ld, Memref.IsWhole.read_unread, View.ld_unit_zero (S := S1024x2048) origin2,
    View.ld_unit_zero (S := S16x2048) origin2, View.ld_unit_zero (S := S1x2048) origin2]
  rfl

/-- The scratch's rows from the sixteenth on are the point's own. -/
theorem scr_own (s : First) (r : Fin 1024) (k : Fin 2048) :
    scrOf m c s (ix2 ⟨16 + r.val, by omega⟩ k) = own m c s (ix2 r k) := by
  rw [scrOf_eq]
  have e : (ix2 ⟨16 + r.val, by omega⟩ k : S1040x2048.Idx)
      = (Rect.unit (s := S1040x2048) ![16, 0] S1024x2048.size inb_S1040x2048_S1024x2048_16_0).emb (ix2 r k) := by
    blk_ext []
  rw [e]
  exact View.canon_cons_emb _ _ _ _

/-- Its first sixteen rows are the rows before. -/
theorem scr_halo (s : First) (r : Fin 16) (k : Fin 2048) :
    scrOf m c s (ix2 ⟨r.val, by omega⟩ k) = halo m c s (ix2 r k) := by
  rw [scrOf_eq]
  have e : (ix2 ⟨r.val, by omega⟩ k : S1040x2048.Idx)
      = (Rect.unit (s := S1040x2048) ![0, 0] S16x2048.size inb_S1040x2048_S16x2048_0_0).emb (ix2 r k) := by
    blk_ext []
  rw [View.canon_cons_of_not_mem]
  · rw [e]
    exact View.canon_cons_emb _ _ _ _
  · exact Rect.not_mem_set_of_axis _ _ 0 16 1024 rfl rfl rfl (.inl r.isLt)

/-- The time steps' block. -/
theorem stepOf_eq (s : First) : stepOf m c s = k0_pay1 (own m c s) (iblk m c 4 s.1) := by
  unfold stepOf leaves
  rw [View.read_writes_eq_canon _ _ _ (cover_step m c s)]
  unfold firstAt first
  dsimp only
  sl_unfold_words
  rw [View.canon_cons_unit_zero (S := S1024x128) origin2, View.readCov_cons_toLoadRect]
  simp only [View.readAt_eq_ld, Memref.IsWhole.read_unread, View.ld_unit_zero (S := S1024x2048) origin2,
    View.ld_unit_zero (S := S1x2048x128) origin3, View.ld_unit_zero (S := S1x2048) origin2]
  rfl

/-- The block of columns at a first point, -/
theorem colsFirst_eq (s : First) : colsFirst m c s = k0_pay2 (own m c s) (iblk m c 3 s.1) := by
  unfold colsFirst leaves
  rw [View.read_writes_eq_canon _ _ _ (cover_first m c s)]
  unfold firstAt first
  dsimp only
  sl_unfold_words
  rw [View.canon_cons_unit_zero (S := S1024x1024) origin2, View.readCov_cons_toLoadRect]
  simp only [View.readAt_eq_ld, Memref.IsWhole.read_unread, View.ld_unit_zero (S := S1024x2048) origin2,
    View.ld_unit_zero (S := S1x2048x1024) origin3, View.ld_unit_zero (S := S1x2048) origin2]
  rfl

/-- The scratch read whole. -/
theorem whole_read (x : Vec F S1040x2048 .bf16) :
    View.read (Elt F) (View.whole cc0_scratch0) ((Memref.isWhole_whole cc0_scratch0).unread x) = x :=
  (Memref.isWhole_whole cc0_scratch0).read_unread x

/-- at a later point on plain columns, -/
theorem colsPlain_eq (t : Fin cfg0.N) (h : ¬t.val % 10 = 0) (hp : t.val % 10 < 4) :
    colsPlain m c t h hp = k0_pay2 (own m c (start t)) (iblk m c 3 t) := by
  unfold colsPlain leaves
  rw [View.read_writes_eq_canon _ _ _ (cover_plain m c t h hp _)]
  unfold plainAt plain
  dsimp only
  rw [View.canon_cons_unit_zero (S := S1024x1024) origin2]
  simp only [View.readAt_eq_ld, Memref.IsWhole.read_unread, View.ld_unit_zero (S := S1x2048x1024) origin3]
  rw [whole_read]
  refine congrArg (k0_pay2 · (iblk m c 3 t)) (funext fun y => ?_)
  rw [scrOf_eq]
  exact View.canon_cons_emb _ _ _ y

/-- The convolution's weights for one of its four taps. -/
def tap (w : Vec F S4x1024 .f32) (n : Fin 4) : Vec F S1x1024 .f32 := fun y => w (ix2 n (y 1))

theorem tap_ld (w : Vec F S4x1024 .f32) (n : Fin 4) (inb) :
    View.ld w (Rect.unit (s := S4x1024) ![n.val, 0] ![1, 1024] inb) = tap w n := by
  refine funext fun y => ?_
  change S1x1024.Idx at y
  idx_vars y
  refine congrArg w (funext fun a => Fin.ext ?_)
  match a with
  | ⟨0, _⟩ => show n.val + 1 * y0.val = n.val; omega
  | ⟨1, _⟩ => show 0 + 1 * y1.val = y1.val; omega

/-- and at a point on convolved columns. -/
theorem colsConv_eq (t : Fin cfg0.N) (hp : ¬t.val % 10 < 4) :
    colsConv m c t hp
      = k0_pay3 (k0_pay8 (BitVec.ofNat 32 (grid0.coords t 0).val) (scrOf m c (start t)) (iblk m c 3 t))
          (k0_pay9 (BitVec.ofNat 32 (grid0.coords t 0).val) (scrOf m c (start t)) (iblk m c 3 t) (iblk m c 6 t)
            (tap (iblk m c 5 t) 3) (tap (iblk m c 5 t) 2) (tap (iblk m c 5 t) 1)) (tap (iblk m c 5 t) 0) := by
  unfold colsConv leaves
  rw [View.read_writes_eq_canon _ _ _ (cover_conv m c t hp _)]
  unfold convAt conv
  dsimp only
  sl_unfold_words
  rw [View.canon_cons_unit_zero (S := S1024x1024) origin2]
  simp only [View.readAt_eq_ld, Memref.IsWhole.read_unread, View.ld_unit_zero (S := S1x2048x1024) origin3,
    View.ld_unit_zero (S := S1040x2048) origin2, View.ld_unit_zero (S := S1x1024) origin2]
  rw [whole_read]
  exact congr (congr (congrArg k0_pay3 rfl) (congr (congr (congrArg (k0_pay9 _ _ _ _) (tap_ld _ 3 _)) (tap_ld _ 2 _)) (tap_ld _ 1 _)))
    (tap_ld _ 0 _)

end Cert.OddInIdeal.Run

end
-- ==== Proof.OddInPay.lean ====
/-
  What the pure computations of the recurrence layers' input projection are worth at an index: the normalized rows, their
  products with the weights, the rows before a row block, which are nothing at the start of a sequence, and the
  convolution of four taps with its gate.
-/
module

public import proofs.«01_k».proof.Proof.Gen.OddInIdeal.Skeleton
public import Idealize.ShloMosaic.Lib.Pointwise

@[expose] public section

set_option maxRecDepth 16384

noncomputable section

namespace Cert.OddInIdeal.Pay

open Cert.OddInIdeal Cert.OddInIdeal.Gen Idealize.ShloMosaic

/-- A row of the block, normalized by its root mean square. -/
theorem pay6_apply (g : Vec Ideal S1x2048 .f32) (x : Vec Ideal S1024x2048 .f32) (r : Fin 1024) (k : Fin 2048) :
    k0_pay6 g x (ix2 r k)
      = x (ix2 r k) * Ideal.rsqrt (Ideal.div (∑ k', x (ix2 r k') * x (ix2 r k')) (Ideal.ofBits .f32 0x45000000#32)
          + Ideal.ofBits .f32 0x3727C5AC#32) * g (ix2 0 k) := by
  pointwise [k0_pay6, k0_pay4]

/-- A row of the sixteen before the block, likewise. -/
theorem pay5_apply (g : Vec Ideal S1x2048 .f32) (x : Vec Ideal S16x2048 .f32) (r : Fin 16) (k : Fin 2048) :
    k0_pay5 g x (ix2 r k)
      = x (ix2 r k) * Ideal.rsqrt (Ideal.div (∑ k', x (ix2 r k') * x (ix2 r k')) (Ideal.ofBits .f32 0x45000000#32)
          + Ideal.ofBits .f32 0x3727C5AC#32) * g (ix2 0 k) := by
  pointwise [k0_pay5, k0_pay4]

/-- The time steps. -/
theorem pay1_apply (xn : Vec Ideal S1024x2048 .bf16) (w : Vec Ideal S1x2048x128 .bf16) (r : Fin 1024) (k : Fin 128) :
    k0_pay1 xn w (ix2 r k) = ∑ l, xn (ix2 r l) * w (ix3 0 l k) := by
  pointwise [k0_pay1]

/-- The plain columns. -/
theorem pay2_apply (xn : Vec Ideal S1024x2048 .bf16) (w : Vec Ideal S1x2048x1024 .bf16) (r : Fin 1024) (k : Fin 1024) :
    k0_pay2 xn w (ix2 r k) = ∑ l, xn (ix2 r l) * w (ix3 0 l k) := by
  pointwise [k0_pay2]

/-- The columns to convolve, of all the scratch's rows. -/
theorem pay7_apply (xn : Vec Ideal S1040x2048 .bf16) (w : Vec Ideal S1x2048x1024 .bf16) (p : Fin 1040) (k : Fin 1024) :
    k0_pay7 xn w (ix2 p k) = ∑ l, xn (ix2 p l) * w (ix3 0 l k) := by
  pointwise [k0_pay7]

/-- The same with the rows before the block put to zero where a sequence starts. -/
theorem pay8_apply (n : ℕ) (hn : n < 16) (xn : Vec Ideal S1040x2048 .bf16) (w : Vec Ideal S1x2048x1024 .bf16) (p : Fin 1040) (k : Fin 1024) :
    k0_pay8 (BitVec.ofNat 32 n) xn w (ix2 p k)
      = if p.val < 16 ∧ n % 4 = 0 then 0 else k0_pay7 xn w (ix2 p k) := by
  generalize hy : k0_pay7 xn w = y
  pointwise [k0_pay8, hy]
  by_cases hp : p.val < 16
  · rw [dif_pos hp]
    refine if_congr ?_ rfl rfl
    rw [and_iff_right hp]
    interval_cases n <;> decide +kernel
  · refine Eq.trans ?_ (if_neg fun h => hp h.1).symm
    refine (dif_neg hp).trans ?_
    exact congrArg (fun q => y (ix2 q k)) (Fin.ext (by dsimp only; omega))

/-- The convolution without its last tap. -/
theorem pay9_apply (a : BitVec 32) (xn : Vec Ideal S1040x2048 .bf16) (w : Vec Ideal S1x2048x1024 .bf16)
    (b w3 w2 w1 : Vec Ideal S1x1024 .f32) (r : Fin 1024) (k : Fin 1024) :
    k0_pay9 a xn w b w3 w2 w1 (ix2 r k)
      = b (ix2 0 k) + w3 (ix2 0 k) * k0_pay7 xn w (ix2 ⟨16 + r.val, by omega⟩ k)
        + w2 (ix2 0 k) * k0_pay8 a xn w (ix2 ⟨15 + r.val, by omega⟩ k)
        + w1 (ix2 0 k) * k0_pay8 a xn w (ix2 ⟨14 + r.val, by omega⟩ k) := by
  unfold k0_pay9
  generalize k0_pay7 xn w = y
  generalize k0_pay8 a xn w = z
  pointwise []

/-- The last tap and the gate. -/
theorem pay3_apply (z : FVec Ideal S1040x1024 .f32) (s : FVec Ideal S1024x1024 .f32) (w0 : Vec Ideal S1x1024 .f32)
    (r : Fin 1024) (k : Fin 1024) :
    k0_pay3 z s w0 (ix2 r k)
      = (s (ix2 r k) + w0 (ix2 0 k) * z (ix2 ⟨13 + r.val, by omega⟩ k))
        * Ideal.logistic (s (ix2 r k) + w0 (ix2 0 k) * z (ix2 ⟨13 + r.val, by omega⟩ k)) := by
  pointwise [k0_pay3]

end Cert.OddInIdeal.Pay

end
-- ==== Proof.OddInReads.lean ====
/-
  The blocks a grid point of the recurrence layers' input projection is given, read at an index as the arguments they are
  cut from. Point `t` is row block `t / 10` and column block `t % 10`.
-/
module

public import proofs.«01_k».proof.Proof.Gen.OddInIdeal.Frame
public import Idealize.ShloMosaic.Lib.Pipeline.ValueKit
public import Idealize.ShloMosaic.Lib.Pointwise
public import Idealize.ShloMosaic.Lib.Tactic

@[expose] public section

set_option maxRecDepth 16384

noncomputable section

namespace Cert.OddInIdeal.Reads

open Cert.OddInIdeal Cert.OddInIdeal.Gen Idealize.ShloMosaic Idealize.ShloMosaic.TcCoe

/-- The block indices of the windows, decided over the grid. -/
theorem places : ∀ t : Fin cfg0.N,
    win0_0.index t = ![t.val / 10, 0] ∧ win0_1.index t = ![t.val / 10 * 64 - 1, 0] ∧ win0_2.index t = ![0, 0]
      ∧ win0_3.index t = ![0, 0, t.val % 10] ∧ win0_4.index t = ![0, 0, 0] ∧ win0_5.index t = ![0, t.val % 10 - 4]
      ∧ win0_6.index t = ![0, t.val % 10 - 4] ∧ win0_7.index t = ![t.val / 10, t.val % 10] ∧ win0_8.index t = ![t.val / 10, 0] :=
  (by decide +kernel : ∀ t : Fin grid0.N, _)

theorem points : cfg0.N = 160 := N_0

theorem coord0 (t : Fin cfg0.N) : (grid0.coords t 0).val = t.val / 10 := by
  have ht : t.val < 160 := lt_of_lt_of_eq t.isLt points
  have e : (grid0.coords t 0).val = t.val / 10 % 16 := Pipeline.Grid.coords_val t 0 (by decide) rfl
  omega

variable (m : (ℓ : Loc nD τ sig) → Buf (Elt Ideal) ℓ) (c : Dev nD) (t : Fin cfg0.N)

/-- The row block. -/
theorem read_0 (r : Fin 1024) (k : Fin 2048) :
    iblk m c 0 t (ix2 r k) = m ((c : Thread nD τ).loc main_arg0) (ix2 ⟨1024 * (t.val / 10) + r.val, (by have := lt_of_lt_of_eq t.isLt points; omega)⟩ k) := by
  have hp := places t
  have hN : t.val < 160 := lt_of_lt_of_eq t.isLt points
  rw [← V_main_arg0 m c]
  blk_ext [iblk, hp]

/-- The sixteen rows before it. -/
theorem read_1 (r : Fin 16) (k : Fin 2048) :
    iblk m c 1 t (ix2 r k)
      = m ((c : Thread nD τ).loc main_arg0) (ix2 ⟨16 * (t.val / 10 * 64 - 1) + r.val, (by have := lt_of_lt_of_eq t.isLt points; omega)⟩ k) := by
  have hp := places t
  have hN : t.val < 160 := lt_of_lt_of_eq t.isLt points
  rw [← V_main_arg0 m c]
  blk_ext [iblk, hp]

/-- The norm weights, given to the kernel as one row. -/
theorem host_2 (k : Fin 2048) : V m c main_v0 (ix2 0 k) = m ((c : Thread nD τ).loc main_arg1) (ix1 k) := by
  entry_read
  pointwise []

theorem read_2 (k : Fin 2048) : iblk m c 2 t (ix2 0 k) = m ((c : Thread nD τ).loc main_arg1) (ix1 k) := by
  have hp := places t
  have hN : t.val < 160 := lt_of_lt_of_eq t.isLt points
  rw [← host_2 m c]
  blk_ext [iblk, hp]

/-- The column block of the weights. -/
theorem read_3 (l : Fin 2048) (k : Fin 1024) :
    iblk m c 3 t (ix3 0 l k) = m ((c : Thread nD τ).loc main_arg2) (ix3 0 l ⟨1024 * (t.val % 10) + k.val, by omega⟩) := by
  have hp := places t
  have hN : t.val < 160 := lt_of_lt_of_eq t.isLt points
  rw [← V_main_arg2 m c]
  blk_ext [iblk, hp]

/-- The weights of the time steps. -/
theorem read_4 (l : Fin 2048) (k : Fin 128) :
    iblk m c 4 t (ix3 0 l k) = m ((c : Thread nD τ).loc main_arg3) (ix3 0 l k) := by
  have hp := places t
  have hN : t.val < 160 := lt_of_lt_of_eq t.isLt points
  rw [← V_main_arg3 m c]
  blk_ext [iblk, hp]

/-- The taps of the column block. -/
theorem read_5 (n : Fin 4) (k : Fin 1024) :
    iblk m c 5 t (ix2 n k) = m ((c : Thread nD τ).loc main_arg4) (ix2 n ⟨1024 * (t.val % 10 - 4) + k.val, by omega⟩) := by
  have hp := places t
  have hN : t.val < 160 := lt_of_lt_of_eq t.isLt points
  rw [← V_main_arg4 m c]
  blk_ext [iblk, hp]

/-- The convolution's offsets, given to the kernel as one row. -/
theorem host_6 (k : Fin 6144) : V m c main_v1 (ix2 0 k) = m ((c : Thread nD τ).loc main_arg5) (ix1 k) := by
  entry_read
  pointwise []

theorem read_6 (k : Fin 1024) :
    iblk m c 6 t (ix2 0 k) = m ((c : Thread nD τ).loc main_arg5) (ix1 ⟨1024 * (t.val % 10 - 4) + k.val, by omega⟩) := by
  have hp := places t
  have hN : t.val < 160 := lt_of_lt_of_eq t.isLt points
  rw [← host_6 m c]
  blk_ext [iblk, hp]

end Cert.OddInIdeal.Reads

end
-- ==== Proof.OddInSpec.lean ====
/-
  The input projection of the recurrence layers as plain sums over the extended reals — plain columns, convolved columns
  and time steps of the normalized rows — and its reference read at an index as that.
-/
module

public import proofs.«01_k».proof.Proof.FfnSpec
public import proofs.«01_k».proof.Proof.Gen.OddInRefIdeal.Read

@[expose] public section

set_option maxRecDepth 16384

noncomputable section

namespace Cert.OddInSpec

open Cert.FfnSpec Idealize.ShloMosaic

/-- A normalized row's product with a column. -/
def dot (x : Fin 16384 → Fin 2048 → EReal) (g : Fin 2048 → EReal) (w : Fin 2048 → EReal) (r : Fin 16384) : EReal :=
  ∑ l, normed x g r l * w l

/-- The same for the row `d` rows earlier in the sequence, nothing before its start. -/
def back (x : Fin 16384 → Fin 2048 → EReal) (g : Fin 2048 → EReal) (w : Fin 2048 → EReal) (r : Fin 16384) (d : ℕ) : EReal :=
  if r.val % 4096 < d then 0 else dot x g w ⟨r.val - d, by omega⟩

/-- The convolution of four taps along the sequence. -/
def conv (x : Fin 16384 → Fin 2048 → EReal) (g : Fin 2048 → EReal) (w : Fin 2048 → EReal) (b w0 w1 w2 w3 : EReal) (r : Fin 16384) : EReal :=
  b + w0 * back x g w r 3 + w1 * back x g w r 2 + w2 * back x g w r 1 + w3 * back x g w r 0

/-- A convolved column's entry, gated by itself. -/
def gated (s : EReal) : EReal := s * Ideal.logistic s

section Reference

open Cert.OddInRefIdeal Cert.OddInRefIdeal.Gen Cert.OddInRefIdeal.Read

variable (x : Vec Ideal S16384x2048 .f32) (g : Vec Ideal S2048 .f32) (w : Vec Ideal S2x2048x10240 .bf16)
  (wdt : Vec Ideal S2x2048x128 .bf16) (cw : Vec Ideal S4x6144 .f32) (cb : Vec Ideal S6144 .f32)

/-- The normalized rows. -/
theorem ref_normed (r : Fin 16384) (k : Fin 2048) :
    val_main_v12 (F := Ideal) x g (ix2 r k) = normed (fun r k => x (ix2 r k)) (fun k => g (ix1 k)) r k := by
  unfold normed
  pointwise [val_main_v12, val_main_v11, val_main_v10, val_main_v9, val_main_v8, val_main_v7, val_main_v6, val_main_v5, val_main_v4, val_main_v3, val_main_v2, val_main_v1, val_main_v0, val_main_cst, val_main_cst_0, val_main_cst_1]

/-- The projected columns. -/
theorem ref_dot (r : Fin 16384) (k : Fin 10240) :
    val_main_v16 (F := Ideal) x g w (ix2 r k) = dot (fun r k => x (ix2 r k)) (fun k => g (ix1 k)) (fun l => w (ix3 0 l k)) r := by
  unfold dot
  pointwise [val_main_v16, val_main_v15, val_main_v14, val_main_v13, ref_normed]

/-- The time steps. -/
theorem ref_step (r : Fin 16384) (k : Fin 128) :
    val_main_v57 (F := Ideal) x g wdt (ix2 r k) = dot (fun r k => x (ix2 r k)) (fun k => g (ix1 k)) (fun l => wdt (ix3 0 l k)) r := by
  unfold dot
  pointwise [val_main_v57, val_main_v56, val_main_v55, val_main_v54, ref_normed]

/-- The columns to convolve, three rows of nothing put before each sequence. -/
theorem ref_padded (b : Fin 4) (s : Fin 4096) (d : ℕ) (p : Fin 4099) (hp : p.val + d = s.val + 3) (k : Fin 6144) :
    val_main_v19 (F := Ideal) x g w (ix3 b p k)
      = back (fun r k => x (ix2 r k)) (fun k => g (ix1 k)) (fun l => w (ix3 0 l ⟨4096 + k.val, by omega⟩)) ⟨4096 * b.val + s.val, by omega⟩ d := by
  unfold back
  rw [← ref_dot]
  generalize hy : val_main_v16 (F := Ideal) x g w = y
  have hs : (4096 * b.val + s.val) % 4096 = s.val := by omega
  pointwise [val_main_v19, val_main_v18, val_main_v17, val_main_call0_v0, val_main_c, hy, hs]
  by_cases h : s.val < d
  · refine (dif_neg (by omega)).trans (Eq.trans ?_ (if_pos h).symm)
    show (((0#32).toInt : ℝ) : EReal) = 0
    simp
  · refine (dif_pos (by omega)).trans (Eq.trans ?_ (if_neg h).symm)
    exact congrArg (fun q => y (ix2 q _)) (Fin.ext (by dsimp only; omega))

/-- The sum of the taps. -/
theorem ref_conv (b : Fin 4) (s : Fin 4096) (k : Fin 6144) :
    val_main_v49 (F := Ideal) x g w cw cb (ix3 b s k)
      = conv (fun r k => x (ix2 r k)) (fun k => g (ix1 k)) (fun l => w (ix3 0 l ⟨4096 + k.val, by omega⟩)) (cb (ix1 k))
          (cw (ix2 0 k)) (cw (ix2 1 k)) (cw (ix2 2 k)) (cw (ix2 3 k)) ⟨4096 * b.val + s.val, by omega⟩ := by
  have h := fun d p hp => ref_padded x g w b s d p hp k
  generalize hy : val_main_v19 (F := Ideal) x g w = y at *
  unfold conv
  rw [← h 3 ⟨s.val, by omega⟩ rfl, ← h 2 ⟨1 + s.val, by omega⟩ (by dsimp only; omega),
    ← h 1 ⟨2 + s.val, by omega⟩ (by dsimp only; omega), ← h 0 ⟨3 + s.val, by omega⟩ (by dsimp only; omega)]
  pointwise [val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, hy]

/-- The gated columns. -/
theorem ref_gated (r : Fin 16384) (k : Fin 6144) :
    val_main_v51 (F := Ideal) x g w cw cb (ix2 r k)
      = gated (conv (fun r k => x (ix2 r k)) (fun k => g (ix1 k)) (fun l => w (ix3 0 l ⟨4096 + k.val, by omega⟩)) (cb (ix1 k))
          (cw (ix2 0 k)) (cw (ix2 1 k)) (cw (ix2 2 k)) (cw (ix2 3 k)) r) := by
  have h := ref_conv x g w cw cb ⟨r.val / 4096, by omega⟩ ⟨r.val % 4096, by omega⟩ k
  generalize hy : val_main_v49 (F := Ideal) x g w cw cb = y at *
  have e : (⟨4096 * (r.val / 4096) + r.val % 4096, by omega⟩ : Fin 16384) = r := Fin.ext (by dsimp only; omega)
  dsimp only at h
  rw [e] at h
  rw [← h]
  unfold gated
  pointwise [val_main_v51, val_main_v50, val_main_call1_v5, val_main_call1_v4, val_main_call1_v3, val_main_call1_v2, val_main_call1_v1, val_main_call1_v0, val_main_call1_cst, val_main_call1_cst_0, hy]
  rfl

/-- The first result's plain columns, -/
theorem ref_plain (r : Fin 16384) (k : Fin 10240) (hk : k.val < 4096) :
    val_main_v53 (F := Ideal) x g w cw cb (ix2 r k)
      = dot (fun r k => x (ix2 r k)) (fun k => g (ix1 k)) (fun l => w (ix3 0 l k)) r := by
  rw [← ref_dot]
  generalize hy : val_main_v51 (F := Ideal) x g w cw cb = y
  generalize hz : val_main_v16 (F := Ideal) x g w = z
  pointwise [val_main_v53, val_main_v52, hy, hz]
  exact dif_pos hk

/-- and its convolved ones. -/
theorem ref_convolved (r : Fin 16384) (k : Fin 10240) (hk : ¬k.val < 4096) :
    val_main_v53 (F := Ideal) x g w cw cb (ix2 r k) = val_main_v51 (F := Ideal) x g w cw cb (ix2 r ⟨k.val - 4096, by omega⟩) := by
  generalize hy : val_main_v51 (F := Ideal) x g w cw cb = y
  generalize hz : val_main_v16 (F := Ideal) x g w = z
  pointwise [val_main_v53, val_main_v52, hy, hz]
  exact dif_neg hk

end Reference

end Cert.OddInSpec

end
-- ==== Proof.OddInValue.lean ====
/-
  The arrays the recurrence layers' input projection leaves, at an index: plain columns, convolved columns and time steps
  of the normalized rows. A row block's convolution reads the rows before it from the scratch.
-/
module

public import proofs.«01_k».proof.Proof.OddInStep
public import proofs.«01_k».proof.Proof.OddInPay
public import proofs.«01_k».proof.Proof.OddInReads
public import proofs.«01_k».proof.Proof.OddInSpec

@[expose] public section

set_option maxRecDepth 16384

noncomputable section

namespace Cert.OddInIdeal.Proj

open Cert.OddInIdeal Cert.OddInIdeal.Gen Cert.OddInIdeal.Run Cert.OddInIdeal.Pay Cert.OddInIdeal.Reads Cert.OddInSpec Cert.FfnSpec
open Idealize.ShloMosaic Idealize.ShloMosaic.TcCoe

variable (m : (ℓ : Loc nD τ sig) → Buf (Elt Ideal) ℓ) (c : Dev nD)

/-- The activations, the norm weights, the two weight matrices, the taps and the offsets, as functions of their indices. -/
def xs (r : Fin 16384) (k : Fin 2048) : EReal := m ((c : Thread nD τ).loc main_arg0) (ix2 r k)
def gs (k : Fin 2048) : EReal := m ((c : Thread nD τ).loc main_arg1) (ix1 k)
def ws (k : Fin 10240) (l : Fin 2048) : EReal := m ((c : Thread nD τ).loc main_arg2) (ix3 0 l k)
def dts (k : Fin 128) (l : Fin 2048) : EReal := m ((c : Thread nD τ).loc main_arg3) (ix3 0 l k)
def taps (n : Fin 4) (k : Fin 6144) : EReal := m ((c : Thread nD τ).loc main_arg4) (ix2 n k)
def offs (k : Fin 6144) : EReal := m ((c : Thread nD τ).loc main_arg5) (ix1 k)

/-- What the kernel is to leave in its first result, -/
def result (r : Fin 16384) (k : Fin 10240) : EReal :=
  if h : k.val < 4096 then dot (xs m c) (gs m c) (ws m c k) r
  else
    have hk : k.val - 4096 < 6144 := by omega
    gated (conv (xs m c) (gs m c) (ws m c k) (offs m c ⟨k.val - 4096, hk⟩) (taps m c 0 ⟨k.val - 4096, hk⟩)
      (taps m c 1 ⟨k.val - 4096, hk⟩) (taps m c 2 ⟨k.val - 4096, hk⟩) (taps m c 3 ⟨k.val - 4096, hk⟩) r)

theorem result_plain (r : Fin 16384) (k : Fin 10240) (h : k.val < 4096) :
    result m c r k = dot (xs m c) (gs m c) (ws m c k) r := by
  unfold result
  exact dif_pos h

/-- and in its second. -/
def steps (r : Fin 16384) (k : Fin 128) : EReal := dot (xs m c) (gs m c) (dts m c k) r

/-- Row `r` of a point's row block. -/
def rowOf (t : Fin cfg0.N) (r : Fin 1024) : Fin 16384 :=
  ⟨1024 * (t.val / 10) + r.val, by have := lt_of_lt_of_eq t.isLt Reads.points; omega⟩

/-- Column `k` of a point's column block. -/
def colOf (t : Fin cfg0.N) (k : Fin 1024) : Fin 10240 := ⟨1024 * (t.val % 10) + k.val, by omega⟩

theorem start_div (t : Fin cfg0.N) : (start t).1.val / 10 = t.val / 10 := by
  show t.val / 10 * 10 / 10 = t.val / 10
  omega

/-- A row block's own rows are its normalized rows. -/
theorem own_apply (s : First) (r : Fin 1024) (k : Fin 2048) :
    own m c s (ix2 r k) = normed (xs m c) (gs m c) (rowOf s.1 r) k := by
  unfold own
  rw [pay6_apply]
  simp only [read_0, read_2]
  rfl

/-- The rows before, where there are some. -/
theorem halo_apply (s : First) (p : Fin 16) (k : Fin 2048) :
    halo m c s (ix2 p k)
      = normed (xs m c) (gs m c) ⟨16 * (s.1.val / 10 * 64 - 1) + p.val, by have := lt_of_lt_of_eq s.1.isLt Reads.points; omega⟩ k := by
  unfold halo
  rw [pay5_apply]
  simp only [read_1, read_2]
  rfl

/-- The time steps a row block leaves. -/
theorem step_block (t : Fin cfg0.N) (r : Fin 1024) (k : Fin 128) :
    stepOf m c (start t) (ix2 r k) = steps m c (rowOf t r) k := by
  have e : rowOf (start t).1 r = rowOf t r := Fin.ext (by unfold rowOf; dsimp only; rw [start_div])
  rw [stepOf_eq, pay1_apply]
  simp only [own_apply, read_4, e]
  rfl

/-- A product with plain columns. -/
theorem plain_block (s : First) (t : Fin cfg0.N) (hs : s = start t) (r : Fin 1024) (k : Fin 1024) :
    k0_pay2 (own m c s) (iblk m c 3 t) (ix2 r k) = dot (xs m c) (gs m c) (ws m c (colOf t k)) (rowOf t r) := by
  have e : rowOf s.1 r = rowOf t r := Fin.ext (by subst hs; unfold rowOf; dsimp only; rw [start_div])
  rw [pay2_apply]
  simp only [own_apply, read_3, e]
  rfl

/-- A product of the scratch's own rows with columns to convolve. -/
theorem own_dot (t : Fin cfg0.N) (r : Fin 1024) (k : Fin 1024) :
    k0_pay7 (scrOf m c (start t)) (iblk m c 3 t) (ix2 ⟨16 + r.val, by omega⟩ k)
      = dot (xs m c) (gs m c) (ws m c (colOf t k)) (rowOf t r) := by
  have e : rowOf (start t).1 r = rowOf t r := Fin.ext (by unfold rowOf; dsimp only; rw [start_div])
  rw [pay7_apply]
  simp only [scr_own, own_apply, read_3, e]
  rfl

/-- A product of the rows before, where a row block does not start a sequence. -/
theorem halo_dot (t : Fin cfg0.N) (hb : ¬t.val / 10 = 0) (p : Fin 16) (k : Fin 1024) (r : Fin 16384)
    (hr : r.val + 16 = 1024 * (t.val / 10) + p.val) :
    k0_pay7 (scrOf m c (start t)) (iblk m c 3 t) (ix2 ⟨p.val, by omega⟩ k)
      = dot (xs m c) (gs m c) (ws m c (colOf t k)) r := by
  have e : (⟨16 * ((start t).1.val / 10 * 64 - 1) + p.val, by have := lt_of_lt_of_eq (start t).1.isLt Reads.points; omega⟩ : Fin 16384) = r :=
    Fin.ext (by dsimp only; rw [start_div]; omega)
  rw [pay7_apply]
  simp only [scr_halo, halo_apply, read_3, e]
  rfl

/-- What a tap `d` rows back reads. -/
theorem back_block (t : Fin cfg0.N) (r : Fin 1024) (k : Fin 1024) (d : ℕ) (hd : d ≤ 3) (p : Fin 1040) (hp : p.val + d = 16 + r.val) :
    k0_pay8 (BitVec.ofNat 32 (grid0.coords t 0).val) (scrOf m c (start t)) (iblk m c 3 t) (ix2 p k)
      = back (xs m c) (gs m c) (ws m c (colOf t k)) (rowOf t r) d := by
  have ht : t.val < 160 := lt_of_lt_of_eq t.isLt Reads.points
  have hv : (rowOf t r).val = 1024 * (t.val / 10) + r.val := rfl
  rw [coord0, pay8_apply _ (by omega)]
  unfold back
  by_cases hs : p.val < 16 ∧ t.val / 10 % 4 = 0
  · rw [if_pos hs, if_pos (by rw [hv]; omega)]
  · rw [if_neg hs, if_neg (by rw [hv]; omega)]
    by_cases hl : p.val < 16
    · exact halo_dot m c t (by omega) ⟨p.val, hl⟩ k _ (by dsimp only; rw [hv]; omega)
    · have e1 : p = ⟨16 + (⟨r.val - d, by omega⟩ : Fin 1024).val, by dsimp only; omega⟩ := Fin.ext (by dsimp only; omega)
      have e2 : (⟨(rowOf t r).val - d, by omega⟩ : Fin 16384) = rowOf t ⟨r.val - d, by omega⟩ := Fin.ext (by
        show 1024 * (t.val / 10) + r.val - d = 1024 * (t.val / 10) + (r.val - d); omega)
      rw [e2, ← own_dot]
      exact congrArg (fun p => k0_pay7 _ _ (ix2 p k)) e1

/-- The row the tap of no distance reads. -/
theorem here (t : Fin cfg0.N) (r : Fin 1024) (k : Fin 1024) :
    k0_pay7 (scrOf m c (start t)) (iblk m c 3 t) (ix2 ⟨16 + r.val, by omega⟩ k)
      = back (xs m c) (gs m c) (ws m c (colOf t k)) (rowOf t r) 0 := by
  rw [own_dot]
  exact (if_neg (Nat.not_lt_zero _)).symm

/-- The order of the taps does not matter. -/
theorem reorder (b p0 p1 p2 p3 : EReal) : b + p3 + p2 + p1 + p0 = b + p0 + p1 + p2 + p3 := by
  ac_rfl

/-- The block of columns a point leaves. -/
theorem cols_block (t : Fin cfg0.N) (r : Fin 1024) (k : Fin 1024) :
    cols m c t (ix2 r k) = result m c (rowOf t r) (colOf t k) := by
  have hc : (colOf t k).val = 1024 * (t.val % 10) + k.val := rfl
  unfold cols
  by_cases h : t.val % 10 = 0
  · rw [dif_pos h, colsFirst_eq, plain_block m c ⟨t, h⟩ t (start_first t h).symm]
    exact (result_plain m c _ _ (by rw [hc]; omega)).symm
  rw [dif_neg h]
  by_cases hp : t.val % 10 < 4
  · rw [dif_pos hp, colsPlain_eq, plain_block m c (start t) t rfl]
    exact (result_plain m c _ _ (by rw [hc]; omega)).symm
  rw [dif_neg hp, colsConv_eq, pay3_apply, pay9_apply, here m c t r k,
    back_block m c t r k 1 (by omega) ⟨15 + r.val, by omega⟩ (by dsimp only; omega),
    back_block m c t r k 2 (by omega) ⟨14 + r.val, by omega⟩ (by dsimp only; omega),
    back_block m c t r k 3 (by omega) ⟨13 + r.val, by omega⟩ (by dsimp only; omega), reorder]
  refine Eq.trans ?_ (dif_neg (show ¬(colOf t k).val < 4096 by rw [hc]; omega)).symm
  have hk : (⟨1024 * (t.val % 10 - 4) + k.val, by omega⟩ : Fin 6144) = ⟨(colOf t k).val - 4096, by omega⟩ :=
    Fin.ext (by dsimp only; rw [hc]; omega)
  have hw : ∀ n : Fin 4, tap (iblk m c 5 t) n (ix2 0 k) = taps m c n ⟨(colOf t k).val - 4096, by omega⟩ := fun n =>
    (read_5 m c t n k).trans (congrArg (taps m c n) hk)
  have ho : iblk m c 6 t (ix2 0 k) = offs m c ⟨(colOf t k).val - 4096, by omega⟩ :=
    (read_6 m c t k).trans (congrArg (offs m c) hk)
  rw [hw, hw, hw, hw, ho]
  rfl

/-- The first result. -/
theorem array7 : (dats m 0 c).arrAt 7 cfg0.N = fun y : S16384x10240.Idx => result m c (y 0) (y 1) :=
  (dats m 0 c).arrAt_eq_of_covers 7 _ (by decide +kernel) fun t hf y => by
    have hp := places t
    have hN : t.val < 160 := lt_of_lt_of_eq t.isLt Reads.points
    change (dats m 0 c).after 7 t ((cfg0.win 7).xinj (cfg0.grid.coords t) y) = _
    rw [after7]
    generalize hz : ((cfg0.win 7).xinj (cfg0.grid.coords t) y) = z
    change S1024x1024.Idx at z
    idx_vars z
    have h0 := congrArg (fun z : S1024x1024.Idx => (z 0).val) hz
    have h1 := congrArg (fun z : S1024x1024.Idx => (z 1).val) hz
    refine (cols_block m c t z0 z1).trans (congrArg₂ (result m c) (Fin.ext ?_) (Fin.ext ?_))
    · blk_simp [hp]
      have e : (y 0).val = z0.val := h0
      unfold rowOf
      dsimp only
      omega
    · blk_simp [hp]
      have e : (y 1).val = z1.val := h1
      unfold colOf
      dsimp only
      omega

/-- The second result. -/
theorem array8 : (dats m 0 c).arrAt 8 cfg0.N = fun y : S16384x128.Idx => steps m c (y 0) (y 1) :=
  (dats m 0 c).arrAt_eq_of_covers 8 _ (by decide +kernel) fun t hf y => by
    have hp := places t
    have hN : t.val < 160 := lt_of_lt_of_eq t.isLt Reads.points
    change (dats m 0 c).after 8 t ((cfg0.win 8).xinj (cfg0.grid.coords t) y) = _
    rw [after8]
    generalize hz : ((cfg0.win 8).xinj (cfg0.grid.coords t) y) = z
    change S1024x128.Idx at z
    idx_vars z
    have h0 := congrArg (fun z : S1024x128.Idx => (z 0).val) hz
    have h1 := congrArg (fun z : S1024x128.Idx => (z 1).val) hz
    refine (step_block m c t z0 z1).trans (congrArg₂ (steps m c) (Fin.ext ?_) (Fin.ext ?_))
    · blk_simp [hp]
      have e : (y 0).val = z0.val := h0
      unfold rowOf
      dsimp only
      omega
    · blk_simp [hp]
      exact h1.symm

end Cert.OddInIdeal.Proj

end
-- ==== Proof.OddInClaim.lean ====
/-
  The input projection of the recurrence layers and its reference end with equal results, whatever their arguments are.
-/
module

public import proofs.«01_k».proof.Defs
public import proofs.«01_k».proof.Proof.OddInFrame
public import proofs.«01_k».proof.Proof.OddInValue
public import proofs.«01_k».proof.Proof.Gen.OddIn.Frame
public import proofs.«01_k».proof.Proof.Gen.OddIn.Skeleton
public import proofs.«01_k».proof.Proof.Gen.OddInRefIdeal.Run
public import proofs.«01_k».proof.Proof.Gen.OddInRefIdeal.Read
public import Idealize.ShloMosaic.Adequacy

@[expose] public section

set_option maxRecDepth 16384

noncomputable section

namespace Cert.OddInIdeal.Proj

open Cert.OddInIdeal Cert.OddInIdeal.Gen Cert.OddInIdeal.Run Cert.OddInSpec
open Idealize.ShloMosaic Idealize.ShloMosaic.TcCoe Idealize.SL.Sem

/-- The kernel's run: both results at the arrays its points leave, the arguments as they were. -/
theorem kernel_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v2_0) = (dats m 0 c).arrAt 7 cfg0.N
      ∧ r.2.mem ((c.tc : Thread nD τ).loc main_v2_1) = (dats m 0 c).arrAt 8 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h.1.1 c).1 7, (h.1.1 c).1 8, h.2.1 c⟩) (θ_run_and (runs m ρ) (frame m ρ))

/-- The kernel's first result is the reference's. -/
theorem first_eq (m : (ℓ : Loc nD τ sig) → Buf (Elt Ideal) ℓ) (c : Dev nD) (r : Fin 16384) (k : Fin 10240) :
    OddInRefIdeal.Read.val_main_v53 (F := Ideal) (m ((c : Thread nD τ).loc main_arg0)) (m ((c : Thread nD τ).loc main_arg1))
        (m ((c : Thread nD τ).loc main_arg2)) (m ((c : Thread nD τ).loc main_arg4)) (m ((c : Thread nD τ).loc main_arg5)) (ix2 r k)
      = result m c r k := by
  by_cases h : k.val < 4096
  · exact (ref_plain _ _ _ _ _ r k h).trans (result_plain m c r k h).symm
  · unfold result
    refine ((ref_convolved _ _ _ _ _ r k h).trans (ref_gated _ _ _ _ _ r _)).trans (Eq.trans ?_ (dif_neg h).symm)
    have e : (⟨4096 + (k.val - 4096), by omega⟩ : Fin 10240) = k := Fin.ext (by dsimp only; omega)
    dsimp only
    rw [e]
    rfl

/-- The claim. -/
theorem algebraic : Cert.algebraic_OddInIdeal_OddInRefIdeal (hOddInIdeal := Cert.OddInIdeal.Gen.facts)
    (hOddInRefIdeal := Cert.OddInRefIdeal.Gen.facts) := by
  intro m ρ m' ρ' _ hagree
  refine ⟨fun c => (dats m 0 c).arrAt 7 cfg0.N, fun c => (dats m 0 c).arrAt 8 cfg0.N, kernel_run m ρ,
    (θ_run _ _ _).mono (fun r h c => ?_) (Cert.OddInRefIdeal.Value.run (F := Ideal) m' ρ')⟩
  obtain ⟨h0, h1, hk⟩ := h c
  obtain ⟨a0, a1, a2, a3, a4, a5⟩ := hagree c
  refine ⟨h0.trans ?_, h1.trans ?_, hk⟩
  · rw [OddInRefIdeal.Read.val_main_v53_eq, a0, a1, a2, a4, a5]
    refine Eq.trans ?_ (array7 m c).symm
    refine funext fun (j : OddInIdeal.S16384x10240.Idx) => ?_
    idx_vars j
    exact first_eq m c j0 j1
  · rw [OddInRefIdeal.Read.val_main_v57_eq, a0, a1, a3]
    refine Eq.trans ?_ (array8 m c).symm
    refine funext fun (j : OddInIdeal.S16384x128.Idx) => ?_
    idx_vars j
    exact ref_step _ _ _ j0 j1

end Cert.OddInIdeal.Proj

end
-- ==== Proof.OddOutClaim.lean ====
/-
  The output projection of the recurrence layers and its reference end with equal results: the activations plus the
  product of the recurrence's outputs with the layer's weights. Step `t` of the kernel makes rows `512 t` to
  `512 t + 511`.
-/
module

public import proofs.«01_k».proof.Defs
public import proofs.«01_k».proof.Proof.Gen.OddOut.Frame
public import proofs.«01_k».proof.Proof.Gen.OddOutIdeal.Skeleton
public import proofs.«01_k».proof.Proof.Gen.OddOutIdeal.Value
public import proofs.«01_k».proof.Proof.Gen.OddOutRefIdeal.Run
public import proofs.«01_k».proof.Proof.Gen.OddOutRefIdeal.Read
public import Idealize.ShloMosaic.Lib.Pipeline.ValueKit
public import Idealize.ShloMosaic.Lib.Pointwise
public import Idealize.ShloMosaic.Lib.Tactic
public import Idealize.ShloMosaic.Adequacy

@[expose] public section

set_option maxRecDepth 16384

noncomputable section

namespace Cert.OddOutIdeal.Proj

open Cert.OddOutIdeal Cert.OddOutIdeal.Gen Idealize.ShloMosaic Idealize.ShloMosaic.TcCoe Idealize.SL.Sem

/-- One entry of the projection. -/
def entry (x : Fin 16384 → Fin 2048 → EReal) (y : Fin 16384 → Fin 4096 → EReal) (w : Fin 4096 → Fin 2048 → EReal)
    (r : Fin 16384) (k : Fin 2048) : EReal :=
  x r k + ∑ l, y r l * w l k

theorem origin2 : (![0, 0] : Fin 2 → Nat) = fun _ => 0 := funext (by decide)

theorem origin3 : (![0, 0, 0] : Fin 3 → Nat) = fun _ => 0 := funext (by decide)

/-- What a step leaves, from its blocks. -/
theorem out_apply (x : Vec Ideal S512x2048 .f32) (y : Vec Ideal S512x4096 .bf16) (w : Vec Ideal S1x4096x2048 .bf16)
    (r : Fin 512) (k : Fin 2048) :
    out0_3 (F := Ideal) x y w (ix2 r k) = x (ix2 r k) + ∑ l, y (ix2 r l) * w (ix3 0 l k) := by
  unfold out0_3
  rw [View.canon_unit_zero origin2, View.ld_unit_zero origin2, View.ld_unit_zero origin2, View.ld_unit_zero origin3]
  pointwise [k0_pay1]

/-- The block indices of the windows, decided over the grid. -/
theorem places : ∀ t : Fin cfg0.N,
    win0_0.index t = ![t.val, 0] ∧ win0_1.index t = ![t.val, 0] ∧ win0_2.index t = ![0, 0, 0]
      ∧ win0_3.index t = ![t.val, 0] :=
  (by decide +kernel : ∀ t : Fin grid0.N, _)

theorem points : cfg0.N = 32 := N_0

variable (m : (ℓ : Loc nD τ sig) → Buf (Elt Ideal) ℓ) (c : Dev nD) (t : Fin cfg0.N)

/-- The step's rows of the activations. -/
theorem read_0 (r : Fin 512) (k : Fin 2048) :
    iblk m c 0 t (ix2 r k) = m ((c : Thread nD τ).loc main_arg0) (ix2 ⟨512 * t.val + r.val, (by have := lt_of_lt_of_eq t.isLt points; omega)⟩ k) := by
  have hp := places t
  have hN : t.val < 32 := lt_of_lt_of_eq t.isLt points
  blk_ext [iblk, V, hp]

/-- The step's rows of the recurrence's outputs. -/
theorem read_1 (r : Fin 512) (l : Fin 4096) :
    iblk m c 1 t (ix2 r l) = m ((c : Thread nD τ).loc main_arg1) (ix2 ⟨512 * t.val + r.val, (by have := lt_of_lt_of_eq t.isLt points; omega)⟩ l) := by
  have hp := places t
  have hN : t.val < 32 := lt_of_lt_of_eq t.isLt points
  blk_ext [iblk, V, hp]

/-- The first layer's weights. -/
theorem read_2 (l : Fin 4096) (k : Fin 2048) :
    iblk m c 2 t (ix3 0 l k) = m ((c : Thread nD τ).loc main_arg2) (ix3 0 l k) := by
  have hp := places t
  have hN : t.val < 32 := lt_of_lt_of_eq t.isLt points
  blk_ext [iblk, V, hp]

/-- What the kernel is to leave, from its arguments. -/
def result (r : Fin 16384) (k : Fin 2048) : EReal :=
  entry (fun r k => m ((c : Thread nD τ).loc main_arg0) (ix2 r k)) (fun r l => m ((c : Thread nD τ).loc main_arg1) (ix2 r l))
    (fun l k => m ((c : Thread nD τ).loc main_arg2) (ix3 0 l k)) r k

/-- The block a step writes is its part of the result. -/
theorem step_block (r : Fin 512) (k : Fin 2048) :
    out0_3 (F := Ideal) (iblk m c 0 t) (iblk m c 1 t) (iblk m c 2 t) (ix2 r k)
      = result m c ⟨512 * t.val + r.val, (by have := lt_of_lt_of_eq t.isLt points; omega)⟩ k := by
  rw [out_apply]
  simp only [read_0, read_1, read_2]
  rfl

/-- The array. -/
theorem array_eq : (dats m 0 c).arrAt 3 cfg0.N = fun y : S16384x2048.Idx => result m c (y 0) (y 1) :=
  (dats m 0 c).arrAt_eq_of_covers 3 _ (by decide +kernel) fun t hf y => by
    have hp := places t
    have hN : t.val < 32 := lt_of_lt_of_eq t.isLt points
    change (dats m 0 c).after 3 t ((cfg0.win 3).xinj (cfg0.grid.coords t) y) = _
    rw [after0_3]
    generalize hz : ((cfg0.win 3).xinj (cfg0.grid.coords t) y) = z
    change S512x2048.Idx at z
    idx_vars z
    have h0 := congrArg (fun z : S512x2048.Idx => (z 0).val) hz
    have h1 := congrArg (fun z : S512x2048.Idx => (z 1).val) hz
    refine (step_block m c t z0 z1).trans (congrArg₂ (result m c) (Fin.ext ?_) (Fin.ext ?_))
    · blk_simp [hp]
      have e : (y 0).val = z0.val := h0
      dsimp only
      omega
    · blk_simp [hp]
      exact h1.symm

open Cert.OddOutRefIdeal.Read in
/-- The reference's result. -/
theorem ref_apply (x : Vec Ideal OddOutRefIdeal.S16384x2048 .f32) (y : Vec Ideal OddOutRefIdeal.S16384x4096 .bf16)
    (w : Vec Ideal OddOutRefIdeal.S2x4096x2048 .bf16) (r : Fin 16384) (k : Fin 2048) :
    val_main_v5 (F := Ideal) x y w (ix2 r k)
      = entry (fun r k => x (ix2 r k)) (fun r l => y (ix2 r l)) (fun l k => w (ix3 0 l k)) r k := by
  unfold entry
  pointwise [val_main_v5, val_main_v4, val_main_v3, val_main_v2, val_main_v1, val_main_v0]

/-- The claim. -/
theorem algebraic : Cert.algebraic_OddOutIdeal_OddOutRefIdeal (hOddOutIdeal := Cert.OddOutIdeal.Gen.facts)
    (hOddOutRefIdeal := Cert.OddOutRefIdeal.Gen.facts) := by
  intro m ρ m' ρ' _ hagree
  refine ⟨fun c => (dats m 0 c).arrAt 3 cfg0.N, Cert.OddOutIdeal.Value.run_blocks (F := Ideal) m ρ,
    (θ_run _ _ _).mono (fun r h c => ?_) (Cert.OddOutRefIdeal.Value.run (F := Ideal) m' ρ')⟩
  obtain ⟨h0, hk⟩ := h c
  obtain ⟨a0, a1, a2⟩ := hagree c
  refine ⟨h0.trans ?_, hk⟩
  rw [OddOutRefIdeal.Read.val_main_v5_eq, a0, a1, a2]
  refine Eq.trans ?_ (array_eq m c).symm
  refine funext fun (j : OddOutIdeal.S16384x2048.Idx) => ?_
  idx_vars j
  exact ref_apply _ _ _ j0 j1

end Cert.OddOutIdeal.Proj

end
-- ==== Proof.EvenOutClaim.lean ====
/-
  The output projection of the attention layers and its reference end with equal results: the activations plus the
  product of the attention's and the state space model's outputs, side by side, with the layer's weights. The kernel
  multiplies the two with the upper and the lower half of the weights. Step `t` makes rows `512 t` to `512 t + 511`.
-/
module

public import proofs.«01_k».proof.Defs
public import proofs.«01_k».proof.Proof.Gen.EvenOut.Frame
public import proofs.«01_k».proof.Proof.Gen.EvenOutIdeal.Skeleton
public import proofs.«01_k».proof.Proof.Gen.EvenOutIdeal.Value
public import proofs.«01_k».proof.Proof.Gen.EvenOutRefIdeal.Run
public import proofs.«01_k».proof.Proof.Gen.EvenOutRefIdeal.Read
public import Idealize.ShloMosaic.Lib.Pipeline.ValueKit
public import Idealize.ShloMosaic.Lib.Pointwise
public import Idealize.ShloMosaic.Lib.Tactic
public import Idealize.ShloMosaic.Adequacy

@[expose] public section

set_option maxRecDepth 16384

noncomputable section

namespace Cert.EvenOutIdeal.Proj

open Cert.EvenOutIdeal Cert.EvenOutIdeal.Gen Idealize.ShloMosaic Idealize.ShloMosaic.TcCoe Idealize.SL.Sem

/-- One entry of the projection, the two products apart. -/
def entry (x : Fin 16384 → Fin 2048 → EReal) (a b : Fin 16384 → Fin 1024 → EReal) (w : Fin 2048 → Fin 2048 → EReal)
    (r : Fin 16384) (k : Fin 2048) : EReal :=
  x r k + ∑ l : Fin 1024, a r l * w ⟨l.val, by omega⟩ k + ∑ l : Fin 1024, b r l * w ⟨1024 + l.val, by omega⟩ k

theorem origin2 : (![0, 0] : Fin 2 → Nat) = fun _ => 0 := funext (by decide)

theorem origin3 : (![0, 0, 0] : Fin 3 → Nat) = fun _ => 0 := funext (by decide)

/-- What a step leaves, from its blocks. -/
theorem out_apply (x : Vec Ideal S512x2048 .f32) (a : Vec Ideal S512x1024 .bf16) (wa : Vec Ideal S1x1024x2048 .bf16)
    (b : Vec Ideal S512x1024 .bf16) (wb : Vec Ideal S1x1024x2048 .bf16) (r : Fin 512) (k : Fin 2048) :
    out0_5 (F := Ideal) x a wa b wb (ix2 r k)
      = x (ix2 r k) + ∑ l, a (ix2 r l) * wa (ix3 0 l k) + ∑ l, b (ix2 r l) * wb (ix3 0 l k) := by
  unfold out0_5
  rw [View.canon_unit_zero origin2, View.ld_unit_zero origin2, View.ld_unit_zero origin2, View.ld_unit_zero origin3,
    View.ld_unit_zero origin2, View.ld_unit_zero origin3]
  pointwise [k0_pay1]

/-- The block indices of the windows, decided over the grid. -/
theorem places : ∀ t : Fin cfg0.N,
    win0_0.index t = ![t.val, 0] ∧ win0_1.index t = ![t.val, 0] ∧ win0_2.index t = ![0, 0, 0]
      ∧ win0_3.index t = ![t.val, 0] ∧ win0_4.index t = ![0, 1, 0] ∧ win0_5.index t = ![t.val, 0] :=
  (by decide +kernel : ∀ t : Fin grid0.N, _)

theorem points : cfg0.N = 32 := N_0

variable (m : (ℓ : Loc nD τ sig) → Buf (Elt Ideal) ℓ) (c : Dev nD) (t : Fin cfg0.N)

/-- The step's rows of the activations. -/
theorem read_0 (r : Fin 512) (k : Fin 2048) :
    iblk m c 0 t (ix2 r k) = m ((c : Thread nD τ).loc main_arg0) (ix2 ⟨512 * t.val + r.val, (by have := lt_of_lt_of_eq t.isLt points; omega)⟩ k) := by
  have hp := places t
  have hN : t.val < 32 := lt_of_lt_of_eq t.isLt points
  blk_ext [iblk, V, hp]

/-- The step's rows of the attention's outputs. -/
theorem read_1 (r : Fin 512) (l : Fin 1024) :
    iblk m c 1 t (ix2 r l) = m ((c : Thread nD τ).loc main_arg1) (ix2 ⟨512 * t.val + r.val, (by have := lt_of_lt_of_eq t.isLt points; omega)⟩ l) := by
  have hp := places t
  have hN : t.val < 32 := lt_of_lt_of_eq t.isLt points
  blk_ext [iblk, V, hp]

/-- The upper half of the first layer's weights. -/
theorem read_2 (l : Fin 1024) (k : Fin 2048) :
    iblk m c 2 t (ix3 0 l k) = m ((c : Thread nD τ).loc main_arg3) (ix3 0 ⟨l.val, by omega⟩ k) := by
  have hp := places t
  have hN : t.val < 32 := lt_of_lt_of_eq t.isLt points
  blk_ext [iblk, V, hp]

/-- The step's rows of the state space model's outputs. -/
theorem read_3 (r : Fin 512) (l : Fin 1024) :
    iblk m c 3 t (ix2 r l) = m ((c : Thread nD τ).loc main_arg2) (ix2 ⟨512 * t.val + r.val, (by have := lt_of_lt_of_eq t.isLt points; omega)⟩ l) := by
  have hp := places t
  have hN : t.val < 32 := lt_of_lt_of_eq t.isLt points
  blk_ext [iblk, V, hp]

/-- The lower half of the first layer's weights. -/
theorem read_4 (l : Fin 1024) (k : Fin 2048) :
    iblk m c 4 t (ix3 0 l k) = m ((c : Thread nD τ).loc main_arg3) (ix3 0 ⟨1024 + l.val, by omega⟩ k) := by
  have hp := places t
  have hN : t.val < 32 := lt_of_lt_of_eq t.isLt points
  blk_ext [iblk, V, hp]

/-- What the kernel is to leave, from its arguments. -/
def result (r : Fin 16384) (k : Fin 2048) : EReal :=
  entry (fun r k => m ((c : Thread nD τ).loc main_arg0) (ix2 r k)) (fun r l => m ((c : Thread nD τ).loc main_arg1) (ix2 r l))
    (fun r l => m ((c : Thread nD τ).loc main_arg2) (ix2 r l)) (fun l k => m ((c : Thread nD τ).loc main_arg3) (ix3 0 l k)) r k

/-- The block a step writes is its part of the result. -/
theorem step_block (r : Fin 512) (k : Fin 2048) :
    out0_5 (F := Ideal) (iblk m c 0 t) (iblk m c 1 t) (iblk m c 2 t) (iblk m c 3 t) (iblk m c 4 t) (ix2 r k)
      = result m c ⟨512 * t.val + r.val, (by have := lt_of_lt_of_eq t.isLt points; omega)⟩ k := by
  rw [out_apply]
  simp only [read_0, read_1, read_2, read_3, read_4]
  rfl

/-- The array. -/
theorem array_eq : (dats m 0 c).arrAt 5 cfg0.N = fun y : S16384x2048.Idx => result m c (y 0) (y 1) :=
  (dats m 0 c).arrAt_eq_of_covers 5 _ (by decide +kernel) fun t hf y => by
    have hp := places t
    have hN : t.val < 32 := lt_of_lt_of_eq t.isLt points
    change (dats m 0 c).after 5 t ((cfg0.win 5).xinj (cfg0.grid.coords t) y) = _
    rw [after0_5]
    generalize hz : ((cfg0.win 5).xinj (cfg0.grid.coords t) y) = z
    change S512x2048.Idx at z
    idx_vars z
    have h0 := congrArg (fun z : S512x2048.Idx => (z 0).val) hz
    have h1 := congrArg (fun z : S512x2048.Idx => (z 1).val) hz
    refine (step_block m c t z0 z1).trans (congrArg₂ (result m c) (Fin.ext ?_) (Fin.ext ?_))
    · blk_simp [hp]
      have e : (y 0).val = z0.val := h0
      dsimp only
      omega
    · blk_simp [hp]
      exact h1.symm

section Reference

open Cert.EvenOutRefIdeal.Read

variable (x : Vec Ideal EvenOutRefIdeal.S16384x2048 .f32) (a b : Vec Ideal EvenOutRefIdeal.S16384x1024 .bf16)
    (w : Vec Ideal EvenOutRefIdeal.S2x2048x2048 .bf16) (r : Fin 16384)

/-- The two operands side by side. -/
theorem ref_left (l : Fin 1024) : val_main_v2 (F := Ideal) a b (ix2 r ⟨l.val, by omega⟩) = a (ix2 r l) := by
  pointwise [val_main_v2, val_main_v1, val_main_v0]

theorem ref_right (l : Fin 1024) : val_main_v2 (F := Ideal) a b (ix2 r ⟨1024 + l.val, by omega⟩) = b (ix2 r l) := by
  pointwise [val_main_v2, val_main_v1, val_main_v0]

/-- The reference's result: its one product of 2048 terms is the two products of 1024. -/
theorem ref_apply (k : Fin 2048) :
    val_main_v7 (F := Ideal) x a b w (ix2 r k)
      = entry (fun r k => x (ix2 r k)) (fun r l => a (ix2 r l)) (fun r l => b (ix2 r l)) (fun l k => w (ix3 0 l k)) r k := by
  have h : val_main_v7 (F := Ideal) x a b w (ix2 r k)
      = x (ix2 r k) + ∑ l : Fin (1024 + 1024), val_main_v2 (F := Ideal) a b (ix2 r l) * w (ix3 0 l k) := by
    unfold val_main_v7 val_main_v6
    generalize val_main_v2 (F := Ideal) a b = z
    pointwise [val_main_v5, val_main_v4, val_main_v3]
  rw [h, Fin.sum_univ_add]
  unfold entry
  rw [add_assoc]
  refine congrArg (x (ix2 r k) + ·) (congr (congrArg HAdd.hAdd ?_) ?_)
  · exact Finset.sum_congr rfl fun l _ => congrArg (· * _) (ref_left a b r l)
  · exact Finset.sum_congr rfl fun l _ => congrArg (· * _) (ref_right a b r l)

end Reference

/-- The claim. -/
theorem algebraic : Cert.algebraic_EvenOutIdeal_EvenOutRefIdeal (hEvenOutIdeal := Cert.EvenOutIdeal.Gen.facts)
    (hEvenOutRefIdeal := Cert.EvenOutRefIdeal.Gen.facts) := by
  intro m ρ m' ρ' _ hagree
  refine ⟨fun c => (dats m 0 c).arrAt 5 cfg0.N, Cert.EvenOutIdeal.Value.run_blocks (F := Ideal) m ρ,
    (θ_run _ _ _).mono (fun r h c => ?_) (Cert.EvenOutRefIdeal.Value.run (F := Ideal) m' ρ')⟩
  obtain ⟨h0, hk⟩ := h c
  obtain ⟨a0, a1, a2, a3⟩ := hagree c
  refine ⟨h0.trans ?_, hk⟩
  rw [EvenOutRefIdeal.Read.val_main_v7_eq, a0, a1, a2, a3]
  refine Eq.trans ?_ (array_eq m c).symm
  refine funext fun (j : EvenOutIdeal.S16384x2048.Idx) => ?_
  idx_vars j
  exact ref_apply _ _ _ _ j0 j1

end Cert.EvenOutIdeal.Proj

end
-- ==== Proof.EvenInReads.lean ====
/-
  The blocks a grid point of the attention layers' input projection is given, read at an index as the arguments they are
  cut from. Point `t` is rows `512 t` to `512 t + 511`.
-/
module

public import proofs.«01_k».proof.Proof.Gen.EvenInIdeal.Frame
public import Idealize.ShloMosaic.Lib.Pipeline.ValueKit
public import Idealize.ShloMosaic.Lib.Pointwise
public import Idealize.ShloMosaic.Lib.Tactic

@[expose] public section

set_option maxRecDepth 16384

noncomputable section

namespace Cert.EvenInIdeal.Reads

open Cert.EvenInIdeal Cert.EvenInIdeal.Gen Idealize.ShloMosaic Idealize.ShloMosaic.TcCoe

/-- The block indices of the windows, decided over the grid. -/
theorem places : ∀ t : Fin cfg0.N,
    win0_0.index t = ![t.val, 0] ∧ win0_1.index t = ![0, 0] ∧ win0_2.index t = ![0, 0, 0]
      ∧ win0_3.index t = ![t.val, 0] ∧ win0_4.index t = ![0, 0] ∧ win0_5.index t = ![t.val, 0]
      ∧ win0_6.index t = ![t.val, 0] ∧ win0_7.index t = ![t.val, 0] ∧ win0_8.index t = ![t.val, 0] :=
  (by decide +kernel : ∀ t : Fin grid0.N, _)

theorem points : cfg0.N = 32 := N_0

variable (m : (ℓ : Loc nD τ sig) → Buf (Elt Ideal) ℓ) (c : Dev nD) (t : Fin cfg0.N)

/-- The step's rows. -/
theorem read_0 (r : Fin 512) (k : Fin 2048) :
    iblk m c 0 t (ix2 r k) = m ((c : Thread nD τ).loc main_arg0) (ix2 ⟨512 * t.val + r.val, (by have := lt_of_lt_of_eq t.isLt points; omega)⟩ k) := by
  have hp := places t
  have hN : t.val < 32 := lt_of_lt_of_eq t.isLt points
  rw [← V_main_arg0 m c]
  blk_ext [iblk, hp]

/-- The norm weights, given to the kernel as one row. -/
theorem host_1 (k : Fin 2048) : V m c main_v3 (ix2 0 k) = m ((c : Thread nD τ).loc main_arg2) (ix1 k) := by
  simp only [V, List.flatten_cons, List.flatten_nil, List.append_nil, List.cons_append, List.nil_append]
  entry_read
  pointwise []

theorem read_1 (k : Fin 2048) : iblk m c 1 t (ix2 0 k) = m ((c : Thread nD τ).loc main_arg2) (ix1 k) := by
  have hp := places t
  have hN : t.val < 32 := lt_of_lt_of_eq t.isLt points
  rw [← host_1 m c]
  blk_ext [iblk, hp]

/-- The first layer's weights. -/
theorem read_2 (l : Fin 2048) (k : Fin 2560) :
    iblk m c 2 t (ix3 0 l k) = m ((c : Thread nD τ).loc main_arg3) (ix3 0 l k) := by
  have hp := places t
  have hN : t.val < 32 := lt_of_lt_of_eq t.isLt points
  rw [← V_main_arg3 m c]
  blk_ext [iblk, hp]

/-- The positions, one row of equal lanes each. -/
theorem host_3 (r : Fin 16384) (l : Fin 128) :
    V m c main_v2 (ix2 r l)
      = FloatOps.sitofp (F := Ideal) .f32 (m ((c : Thread nD τ).loc main_arg1) (ix2 ⟨r.val / 4096, by omega⟩ ⟨r.val % 4096, by omega⟩)) := by
  simp only [V, List.flatten_cons, List.flatten_nil, List.append_nil, List.cons_append, List.nil_append]
  entry_read
  pointwise []

theorem read_3 (r : Fin 512) (l : Fin 128) :
    iblk m c 3 t (ix2 r l) = V m c main_v2 (ix2 ⟨512 * t.val + r.val, (by have := lt_of_lt_of_eq t.isLt points; omega)⟩ l) := by
  have hp := places t
  have hN : t.val < 32 := lt_of_lt_of_eq t.isLt points
  blk_ext [iblk, hp]

theorem read_4 (l : Fin 128) : iblk m c 4 t (ix2 0 l) = V m c main_v23 (ix2 0 l) := by
  have hp := places t
  have hN : t.val < 32 := lt_of_lt_of_eq t.isLt points
  blk_ext [iblk, hp]

end Cert.EvenInIdeal.Reads

end
-- ==== Proof.EvenInSpec.lean ====
/-
  The input projection of the attention layers as plain sums over the extended reals, a quarter of every query and key head turned
  by its position, and its reference read at an index as that.
-/
module

public import proofs.«01_k».proof.Proof.FfnSpec
public import proofs.«01_k».proof.Proof.Gen.EvenInRefIdeal.Read

@[expose] public section

set_option maxRecDepth 16384

noncomputable section

namespace Cert.EvenInSpec

open Cert.FfnSpec Idealize.ShloMosaic

/-- A normalized row's product with a column. -/
def dot (x : Fin 16384 → Fin 2048 → EReal) (g : Fin 2048 → EReal) (w : Fin 2048 → Fin 2560 → EReal) (r : Fin 16384) (k : ℕ) : EReal :=
  ∑ l, normed x g r l * w l ⟨k % 2560, by omega⟩

/-- The turning rates. -/
def rate (j : Fin 8) : EReal :=
  Ideal.exp (Ideal.ofBits .f32 0xC151F533#32 * FloatOps.sitofp (F := Ideal) .f32 (BitVec.ofNat 32 j.val) * Ideal.ofBits .f32 0x3E000000#32)

/-- The rate a lane turns at, none for the lanes that are kept. -/
def freq (l : ℕ) : EReal := if l % 64 < 16 then rate ⟨l % 8, by omega⟩ else 0

/-- Column `k` of a row turned at position `p`: lanes 0 to 7 of a head of 64 with lanes 8 to 15, the others kept. -/
def turn (d : ℕ → EReal) (p : EReal) (k : ℕ) : EReal :=
  if k % 64 < 8 then d k * Ideal.cos (p * rate ⟨k % 8, by omega⟩) - d (k + 8) * Ideal.sin (p * rate ⟨k % 8, by omega⟩)
  else if k % 64 < 16 then d k * Ideal.cos (p * rate ⟨k % 8, by omega⟩) + d (k - 8) * Ideal.sin (p * rate ⟨k % 8, by omega⟩)
  else d k

/-- Turning by lane of one head, written by its pieces, is turning by column. -/
theorem turn_lanes (d : ℕ → EReal) (p : EReal) (h l : ℕ) (hl : l < 64) :
    (if h1 : l < 8 then d (h * 64 + l) * Ideal.cos (p * rate ⟨l, h1⟩) - d (h * 64 + (8 + l)) * Ideal.sin (p * rate ⟨l, h1⟩)
      else if h2 : l - 8 < 8 then d (h * 64 + (8 + (l - 8))) * Ideal.cos (p * rate ⟨l - 8, h2⟩) + d (h * 64 + (l - 8)) * Ideal.sin (p * rate ⟨l - 8, h2⟩)
      else d (h * 64 + (16 + (l - 8 - 8)))) = turn d p (h * 64 + l) := by
  have e1 : (h * 64 + l) % 64 = l := by omega
  have e2 : (h * 64 + l) % 8 = l % 8 := by omega
  unfold turn
  simp only [e1, e2]
  by_cases h1 : l < 8
  · have e3 : (⟨l % 8, by omega⟩ : Fin 8) = ⟨l, h1⟩ := Fin.ext (Nat.mod_eq_of_lt h1)
    have e4 : h * 64 + l + 8 = h * 64 + (8 + l) := by omega
    rw [dif_pos h1, if_pos h1, e3, e4]
  · rw [dif_neg h1, if_neg h1]
    by_cases h2 : l < 16
    · have h3 : l - 8 < 8 := by omega
      have e3 : (⟨l % 8, by omega⟩ : Fin 8) = ⟨l - 8, h3⟩ := Fin.ext (by dsimp only; omega)
      have e4 : h * 64 + (8 + (l - 8)) = h * 64 + l := by omega
      have e5 : h * 64 + (l - 8) = h * 64 + l - 8 := by omega
      rw [dif_pos h3, if_pos h2, e3, e4, e5]
    · have h3 : ¬l - 8 < 8 := by omega
      have e4 : h * 64 + (16 + (l - 8 - 8)) = h * 64 + l := by omega
      rw [dif_neg h3, if_neg h2, e4]

/-- Turning columns further on. -/
theorem turn_shift (d : ℕ → EReal) (p : EReal) (k : ℕ) : turn (fun n => d (1024 + n)) p k = turn d p (1024 + k) := by
  have e1 : (1024 + k) % 64 = k % 64 := by omega
  have e2 : (1024 + k) % 8 = k % 8 := by omega
  unfold turn
  simp only [e1, e2]
  split_ifs with h1 h2
  · rfl
  · have e3 : 1024 + k - 8 = 1024 + (k - 8) := by omega
    rw [e3]
  · rfl

section Reference

open Cert.EvenInRefIdeal Cert.EvenInRefIdeal.Gen Cert.EvenInRefIdeal.Read

variable (x : Vec Ideal S16384x2048 .f32) (p : Vec Ideal S4x4096 .i32) (g : Vec Ideal S2048 .f32) (w : Vec Ideal S2x2048x2560 .bf16)

/-- The normalized rows. -/
theorem ref_normed (r : Fin 16384) (k : Fin 2048) :
    val_main_v12 (F := Ideal) x g (ix2 r k) = normed (fun r k => x (ix2 r k)) (fun k => g (ix1 k)) r k := by
  unfold normed
  pointwise [val_main_v12, val_main_v11, val_main_v10, val_main_v9, val_main_v8, val_main_v7, val_main_v6, val_main_v5, val_main_v4, val_main_v3, val_main_v2, val_main_v1, val_main_v0, val_main_cst, val_main_cst_0, val_main_cst_1]

/-- The projected columns. -/
theorem ref_dot (b : Fin 4) (s : Fin 4096) (k : Fin 2560) :
    val_main_v17 (F := Ideal) x g w (ix3 b s k)
      = dot (fun r k => x (ix2 r k)) (fun k => g (ix1 k)) (fun l k => w (ix3 0 l k)) ⟨b.val * 4096 + s.val, by omega⟩ k.val := by
  unfold dot
  have e : (⟨k.val % 2560, by omega⟩ : Fin 2560) = k := Fin.ext (Nat.mod_eq_of_lt k.isLt)
  rw [e]
  pointwise [val_main_v17, val_main_v16, val_main_v15, val_main_v14, val_main_v13, ref_normed]

/-- The turning rates. -/
theorem ref_rate (j : Fin 8) : val_main_v30 (F := Ideal) (ix1 j) = rate j := by
  unfold rate
  pointwise [val_main_v30, val_main_v29, val_main_v28, val_main_v27, val_main_v26, val_main_v25, val_main_cst_2, val_main_cst_3]

/-- The cosines and sines. -/
theorem ref_cos (b : Fin 4) (s : Fin 4096) (j : Fin 8) :
    val_main_v37 (F := Ideal) p (ix3 b s j) = Ideal.cos (FloatOps.sitofp (F := Ideal) .f32 (p (ix2 b s)) * rate j) := by
  rw [← ref_rate]
  generalize hy : val_main_v30 (F := Ideal) = y
  pointwise [val_main_v37, val_main_v36, val_main_v35, val_main_v34, val_main_v33, val_main_v32, val_main_v31, hy]

theorem ref_sin (b : Fin 4) (s : Fin 4096) (j : Fin 8) :
    val_main_v39 (F := Ideal) p (ix3 b s j) = Ideal.sin (FloatOps.sitofp (F := Ideal) .f32 (p (ix2 b s)) * rate j) := by
  rw [← ref_rate]
  generalize hy : val_main_v30 (F := Ideal) = y
  pointwise [val_main_v39, val_main_v36, val_main_v35, val_main_v34, val_main_v33, val_main_v32, val_main_v31, hy]

/-- The positions. -/
def place (r : Fin 16384) : EReal := FloatOps.sitofp (F := Ideal) .f32 (p (ix2 ⟨r.val / 4096, by omega⟩ ⟨r.val % 4096, by omega⟩))

/-- The kept copies of the rates, cosines and sines, which the keys are turned by. -/
theorem ref_cos_keys : val_main_v67 (F := Ideal) p = val_main_v37 (F := Ideal) p := rfl

theorem ref_sin_keys : val_main_v69 (F := Ideal) p = val_main_v39 (F := Ideal) p := rfl

/-- A query head's lanes turned, -/
theorem ref_query (b : Fin 4) (s : Fin 4096) (h : Fin 16) (l : Fin 64) :
    val_main_v54 (F := Ideal) x p g w (ix4 b s h l)
      = turn (dot (fun r k => x (ix2 r k)) (fun k => g (ix1 k)) (fun l k => w (ix3 0 l k)) ⟨b.val * 4096 + s.val, by omega⟩)
          (FloatOps.sitofp (F := Ideal) .f32 (p (ix2 b s))) (h.val * 64 + l.val) := by
  have hd := fun k => ref_dot x g w b s k
  have hc := fun j => ref_cos p b s j
  have hs := fun j => ref_sin p b s j
  generalize hy : val_main_v17 (F := Ideal) x g w = y at *
  generalize dot _ _ _ _ = d at *
  generalize FloatOps.sitofp (F := Ideal) FTy.f32 (p (ix2 b s)) = q at *
  refine Eq.trans ?_ (turn_lanes d q h.val l.val l.isLt)
  pointwise [val_main_v54, val_main_v47, val_main_v52, val_main_v53, val_main_v44, val_main_v46, val_main_v49, val_main_v51, val_main_v41, val_main_v42, val_main_v43, val_main_v45, val_main_v48, val_main_v50, val_main_v38, val_main_v40, val_main_v19, val_main_v18, hy, hd, hc, hs]

/-- a key head's likewise, -/
theorem ref_key (b : Fin 4) (s : Fin 4096) (h : Fin 4) (l : Fin 64) :
    val_main_v84 (F := Ideal) x p g w (ix4 b s h l)
      = turn (dot (fun r k => x (ix2 r k)) (fun k => g (ix1 k)) (fun l k => w (ix3 0 l k)) ⟨b.val * 4096 + s.val, by omega⟩)
          (FloatOps.sitofp (F := Ideal) .f32 (p (ix2 b s))) (1024 + (h.val * 64 + l.val)) := by
  have hd := fun k => ref_dot x g w b s k
  have hc := fun j => ref_cos p b s j
  have hs := fun j => ref_sin p b s j
  rw [← ref_cos_keys] at hc
  rw [← ref_sin_keys] at hs
  rw [← turn_shift]
  generalize hy : val_main_v17 (F := Ideal) x g w = y at *
  generalize dot _ _ _ _ = d at *
  generalize FloatOps.sitofp (F := Ideal) FTy.f32 (p (ix2 b s)) = q at *
  refine Eq.trans ?_ (turn_lanes (fun n => d (1024 + n)) q h.val l.val l.isLt)
  pointwise [val_main_v84, val_main_v77, val_main_v82, val_main_v83, val_main_v74, val_main_v76, val_main_v79, val_main_v81, val_main_v71, val_main_v72, val_main_v73, val_main_v75, val_main_v78, val_main_v80, val_main_v68, val_main_v70, val_main_v21, val_main_v20, hy, hd, hc, hs]

/-- and a value head's, which are kept. -/
theorem ref_value (b : Fin 4) (s : Fin 4096) (h : Fin 4) (l : Fin 64) :
    val_main_v23 (F := Ideal) x g w (ix4 b s h l)
      = dot (fun r k => x (ix2 r k)) (fun k => g (ix1 k)) (fun l k => w (ix3 0 l k)) ⟨b.val * 4096 + s.val, by omega⟩ (1280 + (h.val * 64 + l.val)) := by
  have hd := fun k => ref_dot x g w b s k
  generalize hy : val_main_v17 (F := Ideal) x g w = y at *
  generalize dot _ _ _ _ = d at *
  pointwise [val_main_v23, val_main_v22, hy, hd]

theorem row_eq (r : Fin 16384) : (⟨r.val / 4096 * 4096 + r.val % 4096, by omega⟩ : Fin 16384) = r := Fin.ext (Nat.div_add_mod' _ _)

/-- The queries, -/
theorem ref_queries (r : Fin 16384) (k : Fin 1024) :
    val_main_v86 (F := Ideal) x p g w (ix2 r k)
      = turn (dot (fun r k => x (ix2 r k)) (fun k => g (ix1 k)) (fun l k => w (ix3 0 l k)) r) (place p r) k.val := by
  have h := ref_query x p g w ⟨r.val / 4096, by omega⟩ ⟨r.val % 4096, by omega⟩ ⟨k.val / 64, by omega⟩ ⟨k.val % 64, by omega⟩
  dsimp only at h
  rw [row_eq, Nat.div_add_mod'] at h
  refine Eq.trans ?_ h
  clear h
  generalize hy : val_main_v54 (F := Ideal) x p g w = y
  pointwise [val_main_v86, val_main_v85, hy]

/-- the keys, every head twice, -/
theorem ref_keys (r : Fin 16384) (k : Fin 512) :
    val_main_v89 (F := Ideal) x p g w (ix2 r k)
      = turn (dot (fun r k => x (ix2 r k)) (fun k => g (ix1 k)) (fun l k => w (ix3 0 l k)) r) (place p r)
          (1024 + (k.val / 128 * 64 + k.val % 64)) := by
  have h := ref_key x p g w ⟨r.val / 4096, by omega⟩ ⟨r.val % 4096, by omega⟩ ⟨k.val / 128, by omega⟩ ⟨k.val % 64, by omega⟩
  dsimp only at h
  rw [row_eq] at h
  refine Eq.trans ?_ h
  clear h
  generalize hy : val_main_v84 (F := Ideal) x p g w = y
  pointwise [val_main_v89, val_main_v88, val_main_v87, hy]
  have hk := k.isLt
  by_cases h1 : k.val % 128 < 64
  · exact (dif_pos h1).trans (congrArg (fun q => y (ix4 _ _ _ q)) (Fin.ext (by dsimp only; omega)))
  · exact (dif_neg h1).trans (congrArg (fun q => y (ix4 _ _ _ q)) (Fin.ext (by dsimp only; omega)))

/-- the values, every head twice, -/
theorem ref_values (r : Fin 16384) (k : Fin 512) :
    val_main_v92 (F := Ideal) x g w (ix2 r k)
      = dot (fun r k => x (ix2 r k)) (fun k => g (ix1 k)) (fun l k => w (ix3 0 l k)) r (1280 + (k.val / 128 * 64 + k.val % 64)) := by
  have h := ref_value x g w ⟨r.val / 4096, by omega⟩ ⟨r.val % 4096, by omega⟩ ⟨k.val / 128, by omega⟩ ⟨k.val % 64, by omega⟩
  dsimp only at h
  rw [row_eq] at h
  refine Eq.trans ?_ h
  clear h
  generalize hy : val_main_v23 (F := Ideal) x g w = y
  pointwise [val_main_v92, val_main_v91, val_main_v90, hy]
  have hk := k.isLt
  by_cases h1 : k.val % 128 < 64
  · exact (dif_pos h1).trans (congrArg (fun q => y (ix4 _ _ _ q)) (Fin.ext (by dsimp only; omega)))
  · exact (dif_neg h1).trans (congrArg (fun q => y (ix4 _ _ _ q)) (Fin.ext (by dsimp only; omega)))

/-- and the columns of the state space model. -/
theorem ref_inputs (r : Fin 16384) (k : Fin 1024) :
    val_main_v93 (F := Ideal) x g w (ix2 r k)
      = dot (fun r k => x (ix2 r k)) (fun k => g (ix1 k)) (fun l k => w (ix3 0 l k)) r (1536 + k.val) := by
  have h := ref_dot x g w ⟨r.val / 4096, by omega⟩ ⟨r.val % 4096, by omega⟩ ⟨1536 + k.val, by omega⟩
  dsimp only at h
  rw [row_eq] at h
  refine Eq.trans ?_ h
  clear h
  generalize hy : val_main_v17 (F := Ideal) x g w = y
  pointwise [val_main_v93, val_main_v24, hy]

end Reference

end Cert.EvenInSpec

end
-- ==== Proof.EvenInLanes.lean ====
/-
  The frequencies the kernel is given: one row of 128 lanes, the first sixteen of each head's 64 at the eight turning rates in
  turn, the others at none.
-/
module

public import Idealize.ShloMosaic.Lib.StableHlo.Predicate
public import proofs.«01_k».proof.Proof.EvenInSpec
public import proofs.«01_k».proof.Proof.Gen.EvenInIdeal.Frame
public import Idealize.ShloMosaic.Lib.Pipeline.ValueKit
public import Idealize.ShloMosaic.Lib.Pointwise
public import Idealize.ShloMosaic.Lib.Tactic

@[expose] public section

set_option maxRecDepth 16384

noncomputable section

namespace Cert.EvenInIdeal.Lanes

open Cert.EvenInIdeal Cert.EvenInIdeal.Gen Idealize.ShloMosaic Idealize.ShloMosaic.TcCoe

variable (m : (ℓ : Loc nD τ sig) → Buf (Elt Ideal) ℓ) (c : Dev nD)

/-- The lanes that turn. -/
theorem turning (l : Fin 128) : (V m c main_v13 : IVec S128 1) (ix1 l) = if l.val % 64 < 16 then 1#1 else 0#1 := by
  simp only [V, List.flatten_cons, List.flatten_nil, List.append_nil, List.cons_append, List.nil_append]
  entry_read
  simp only [StableHlo.TRef.ofBuf_toBuf]
  simp only [StableHlo.TRef.ofBuf, StableHlo.TRef.toBuf, cast_eq]
  show @Eq (BitVec 1) _ _
  revert l
  decide +kernel

/-- Which rate a lane turns at. -/
theorem which (l : Fin 128) : (V m c main_v20 : IVec S128x1 32) (ix2 l 0) = BitVec.ofNat 32 (l.val % 8) := by
  simp only [V, List.flatten_cons, List.flatten_nil, List.append_nil, List.cons_append, List.nil_append]
  entry_read
  simp only [StableHlo.TRef.ofBuf_toBuf]
  simp only [StableHlo.TRef.ofBuf, StableHlo.TRef.toBuf, cast_eq]
  show @Eq (BitVec 32) _ _
  revert l
  decide +kernel

/-- The rates. -/
theorem rates (j : Fin 8) : (V m c main_v9 : FVec Ideal S8 .f32) (ix1 j) = Cert.EvenInSpec.rate j := by
  unfold Cert.EvenInSpec.rate
  simp only [V, List.flatten_cons, List.flatten_nil, List.append_nil, List.cons_append, List.nil_append]
  entry_read
  pointwise []

/-- The row, over its parts. -/
theorem row_parts : (V m c main_v22 : FVec Ideal S128 .f32) = select (V m c main_v13 : IVec S128 1)
    (Host.gather gather_S8_S128x1_S128_n_0_n_n_0_1_1 (V m c main_v9 : FVec Ideal S8 .f32) (V m c main_v20 : IVec S128x1 32))
    (broadcastInDim S128 ![] bcast_S_S128 (constant (F := Ideal) S_ .f32 0x00000000#32)) := by
  simp only [V, List.flatten_cons, List.flatten_nil, List.append_nil, List.cons_append, List.nil_append]
  entry_read
  rfl

theorem row_shape : V m c main_v23 = shapeCast S1x128 (V m c main_v22 : FVec Ideal S128 .f32) shapeCasts_S128_S1x128 := by
  simp only [V, List.flatten_cons, List.flatten_nil, List.append_nil, List.cons_append, List.nil_append]
  entry_read
  rfl

theorem taken (x : FVec Ideal S8 .f32) (i : IVec S128x1 32) (l : Fin 128) (h : i (ix2 l 0) = BitVec.ofNat 32 (l.val % 8)) :
    Host.gather gather_S8_S128x1_S128_n_0_n_n_0_1_1 x i (ix1 l) = x (ix1 ⟨l.val % 8, by omega⟩) := by
  have e : ∀ {n : ℕ} (q : Fin n), (ix1 q : (⟨1, ![n]⟩ : Shape).Idx) = Shape.Idx.ofFin q := fun q => by
    funext a
    have : a = 0 := Subsingleton.elim _ _
    subst this
    rfl
  rw [e, StableHlo.Predicate.gather_take gather_S8_S128x1_S128_n_0_n_n_0_1_1 rfl rfl rfl rfl x i l (by decide), e]
  refine congrArg (fun q => x (Shape.Idx.ofFin q)) (Fin.ext ?_)
  have h' : i (StableHlo.Predicate.ixP l) = BitVec.ofNat 32 (l.val % 8) := by
    rw [← h]
    exact congrArg i (funext fun a => by match a with | ⟨0, _⟩ => rfl | ⟨1, _⟩ => rfl)
  dsimp only
  rw [h']
  clear h h'
  revert l
  decide +kernel

/-- The row. -/
theorem row (l : Fin 128) : (V m c main_v23 : FVec Ideal S1x128 .f32) (ix2 0 l) = Cert.EvenInSpec.freq l.val := by
  have h1 := turning m c l
  have h2 := taken (V m c main_v9) (V m c main_v20) l (which m c l)
  have h3 := rates m c ⟨l.val % 8, by omega⟩
  rw [row_shape, row_parts]
  generalize (V m c main_v13 : IVec S128 1) = a at *
  generalize (V m c main_v9 : FVec Ideal S8 .f32) = b at *
  generalize (V m c main_v20 : IVec S128x1 32) = d at *
  generalize Host.gather gather_S8_S128x1_S128_n_0_n_n_0_1_1 b d = g at *
  have h4 : shapeCast S1x128 (select a g (broadcastInDim S128 ![] bcast_S_S128 (constant (F := Ideal) S_ .f32 0x00000000#32))) shapeCasts_S128_S1x128 (ix2 0 l)
      = Scalar.select (a (ix1 l)) (g (ix1 l)) (0 : EReal) := by
    pointwise []
  rw [h4, h1, h2, h3]
  unfold Cert.EvenInSpec.freq
  split_ifs <;> rfl

end Cert.EvenInIdeal.Lanes

end
-- ==== Proof.EvenInPay.lean ====
/-
  The attention layers' input projection's step, operation by operation: the rows normalized, the lanes turned by two
  rotations against masked sines, and a head given twice by a rotation and a choice.
-/
module

public import proofs.«01_k».proof.Proof.EvenInSpec
public import proofs.«01_k».proof.Proof.Gen.EvenInIdeal.Skeleton
public import Idealize.ShloMosaic.Lib.Pointwise

@[expose] public section

set_option maxRecDepth 16384

noncomputable section

namespace Cert.EvenInIdeal.Pay

open Cert.EvenInIdeal Cert.EvenInIdeal.Gen Idealize.ShloMosaic

/-- A row of the block, normalized by its root mean square. -/
theorem pay3_apply (x : Vec Ideal S512x2048 .f32) (g : Vec Ideal S1x2048 .f32) (r : Fin 512) (k : Fin 2048) :
    k0_pay3 x g (ix2 r k)
      = x (ix2 r k) * Ideal.rsqrt (Ideal.div (∑ k', x (ix2 r k') * x (ix2 r k')) (Ideal.ofBits .f32 0x45000000#32)
          + Ideal.ofBits .f32 0x3727C5AC#32) * g (ix2 0 k) := by
  pointwise [k0_pay3]

/-- Five hundred and twelve columns of the projection. -/
theorem pay15_apply (xn : Vec Ideal S512x2048 .bf16) (w : Vec Ideal S1x2048x512 .bf16) (r : Fin 512) (k : Fin 512) :
    k0_pay15 xn w (ix2 r k) = ∑ l, xn (ix2 r l) * w (ix3 0 l k) := by
  pointwise [k0_pay15]

/-- A tile of 128 columns turned by its cosines and sines. -/
def turned (cosT lo up t : FVec Ideal S512x128 .f32) : FVec Ideal S512x128 .f32 :=
  subf (addf (mulf t cosT) (mulf (dynamicRotate 1 8#32 none t rotates_S512x128_d1) lo)) (mulf (dynamicRotate 1 120#32 none t rotates_S512x128_d1) up)

theorem turned_apply (cosT lo up t : FVec Ideal S512x128 .f32) (r : Fin 512) (l : Fin 128) :
    turned cosT lo up t (ix2 r l)
      = t (ix2 r l) * cosT (ix2 r l) + t (ix2 r ⟨(l.val + 128 - 8) % 128, by omega⟩) * lo (ix2 r l)
        - t (ix2 r ⟨(l.val + 128 - 120) % 128, by omega⟩) * up (ix2 r l) := by
  pointwise [turned]

/-- The same tile with its halves swapped. -/
theorem swap_apply (t : FVec Ideal S512x128 .f32) (r : Fin 512) (l : Fin 128) :
    dynamicRotate 1 64#32 none t rotates_S512x128_d1 (ix2 r l) = t (ix2 r ⟨(l.val + 128 - 64) % 128, by omega⟩) := by
  pointwise []

theorem pay14_apply (r : Fin 512) (l : Fin 128) : k0_pay14 (ix2 r l) = if l.val < 64 then 1#1 else 0#1 := by
  pointwise [k0_pay14]
  revert l
  decide +kernel

theorem pay6_apply (p : Vec Ideal S512x128 .f32) (f : Vec Ideal S1x128 .f32) (r : Fin 512) (l : Fin 128) :
    k0_pay6 p f (ix2 r l) = Ideal.sin (p (ix2 r l) * f (ix2 0 l)) := by
  pointwise [k0_pay6, k0_pay4]

theorem pay5_apply (p : Vec Ideal S512x128 .f32) (f : Vec Ideal S1x128 .f32) (r : Fin 512) (l : Fin 128) :
    k0_pay5 p f (ix2 r l) = Ideal.cos (p (ix2 r l) * f (ix2 0 l)) := by
  pointwise [k0_pay5, k0_pay4]

/-- The sines of the upper half of a head's turned lanes. -/
theorem pay12_apply (s : FVec Ideal S512x128 .f32) (r : Fin 512) (l : Fin 128) :
    k0_pay12 s (Scalar.select (Scalar.cmpi .eq 64#32 0#32) 1#32 64#32) k0_pay7 k0_pay8 k0_pay9 k0_pay10 (ix2 r l)
      = if 8 ≤ l.val % 64 ∧ l.val % 64 < 16 then s (ix2 r l) else 0 := by
  generalize hs : s (ix2 r l) = v
  pointwise [k0_pay12, k0_pay11, k0_pay7, k0_pay8, k0_pay9, k0_pay10, hs]
  generalize hb : IntOp.andi (IntOp.cmpi .sge _ _) _ = b
  have e : b = if 8 ≤ l.val % 64 ∧ l.val % 64 < 16 then 1#1 else 0#1 := by
    subst hb
    clear hs
    revert l
    decide +kernel
  rw [e]
  split_ifs
  · rfl
  · rfl

theorem pay13_apply (s : FVec Ideal S512x128 .f32) (r : Fin 512) (l : Fin 128) :
    k0_pay13 s (Scalar.select (Scalar.cmpi .eq 64#32 0#32) 1#32 64#32) k0_pay7 k0_pay8 k0_pay9 k0_pay10 (ix2 r l)
      = if l.val % 64 < 8 then s (ix2 r l) else 0 := by
  generalize hs : s (ix2 r l) = v
  pointwise [k0_pay13, k0_pay11, k0_pay7, k0_pay8, k0_pay9, k0_pay10, hs]
  generalize hb : IntOp.cmpi .slt _ 8#32 = b
  have e : b = if l.val % 64 < 8 then 1#1 else 0#1 := by
    subst hb
    clear hs
    revert l
    decide +kernel
  rw [e]
  split_ifs
  · rfl
  · rfl

theorem cos_zero : Ideal.cos 0 = 1 := by
  rw [← EReal.coe_zero, Ideal.cos_coe, Real.cos_zero, EReal.coe_one]

open Cert.EvenInSpec

/-- A tile of columns, turned. -/
theorem turned_eq (d : ℕ → EReal) (p : EReal) (b : ℕ) (hb : b % 64 = 0) (cosT lo up t : FVec Ideal S512x128 .f32) (r : Fin 512)
    (hc : ∀ l : Fin 128, cosT (ix2 r l) = Ideal.cos (p * freq l.val))
    (hl : ∀ l : Fin 128, lo (ix2 r l) = if 8 ≤ l.val % 64 ∧ l.val % 64 < 16 then Ideal.sin (p * freq l.val) else 0)
    (hu : ∀ l : Fin 128, up (ix2 r l) = if l.val % 64 < 8 then Ideal.sin (p * freq l.val) else 0)
    (ht : ∀ l : Fin 128, t (ix2 r l) = d (b + l.val)) (l : Fin 128) :
    turned cosT lo up t (ix2 r l) = turn d p (b + l.val) := by
  rw [turned_apply, hc, hl, hu, ht, ht, ht]
  have e1 : (b + l.val) % 64 = l.val % 64 := by omega
  have e2 : (b + l.val) % 8 = l.val % 8 := by omega
  have hlt := l.isLt
  unfold turn freq
  simp only [e1, e2]
  by_cases h1 : l.val % 64 < 8
  · have e3 : b + (l.val + 128 - 120) % 128 = b + l.val + 8 := by omega
    rw [if_pos (by omega : l.val % 64 < 16), if_neg (by omega), if_pos h1, if_pos h1, mul_zero, add_zero, e3]
  · by_cases h2 : l.val % 64 < 16
    · have e3 : b + (l.val + 128 - 8) % 128 = b + l.val - 8 := by omega
      rw [if_pos h2, if_pos ⟨by omega, h2⟩, if_neg h1, if_neg h1, if_pos h2, mul_zero, sub_zero, e3]
    · rw [if_neg h2, if_neg (by omega), if_neg h1, if_neg h1, if_neg h2, mul_zero, mul_zero, mul_zero, cos_zero, mul_one, add_zero, sub_zero]

/-- A tile of two heads, and its heads doubled: the first twice, the second twice. -/
theorem first_twice (t : FVec Ideal S512x128 .f32) (r : Fin 512) (l : Fin 128) :
    select k0_pay14 t (dynamicRotate 1 64#32 none t rotates_S512x128_d1) (ix2 r l) = t (ix2 r ⟨l.val % 64, by omega⟩) := by
  have h : select k0_pay14 t (dynamicRotate 1 64#32 none t rotates_S512x128_d1) (ix2 r l)
      = Scalar.select (k0_pay14 (ix2 r l)) (t (ix2 r l)) (dynamicRotate 1 64#32 none t rotates_S512x128_d1 (ix2 r l)) := rfl
  rw [h, pay14_apply, swap_apply]
  have hlt := l.isLt
  split_ifs with h1
  · exact congrArg (fun q => t (ix2 r q)) (Fin.ext (by dsimp only; omega))
  · exact congrArg (fun q => t (ix2 r q)) (Fin.ext (by dsimp only; omega))

theorem second_twice (t : FVec Ideal S512x128 .f32) (r : Fin 512) (l : Fin 128) :
    select k0_pay14 (dynamicRotate 1 64#32 none t rotates_S512x128_d1) t (ix2 r l) = t (ix2 r ⟨64 + l.val % 64, by omega⟩) := by
  have h : select k0_pay14 (dynamicRotate 1 64#32 none t rotates_S512x128_d1) t (ix2 r l)
      = Scalar.select (k0_pay14 (ix2 r l)) (dynamicRotate 1 64#32 none t rotates_S512x128_d1 (ix2 r l)) (t (ix2 r l)) := rfl
  rw [h, pay14_apply, swap_apply]
  have hlt := l.isLt
  split_ifs with h1
  · exact congrArg (fun q => t (ix2 r q)) (Fin.ext (by dsimp only; omega))
  · exact congrArg (fun q => t (ix2 r q)) (Fin.ext (by dsimp only; omega))

end Cert.EvenInIdeal.Pay

end
-- ==== Proof.EvenInLeft.lean ====
/-
  What a step leaves in its four blocks, by the products of its normalized rows with the weights' columns.
-/
module

public import proofs.«01_k».proof.Proof.Gen.EvenInIdeal.Frame
public import proofs.«01_k».proof.Proof.EvenInPay
public import Idealize.ShloMosaic.Lib.Pipeline.ValueKit
public import Idealize.ShloMosaic.Lib.Pipeline.ReadBack

@[expose] public section

set_option maxRecDepth 16384

noncomputable section

namespace Cert.EvenInIdeal.Left

open Cert.EvenInIdeal Cert.EvenInIdeal.Gen Cert.EvenInIdeal.Pay Idealize.ShloMosaic Idealize.ShloMosaic.TcCoe

theorem origin2 : (![0, 0] : Fin 2 → Nat) = fun _ => 0 := funext (by decide)

/-- Stores that cover a block, each a part of one function, leave the function. -/
theorem canon_of_parts {S : Shape} {e : EltTy} (G : S.Idx → Elt Ideal e) (L : List (View.Piece (Elt Ideal) S e))
    (hc : ∀ y, ∃ p ∈ L, y ∈ p.1.set) (h : View.PiecesOf G L) : View.canon L = G := by
  funext y
  have := View.canon_append_of_pieces G [] L h.mem y (hc y)
  rwa [List.append_nil] at this

section Tiles

open Cert.EvenInSpec

variable (xn : Vec Ideal S512x2048 .bf16) (w : Vec Ideal S1x2048x2560 .bf16)

/-- A normalized row's product with a column, the columns counted from the first. -/
def product (r : Fin 512) (k : ℕ) : EReal := ∑ l, xn (ix2 r l) * w (ix3 0 l ⟨k % 2560, by omega⟩)

/-- 128 columns of it: those from `b` on of the 512 from `a` on. -/
def cols (a : ℕ) (ha : ∀ i, ![0, 0, a] i + S1x2048x512.size i ≤ S1x2048x2560.size i) (b : ℕ) (hb : S512x512.Slices ![0, b] S512x128) :
    FVec Ideal S512x128 .f32 :=
  extractStridedSlice S512x128 ![0, b] (k0_pay15 xn (View.ld w (Rect.unit (s := S1x2048x2560) ![0, 0, a] S1x2048x512.size ha))) hb

theorem ld_apply (a : ℕ) (ha) (l : Fin 2048) (k : Fin 512) (h : a + k.val < 2560) :
    View.ld w (Rect.unit (s := S1x2048x2560) ![0, 0, a] S1x2048x512.size ha) (ix3 0 l k) = w (ix3 0 l ⟨(a + k.val) % 2560, by omega⟩) :=
  View.ld_unit_apply_of _ _ _ _ _ _ fun i => by
    match i with
    | ⟨0, _⟩ => rfl
    | ⟨1, _⟩ => exact (Nat.zero_add _).symm
    | ⟨2, _⟩ => exact Nat.mod_eq_of_lt h

theorem cols_apply (a : ℕ) (ha) (b : ℕ) (hb) (h : a ≤ 2048) (h' : b ≤ 384) (r : Fin 512) (l : Fin 128) :
    cols xn w a ha b hb (ix2 r l) = product xn w r (a + b + l.val) := by
  have e : cols xn w a ha b hb (ix2 r l) = k0_pay15 xn (View.ld w (Rect.unit (s := S1x2048x2560) ![0, 0, a] S1x2048x512.size ha)) (ix2 r ⟨b + l.val, by omega⟩) := by
    unfold cols
    generalize k0_pay15 (F := Ideal) xn _ = y
    pointwise []
  rw [e, pay15_apply]
  unfold product
  refine Finset.sum_congr rfl fun q _ => congrArg (xn (ix2 r q) * ·) ?_
  rw [ld_apply w a ha q _ (by dsimp only; omega)]
  exact congrArg (fun k => w (ix3 0 q k)) (Fin.ext (by dsimp only; rw [Nat.add_assoc]))

/-- A store of 128 columns that is a part of a function of rows and columns. -/
theorem part {n : ℕ} (G : Fin 512 → ℕ → EReal) (b : ℕ) (inb) (f : Vec Ideal S512x128 .f32)
    (h : ∀ r (l : Fin 128), f (ix2 r l) = G r (b + l.val)) (x : S512x128.Idx) :
    f x = (fun y : (⟨2, ![512, n]⟩ : Shape).Idx => G (y 0) (y 1).val) ((Rect.unit (s := ⟨2, ![512, n]⟩) ![0, b] S512x128.size inb).emb x) := by
  idx_vars x
  refine (h x0 x1).trans (congrArg₂ G (Fin.ext ?_) ?_)
  · show x0.val = 0 + 1 * x0.val
    omega
  · show b + x1.val = b + 1 * x1.val
    omega

variable (p : Fin 512 → EReal) (cosT lo up : FVec Ideal S512x128 .f32)
    (hc : ∀ r (l : Fin 128), cosT (ix2 r l) = Ideal.cos (p r * freq l.val))
    (hl : ∀ r (l : Fin 128), lo (ix2 r l) = if 8 ≤ l.val % 64 ∧ l.val % 64 < 16 then Ideal.sin (p r * freq l.val) else 0)
    (hu : ∀ r (l : Fin 128), up (ix2 r l) = if l.val % 64 < 8 then Ideal.sin (p r * freq l.val) else 0)

include hc hl hu in
theorem turned_cols (a : ℕ) (ha) (b : ℕ) (hb) (h : a ≤ 2048) (h' : b ≤ 384) (hm : (a + b) % 64 = 0) (r : Fin 512) (l : Fin 128) :
    turned cosT lo up (cols xn w a ha b hb) (ix2 r l) = turn (product xn w r) (p r) (a + b + l.val) :=
  turned_eq _ _ _ hm _ _ _ _ r (hc r) (hl r) (hu r) (cols_apply xn w a ha b hb h h' r) l

end Tiles

section Blocks

open Cert.EvenInSpec

variable (m : (ℓ : Loc nD τ sig) → Buf (Elt Ideal) ℓ) (c : Dev nD) (t : Fin cfg0.N) (p : Fin 512 → EReal)
    (hp : ∀ r (l : Fin 128), iblk m c 3 t (ix2 r l) = p r) (hf : ∀ l : Fin 128, iblk m c 4 t (ix2 0 l) = freq l.val)

/-- The step's rows, normalized. -/
abbrev rows : Vec Ideal S512x2048 .bf16 := k0_pay3 (iblk m c 0 t) (iblk m c 1 t)

/-- A row's product with a column. -/
def column (r : Fin 512) (k : ℕ) : EReal := product (rows m c t) (iblk m c 2 t) r k

/-- The step's cosines and sines. -/
abbrev cosines : FVec Ideal S512x128 .f32 := k0_pay5 (iblk m c 3 t) (iblk m c 4 t)
abbrev sinesLo : FVec Ideal S512x128 .f32 := k0_pay12 (k0_pay6 (iblk m c 3 t) (iblk m c 4 t)) 64#32 k0_pay7 k0_pay8 k0_pay9 k0_pay10
abbrev sinesUp : FVec Ideal S512x128 .f32 := k0_pay13 (k0_pay6 (iblk m c 3 t) (iblk m c 4 t)) 64#32 k0_pay7 k0_pay8 k0_pay9 k0_pay10

include hp hf in
theorem cosines_apply (r : Fin 512) (l : Fin 128) : cosines m c t (ix2 r l) = Ideal.cos (p r * freq l.val) := by
  refine (pay5_apply _ _ r l).trans ?_
  rw [hp, hf]

include hp hf in
theorem sinesLo_apply (r : Fin 512) (l : Fin 128) :
    sinesLo m c t (ix2 r l) = if 8 ≤ l.val % 64 ∧ l.val % 64 < 16 then Ideal.sin (p r * freq l.val) else 0 := by
  refine (pay12_apply _ r l).trans ?_
  rw [pay6_apply, hp, hf]

include hp hf in
theorem sinesUp_apply (r : Fin 512) (l : Fin 128) :
    sinesUp m c t (ix2 r l) = if l.val % 64 < 8 then Ideal.sin (p r * freq l.val) else 0 := by
  refine (pay13_apply _ r l).trans ?_
  rw [pay6_apply, hp, hf]

/-- 128 columns turned. -/
abbrev turnedCols (a : ℕ) (ha : ∀ i, ![0, 0, a] i + S1x2048x512.size i ≤ S1x2048x2560.size i) (b : ℕ) (hb : S512x512.Slices ![0, b] S512x128) : FVec Ideal S512x128 .f32 :=
  turned (cosines m c t) (sinesLo m c t) (sinesUp m c t) (cols (rows m c t) (iblk m c 2 t) a ha b hb)

include hp hf in
theorem turnedCols_apply (a : ℕ) (ha : ∀ i, ![0, 0, a] i + S1x2048x512.size i ≤ S1x2048x2560.size i) (b : ℕ) (hb : S512x512.Slices ![0, b] S512x128) (h : a ≤ 2048) (h' : b ≤ 384) (hm : (a + b) % 64 = 0) (r : Fin 512) (l : Fin 128) :
    turnedCols m c t a ha b hb (ix2 r l) = turn (column m c t r) (p r) (a + b + l.val) :=
  turned_cols _ _ p _ _ _ (cosines_apply m c t p hp hf) (sinesLo_apply m c t p hp hf) (sinesUp_apply m c t p hp hf) a ha b hb h h' hm r l

include hp hf in
/-- The queries: every column turned. -/
theorem left_q : (outsAt0 m c t).1 = fun y : S512x1024.Idx => (fun r k => turn (column m c t r) (p r) k : Fin 512 → ℕ → EReal) (y 0) (y 1).val := by
  unfold outsAt0
  dsimp only
  unfold out0_A_5
  rw [View.read_writes_eq_canon _ _ _ (cover0_A_5 c _ _ _ _ _ _ _ _ _ _ _ _ _ _ _ _ _ _ _ _ _ _ _ _ _ _)]
  refine canon_of_parts _ _ (cover0_A_5 c _ _ _ _ _ _ _ _ _ _ _ _ _ _ _ _ _ _ _ _ _ _ _ _ _ _) ?_
  unfold kernelRun0_A
  dsimp only
  sl_unfold_words
  simp only [View.readCov_cons_toLoadRect, View.readAt_eq_ld, Memref.IsWhole.read_unread, View.ld_unit_zero (S := S512x2048) origin2,
    View.ld_unit_zero (S := S512x128) origin2, View.ld_unit_zero (S := S1x128) origin2, View.ld_unit_zero (S := S1x2048) origin2, View.PiecesOf]
  refine ⟨part (n := 1024) (fun r k => turn (column m c t r) (p r) k) 896 _ (turnedCols m c t 512 _ 384 _) ?_,
    part (n := 1024) (fun r k => turn (column m c t r) (p r) k) 768 _ (turnedCols m c t 512 _ 256 _) ?_,
    part (n := 1024) (fun r k => turn (column m c t r) (p r) k) 640 _ (turnedCols m c t 512 _ 128 _) ?_,
    part (n := 1024) (fun r k => turn (column m c t r) (p r) k) 512 _ (turnedCols m c t 512 _ 0 _) ?_,
    part (n := 1024) (fun r k => turn (column m c t r) (p r) k) 384 _ (turnedCols m c t 0 _ 384 _) ?_,
    part (n := 1024) (fun r k => turn (column m c t r) (p r) k) 256 _ (turnedCols m c t 0 _ 256 _) ?_,
    part (n := 1024) (fun r k => turn (column m c t r) (p r) k) 128 _ (turnedCols m c t 0 _ 128 _) ?_,
    part (n := 1024) (fun r k => turn (column m c t r) (p r) k) 0 _ (turnedCols m c t 0 _ 0 _) ?_, trivial⟩
  · exact fun r l => turnedCols_apply m c t p hp hf 512 _ 384 _ (by decide) (by decide) (by decide) r l
  · exact fun r l => turnedCols_apply m c t p hp hf 512 _ 256 _ (by decide) (by decide) (by decide) r l
  · exact fun r l => turnedCols_apply m c t p hp hf 512 _ 128 _ (by decide) (by decide) (by decide) r l
  · exact fun r l => turnedCols_apply m c t p hp hf 512 _ 0 _ (by decide) (by decide) (by decide) r l
  · exact fun r l => turnedCols_apply m c t p hp hf 0 _ 384 _ (by decide) (by decide) (by decide) r l
  · exact fun r l => turnedCols_apply m c t p hp hf 0 _ 256 _ (by decide) (by decide) (by decide) r l
  · exact fun r l => turnedCols_apply m c t p hp hf 0 _ 128 _ (by decide) (by decide) (by decide) r l
  · exact fun r l => turnedCols_apply m c t p hp hf 0 _ 0 _ (by decide) (by decide) (by decide) r l

include hp hf in
/-- The keys: every head turned and given twice. -/
theorem left_k : (outsAt0 m c t).2.1 = fun y : S512x512.Idx => (fun r k => turn (column m c t r) (p r) (1024 + (k / 128 * 64 + k % 64)) : Fin 512 → ℕ → EReal) (y 0) (y 1).val := by
  unfold outsAt0
  dsimp only
  unfold out0_A_6
  rw [View.read_writes_eq_canon _ _ _ (cover0_A_6 c _ _ _ _ _ _ _ _ _ _ _ _ _ _ _ _ _ _ _ _ _ _ _ _ _ _)]
  refine canon_of_parts _ _ (cover0_A_6 c _ _ _ _ _ _ _ _ _ _ _ _ _ _ _ _ _ _ _ _ _ _ _ _ _ _) ?_
  unfold kernelRun0_A
  dsimp only
  sl_unfold_words
  simp only [View.readCov_cons_toLoadRect, View.readAt_eq_ld, Memref.IsWhole.read_unread, View.ld_unit_zero (S := S512x2048) origin2,
    View.ld_unit_zero (S := S512x128) origin2, View.ld_unit_zero (S := S1x128) origin2, View.ld_unit_zero (S := S1x2048) origin2, View.PiecesOf]
  refine ⟨part (n := 512) (fun r k => turn (column m c t r) (p r) (1024 + (k / 128 * 64 + k % 64))) 384 _ (select k0_pay14 (dynamicRotate 1 64#32 none (turnedCols m c t 1024 inb_S1x2048x2560_S1x2048x512_0_0_1024 128 slices_S512x512_o0_128_S512x128) rotates_S512x128_d1) (turnedCols m c t 1024 inb_S1x2048x2560_S1x2048x512_0_0_1024 128 slices_S512x512_o0_128_S512x128)) ?_,
    part (n := 512) (fun r k => turn (column m c t r) (p r) (1024 + (k / 128 * 64 + k % 64))) 256 _ (select k0_pay14 (turnedCols m c t 1024 inb_S1x2048x2560_S1x2048x512_0_0_1024 128 slices_S512x512_o0_128_S512x128) (dynamicRotate 1 64#32 none (turnedCols m c t 1024 inb_S1x2048x2560_S1x2048x512_0_0_1024 128 slices_S512x512_o0_128_S512x128) rotates_S512x128_d1)) ?_,
    part (n := 512) (fun r k => turn (column m c t r) (p r) (1024 + (k / 128 * 64 + k % 64))) 128 _ (select k0_pay14 (dynamicRotate 1 64#32 none (turnedCols m c t 1024 inb_S1x2048x2560_S1x2048x512_0_0_1024 0 slices_S512x512_o0_0_S512x128) rotates_S512x128_d1) (turnedCols m c t 1024 inb_S1x2048x2560_S1x2048x512_0_0_1024 0 slices_S512x512_o0_0_S512x128)) ?_,
    part (n := 512) (fun r k => turn (column m c t r) (p r) (1024 + (k / 128 * 64 + k % 64))) 0 _ (select k0_pay14 (turnedCols m c t 1024 inb_S1x2048x2560_S1x2048x512_0_0_1024 0 slices_S512x512_o0_0_S512x128) (dynamicRotate 1 64#32 none (turnedCols m c t 1024 inb_S1x2048x2560_S1x2048x512_0_0_1024 0 slices_S512x512_o0_0_S512x128) rotates_S512x128_d1)) ?_, trivial⟩
  · intro r l
    refine (second_twice _ r l).trans ((turnedCols_apply m c t p hp hf 1024 _ 128 _ (by decide) (by decide) (by decide) r _).trans (congrArg (turn (column m c t r) (p r)) ?_))
    dsimp only
    omega
  · intro r l
    refine (first_twice _ r l).trans ((turnedCols_apply m c t p hp hf 1024 _ 128 _ (by decide) (by decide) (by decide) r _).trans (congrArg (turn (column m c t r) (p r)) ?_))
    dsimp only
    omega
  · intro r l
    refine (second_twice _ r l).trans ((turnedCols_apply m c t p hp hf 1024 _ 0 _ (by decide) (by decide) (by decide) r _).trans (congrArg (turn (column m c t r) (p r)) ?_))
    dsimp only
    omega
  · intro r l
    refine (first_twice _ r l).trans ((turnedCols_apply m c t p hp hf 1024 _ 0 _ (by decide) (by decide) (by decide) r _).trans (congrArg (turn (column m c t r) (p r)) ?_))
    dsimp only
    omega

/-- The values: every head given twice. -/
theorem left_v : (outsAt0 m c t).2.2.1 = fun y : S512x512.Idx => (fun r k => column m c t r (1280 + (k / 128 * 64 + k % 64)) : Fin 512 → ℕ → EReal) (y 0) (y 1).val := by
  unfold outsAt0
  dsimp only
  unfold out0_A_7
  rw [View.read_writes_eq_canon _ _ _ (cover0_A_7 c _ _ _ _ _ _ _ _ _ _ _ _ _ _ _ _ _ _ _ _ _ _ _ _ _ _)]
  refine canon_of_parts _ _ (cover0_A_7 c _ _ _ _ _ _ _ _ _ _ _ _ _ _ _ _ _ _ _ _ _ _ _ _ _ _) ?_
  unfold kernelRun0_A
  dsimp only
  sl_unfold_words
  simp only [View.readCov_cons_toLoadRect, View.readAt_eq_ld, Memref.IsWhole.read_unread, View.ld_unit_zero (S := S512x2048) origin2,
    View.ld_unit_zero (S := S512x128) origin2, View.ld_unit_zero (S := S1x128) origin2, View.ld_unit_zero (S := S1x2048) origin2, View.PiecesOf]
  refine ⟨part (n := 512) (fun r k => column m c t r (1280 + (k / 128 * 64 + k % 64))) 384 _ (select k0_pay14 (dynamicRotate 1 64#32 none (cols (rows m c t) (iblk m c 2 t) 1024 inb_S1x2048x2560_S1x2048x512_0_0_1024 384 slices_S512x512_o0_384_S512x128) rotates_S512x128_d1) (cols (rows m c t) (iblk m c 2 t) 1024 inb_S1x2048x2560_S1x2048x512_0_0_1024 384 slices_S512x512_o0_384_S512x128)) ?_,
    part (n := 512) (fun r k => column m c t r (1280 + (k / 128 * 64 + k % 64))) 256 _ (select k0_pay14 (cols (rows m c t) (iblk m c 2 t) 1024 inb_S1x2048x2560_S1x2048x512_0_0_1024 384 slices_S512x512_o0_384_S512x128) (dynamicRotate 1 64#32 none (cols (rows m c t) (iblk m c 2 t) 1024 inb_S1x2048x2560_S1x2048x512_0_0_1024 384 slices_S512x512_o0_384_S512x128) rotates_S512x128_d1)) ?_,
    part (n := 512) (fun r k => column m c t r (1280 + (k / 128 * 64 + k % 64))) 128 _ (select k0_pay14 (dynamicRotate 1 64#32 none (cols (rows m c t) (iblk m c 2 t) 1024 inb_S1x2048x2560_S1x2048x512_0_0_1024 256 slices_S512x512_o0_256_S512x128) rotates_S512x128_d1) (cols (rows m c t) (iblk m c 2 t) 1024 inb_S1x2048x2560_S1x2048x512_0_0_1024 256 slices_S512x512_o0_256_S512x128)) ?_,
    part (n := 512) (fun r k => column m c t r (1280 + (k / 128 * 64 + k % 64))) 0 _ (select k0_pay14 (cols (rows m c t) (iblk m c 2 t) 1024 inb_S1x2048x2560_S1x2048x512_0_0_1024 256 slices_S512x512_o0_256_S512x128) (dynamicRotate 1 64#32 none (cols (rows m c t) (iblk m c 2 t) 1024 inb_S1x2048x2560_S1x2048x512_0_0_1024 256 slices_S512x512_o0_256_S512x128) rotates_S512x128_d1)) ?_, trivial⟩
  · intro r l
    refine (second_twice _ r l).trans ((cols_apply _ _ 1024 _ 384 _ (by decide) (by decide) r _).trans (congrArg (column m c t r) ?_))
    dsimp only
    omega
  · intro r l
    refine (first_twice _ r l).trans ((cols_apply _ _ 1024 _ 384 _ (by decide) (by decide) r _).trans (congrArg (column m c t r) ?_))
    dsimp only
    omega
  · intro r l
    refine (second_twice _ r l).trans ((cols_apply _ _ 1024 _ 256 _ (by decide) (by decide) r _).trans (congrArg (column m c t r) ?_))
    dsimp only
    omega
  · intro r l
    refine (first_twice _ r l).trans ((cols_apply _ _ 1024 _ 256 _ (by decide) (by decide) r _).trans (congrArg (column m c t r) ?_))
    dsimp only
    omega

/-- The state space model's columns. -/
theorem left_u : (outsAt0 m c t).2.2.2 = fun y : S512x1024.Idx => (fun r k => column m c t r (1536 + k) : Fin 512 → ℕ → EReal) (y 0) (y 1).val := by
  unfold outsAt0
  dsimp only
  unfold out0_A_8
  rw [View.read_writes_eq_canon _ _ _ (cover0_A_8 c _ _ _ _ _ _ _ _ _ _ _ _ _ _ _ _ _ _ _ _ _ _ _ _ _ _)]
  refine canon_of_parts _ _ (cover0_A_8 c _ _ _ _ _ _ _ _ _ _ _ _ _ _ _ _ _ _ _ _ _ _ _ _ _ _) ?_
  unfold kernelRun0_A
  dsimp only
  sl_unfold_words
  simp only [View.readCov_cons_toLoadRect, View.readAt_eq_ld, Memref.IsWhole.read_unread, View.ld_unit_zero (S := S512x2048) origin2,
    View.ld_unit_zero (S := S512x128) origin2, View.ld_unit_zero (S := S1x128) origin2, View.ld_unit_zero (S := S1x2048) origin2, View.PiecesOf]
  refine ⟨part (n := 1024) (fun r k => column m c t r (1536 + k)) 896 _ (cols (rows m c t) (iblk m c 2 t) 2048 inb_S1x2048x2560_S1x2048x512_0_0_2048 384 slices_S512x512_o0_384_S512x128) ?_,
    part (n := 1024) (fun r k => column m c t r (1536 + k)) 768 _ (cols (rows m c t) (iblk m c 2 t) 2048 inb_S1x2048x2560_S1x2048x512_0_0_2048 256 slices_S512x512_o0_256_S512x128) ?_,
    part (n := 1024) (fun r k => column m c t r (1536 + k)) 640 _ (cols (rows m c t) (iblk m c 2 t) 2048 inb_S1x2048x2560_S1x2048x512_0_0_2048 128 slices_S512x512_o0_128_S512x128) ?_,
    part (n := 1024) (fun r k => column m c t r (1536 + k)) 512 _ (cols (rows m c t) (iblk m c 2 t) 2048 inb_S1x2048x2560_S1x2048x512_0_0_2048 0 slices_S512x512_o0_0_S512x128) ?_,
    part (n := 1024) (fun r k => column m c t r (1536 + k)) 384 _ (cols (rows m c t) (iblk m c 2 t) 1536 inb_S1x2048x2560_S1x2048x512_0_0_1536 384 slices_S512x512_o0_384_S512x128) ?_,
    part (n := 1024) (fun r k => column m c t r (1536 + k)) 256 _ (cols (rows m c t) (iblk m c 2 t) 1536 inb_S1x2048x2560_S1x2048x512_0_0_1536 256 slices_S512x512_o0_256_S512x128) ?_,
    part (n := 1024) (fun r k => column m c t r (1536 + k)) 128 _ (cols (rows m c t) (iblk m c 2 t) 1536 inb_S1x2048x2560_S1x2048x512_0_0_1536 128 slices_S512x512_o0_128_S512x128) ?_,
    part (n := 1024) (fun r k => column m c t r (1536 + k)) 0 _ (cols (rows m c t) (iblk m c 2 t) 1536 inb_S1x2048x2560_S1x2048x512_0_0_1536 0 slices_S512x512_o0_0_S512x128) ?_, trivial⟩
  · intro r l
    refine (cols_apply _ _ 2048 _ 384 _ (by decide) (by decide) r l).trans (congrArg (column m c t r) ?_)
    omega
  · intro r l
    refine (cols_apply _ _ 2048 _ 256 _ (by decide) (by decide) r l).trans (congrArg (column m c t r) ?_)
    omega
  · intro r l
    refine (cols_apply _ _ 2048 _ 128 _ (by decide) (by decide) r l).trans (congrArg (column m c t r) ?_)
    omega
  · intro r l
    refine (cols_apply _ _ 2048 _ 0 _ (by decide) (by decide) r l).trans (congrArg (column m c t r) ?_)
    omega
  · intro r l
    refine (cols_apply _ _ 1536 _ 384 _ (by decide) (by decide) r l).trans (congrArg (column m c t r) ?_)
    omega
  · intro r l
    refine (cols_apply _ _ 1536 _ 256 _ (by decide) (by decide) r l).trans (congrArg (column m c t r) ?_)
    omega
  · intro r l
    refine (cols_apply _ _ 1536 _ 128 _ (by decide) (by decide) r l).trans (congrArg (column m c t r) ?_)
    omega
  · intro r l
    refine (cols_apply _ _ 1536 _ 0 _ (by decide) (by decide) r l).trans (congrArg (column m c t r) ?_)
    omega

end Blocks

end Cert.EvenInIdeal.Left

end
-- ==== Proof.EvenInClaim.lean ====
/-
  The input projection of the attention layers and its reference end with equal results, whatever their arguments are:
  the queries and the keys turned at their positions, the values, and the state space model's columns. The keys' and the
  values' heads are given twice. Step `t` makes rows `512 t` to `512 t + 511`.
-/
module

public import proofs.«01_k».proof.Defs
public import proofs.«01_k».proof.Proof.EvenInReads
public import proofs.«01_k».proof.Proof.EvenInLanes
public import proofs.«01_k».proof.Proof.EvenInLeft
public import proofs.«01_k».proof.Proof.Gen.EvenIn.Frame
public import proofs.«01_k».proof.Proof.Gen.EvenInIdeal.Value
public import proofs.«01_k».proof.Proof.Gen.EvenInRefIdeal.Run
public import proofs.«01_k».proof.Proof.Gen.EvenInRefIdeal.Read
public import Idealize.ShloMosaic.Adequacy

@[expose] public section

set_option maxRecDepth 16384

noncomputable section

namespace Cert.EvenInIdeal.Proj

open Cert.EvenInIdeal Cert.EvenInIdeal.Gen Cert.EvenInIdeal.Reads Cert.EvenInSpec Cert.FfnSpec
open Idealize.ShloMosaic Idealize.ShloMosaic.TcCoe Idealize.SL.Sem

variable (m : (ℓ : Loc nD τ sig) → Buf (Elt Ideal) ℓ) (c : Dev nD) (t : Fin cfg0.N)

/-- A row's product with a column, from the arguments. -/
def product (r : Fin 16384) (k : ℕ) : EReal :=
  dot (fun r k => m ((c : Thread nD τ).loc main_arg0) (ix2 r k)) (fun k => m ((c : Thread nD τ).loc main_arg2) (ix1 k))
    (fun l k => m ((c : Thread nD τ).loc main_arg3) (ix3 0 l k)) r k

/-- A row's position. -/
def position (r : Fin 16384) : EReal := place (m ((c : Thread nD τ).loc main_arg1)) r

/-- A step's row among all. -/
def row (r : Fin 512) : Fin 16384 := ⟨512 * t.val + r.val, (by have := lt_of_lt_of_eq t.isLt points; omega)⟩

/-- A step's products are those of its rows. -/
theorem column_eq (r : Fin 512) (k : ℕ) : Left.column m c t r k = product m c (row t r) k := by
  unfold Left.column Left.product product dot normed
  refine Finset.sum_congr rfl fun l _ => congr (congrArg HMul.hMul ?_) (read_2 m c t l _)
  refine (Pay.pay3_apply _ _ r l).trans ?_
  simp only [read_0, read_1]
  rfl

/-- The positions a step is given, -/
theorem positions (r : Fin 512) (l : Fin 128) : iblk m c 3 t (ix2 r l) = position m c (row t r) :=
  (read_3 m c t r l).trans (host_3 m c _ l)

/-- and the frequencies. -/
theorem frequencies (l : Fin 128) : iblk m c 4 t (ix2 0 l) = freq l.val :=
  (read_4 m c t l).trans (Lanes.row m c l)

/-- What the kernel is to leave, from its arguments. -/
def queries (r : Fin 16384) (k : ℕ) : EReal := turn (product m c r) (position m c r) k

def keys (r : Fin 16384) (k : ℕ) : EReal := turn (product m c r) (position m c r) (1024 + (k / 128 * 64 + k % 64))

def values (r : Fin 16384) (k : ℕ) : EReal := product m c r (1280 + (k / 128 * 64 + k % 64))

def inputs (r : Fin 16384) (k : ℕ) : EReal := product m c r (1536 + k)

theorem columns (r : Fin 512) : Left.column m c t r = product m c (row t r) := funext (column_eq m c t r)

/-- What a step leaves is its part of each result. -/
theorem step_queries (r : Fin 512) (k : Fin 1024) : (outsAt0 m c t).1 (ix2 r k) = queries m c (row t r) k.val := by
  rw [Left.left_q m c t (fun r => position m c (row t r)) (positions m c t) (frequencies m c t)]
  exact congrArg (fun d => turn d (position m c (row t r)) k.val) (columns m c t r)

theorem step_keys (r : Fin 512) (k : Fin 512) : (outsAt0 m c t).2.1 (ix2 r k) = keys m c (row t r) k.val := by
  rw [Left.left_k m c t (fun r => position m c (row t r)) (positions m c t) (frequencies m c t)]
  exact congrArg (fun d => turn d (position m c (row t r)) (1024 + (k.val / 128 * 64 + k.val % 64))) (columns m c t r)

theorem step_values (r : Fin 512) (k : Fin 512) : (outsAt0 m c t).2.2.1 (ix2 r k) = values m c (row t r) k.val := by
  rw [Left.left_v m c t]
  exact column_eq m c t r _

theorem step_inputs (r : Fin 512) (k : Fin 1024) : (outsAt0 m c t).2.2.2 (ix2 r k) = inputs m c (row t r) k.val := by
  rw [Left.left_u m c t]
  exact column_eq m c t r _

/-- The arrays. -/
theorem array5 : (dats m 0 c).arrAt 5 cfg0.N = fun y : S16384x1024.Idx => queries m c (y 0) (y 1).val :=
  (dats m 0 c).arrAt_eq_of_covers 5 _ (by decide +kernel) fun t hf y => by
    have hp := places t
    have hN : t.val < 32 := lt_of_lt_of_eq t.isLt points
    change (dats m 0 c).after 5 t ((cfg0.win 5).xinj (cfg0.grid.coords t) y) = _
    rw [after0_5]
    generalize hz : ((cfg0.win 5).xinj (cfg0.grid.coords t) y) = z
    change S512x1024.Idx at z
    idx_vars z
    have h0 := congrArg (fun z : S512x1024.Idx => (z 0).val) hz
    have h1 := congrArg (fun z : S512x1024.Idx => (z 1).val) hz
    refine (step_queries m c t z0 z1).trans (congrArg₂ (queries m c) (Fin.ext ?_) ?_)
    · blk_simp [hp]
      have e : (y 0).val = z0.val := h0
      unfold row
      dsimp only
      omega
    · blk_simp [hp]
      exact h1.symm

theorem array6 : (dats m 0 c).arrAt 6 cfg0.N = fun y : S16384x512.Idx => keys m c (y 0) (y 1).val :=
  (dats m 0 c).arrAt_eq_of_covers 6 _ (by decide +kernel) fun t hf y => by
    have hp := places t
    have hN : t.val < 32 := lt_of_lt_of_eq t.isLt points
    change (dats m 0 c).after 6 t ((cfg0.win 6).xinj (cfg0.grid.coords t) y) = _
    rw [after0_6]
    generalize hz : ((cfg0.win 6).xinj (cfg0.grid.coords t) y) = z
    change S512x512.Idx at z
    idx_vars z
    have h0 := congrArg (fun z : S512x512.Idx => (z 0).val) hz
    have h1 := congrArg (fun z : S512x512.Idx => (z 1).val) hz
    refine (step_keys m c t z0 z1).trans (congrArg₂ (keys m c) (Fin.ext ?_) ?_)
    · blk_simp [hp]
      have e : (y 0).val = z0.val := h0
      unfold row
      dsimp only
      omega
    · blk_simp [hp]
      exact h1.symm

theorem array7 : (dats m 0 c).arrAt 7 cfg0.N = fun y : S16384x512.Idx => values m c (y 0) (y 1).val :=
  (dats m 0 c).arrAt_eq_of_covers 7 _ (by decide +kernel) fun t hf y => by
    have hp := places t
    have hN : t.val < 32 := lt_of_lt_of_eq t.isLt points
    change (dats m 0 c).after 7 t ((cfg0.win 7).xinj (cfg0.grid.coords t) y) = _
    rw [after0_7]
    generalize hz : ((cfg0.win 7).xinj (cfg0.grid.coords t) y) = z
    change S512x512.Idx at z
    idx_vars z
    have h0 := congrArg (fun z : S512x512.Idx => (z 0).val) hz
    have h1 := congrArg (fun z : S512x512.Idx => (z 1).val) hz
    refine (step_values m c t z0 z1).trans (congrArg₂ (values m c) (Fin.ext ?_) ?_)
    · blk_simp [hp]
      have e : (y 0).val = z0.val := h0
      unfold row
      dsimp only
      omega
    · blk_simp [hp]
      exact h1.symm

theorem array8 : (dats m 0 c).arrAt 8 cfg0.N = fun y : S16384x1024.Idx => inputs m c (y 0) (y 1).val :=
  (dats m 0 c).arrAt_eq_of_covers 8 _ (by decide +kernel) fun t hf y => by
    have hp := places t
    have hN : t.val < 32 := lt_of_lt_of_eq t.isLt points
    change (dats m 0 c).after 8 t ((cfg0.win 8).xinj (cfg0.grid.coords t) y) = _
    rw [after0_8]
    generalize hz : ((cfg0.win 8).xinj (cfg0.grid.coords t) y) = z
    change S512x1024.Idx at z
    idx_vars z
    have h0 := congrArg (fun z : S512x1024.Idx => (z 0).val) hz
    have h1 := congrArg (fun z : S512x1024.Idx => (z 1).val) hz
    refine (step_inputs m c t z0 z1).trans (congrArg₂ (inputs m c) (Fin.ext ?_) ?_)
    · blk_simp [hp]
      have e : (y 0).val = z0.val := h0
      unfold row
      dsimp only
      omega
    · blk_simp [hp]
      exact h1.symm

set_option maxHeartbeats 2000000 in
/-- The claim. -/
theorem algebraic : Cert.algebraic_EvenInIdeal_EvenInRefIdeal (hEvenInIdeal := Cert.EvenInIdeal.Gen.facts)
    (hEvenInRefIdeal := Cert.EvenInRefIdeal.Gen.facts) := by
  intro m ρ m' ρ' _ hagree
  refine ⟨fun c => (dats m 0 c).arrAt 5 cfg0.N, fun c => (dats m 0 c).arrAt 6 cfg0.N, fun c => (dats m 0 c).arrAt 7 cfg0.N,
    fun c => (dats m 0 c).arrAt 8 cfg0.N, Cert.EvenInIdeal.Value.run_blocks (F := Ideal) m ρ,
    (θ_run _ _ _).mono (fun r h c => ?_) (Cert.EvenInRefIdeal.Value.run (F := Ideal) m' ρ')⟩
  obtain ⟨h0, h1, h2, h3, hk⟩ := h c
  obtain ⟨a0, a1, a2, a3⟩ := hagree c
  refine ⟨h0.trans ?_, h1.trans ?_, h2.trans ?_, h3.trans ?_, hk⟩
  · rw [EvenInRefIdeal.Read.val_main_v86_eq, a0, a1, a2, a3]
    refine Eq.trans ?_ (array5 m c).symm
    refine funext fun (j : EvenInIdeal.S16384x1024.Idx) => ?_
    idx_vars j
    exact ref_queries _ _ _ _ j0 j1
  · rw [EvenInRefIdeal.Read.val_main_v89_eq, a0, a1, a2, a3]
    refine Eq.trans ?_ (array6 m c).symm
    refine funext fun (j : EvenInIdeal.S16384x512.Idx) => ?_
    idx_vars j
    exact ref_keys _ _ _ _ j0 j1
  · refine (EvenInRefIdeal.Read.val_main_v92_eq (F := Ideal) (m' ((c.tc : Thread EvenInRefIdeal.nD EvenInRefIdeal.τ).loc EvenInRefIdeal.main_arg0))
      (m' ((c.tc : Thread EvenInRefIdeal.nD EvenInRefIdeal.τ).loc EvenInRefIdeal.main_arg2)) (m' ((c.tc : Thread EvenInRefIdeal.nD EvenInRefIdeal.τ).loc EvenInRefIdeal.main_arg3))).trans ?_
    rw [a0, a2, a3]
    refine Eq.trans ?_ (array7 m c).symm
    refine funext fun (j : EvenInIdeal.S16384x512.Idx) => ?_
    idx_vars j
    exact ref_values _ _ _ j0 j1
  · refine (EvenInRefIdeal.Read.val_main_v93_eq (F := Ideal) (m' ((c.tc : Thread EvenInRefIdeal.nD EvenInRefIdeal.τ).loc EvenInRefIdeal.main_arg0))
      (m' ((c.tc : Thread EvenInRefIdeal.nD EvenInRefIdeal.τ).loc EvenInRefIdeal.main_arg2)) (m' ((c.tc : Thread EvenInRefIdeal.nD EvenInRefIdeal.τ).loc EvenInRefIdeal.main_arg3))).trans ?_
    rw [a0, a2, a3]
    refine Eq.trans ?_ (array8 m c).symm
    refine funext fun (j : EvenInIdeal.S16384x1024.Idx) => ?_
    idx_vars j
    exact ref_inputs _ _ _ j0 j1

end Cert.EvenInIdeal.Proj

end
-- ==== Proof.lean ====
/-
  The certificate's claims, put together: the frames, the idealizations, and the calls' values.
-/
module

public import proofs.«01_k».proof.Defs
public import proofs.«01_k».proof.Proof.FfnClaim
public import proofs.«01_k».proof.Proof.AttnClaim
public import proofs.«01_k».proof.Proof.LastClaim
public import proofs.«01_k».proof.Proof.OddInClaim
public import proofs.«01_k».proof.Proof.OddOutClaim
public import proofs.«01_k».proof.Proof.EvenOutClaim
public import proofs.«01_k».proof.Proof.EvenInClaim
public import proofs.«01_k».proof.Proof.Gen.Kernel.Frame
public import proofs.«01_k».proof.Proof.Gen.KernelIdeal.Frame
public import proofs.«01_k».proof.Proof.Gen.ReferenceIdeal.Run
public import proofs.«01_k».proof.Proof.Gen.Ffn.Frame
public import Idealize.ShloMosaic.Adequacy
public import Idealize.ShloMosaic.Init

@[expose] public section

noncomputable section

namespace Cert.Proof

open Idealize.ShloMosaic Idealize.SL.Sem

/-- The attention's reference ends, its arguments kept. -/
theorem frame_reference : Cert.quiescent_ReferenceIdeal (hReferenceIdeal := Cert.ReferenceIdeal.Gen.facts) :=
  fun m ρ _ => (θ_run Cert.ReferenceIdeal.defs _ _).mono
    (fun r h => ⟨fun c => (h c).2, sem_eq_zero_of_no_sems (by decide) r.2⟩)
    (Cert.ReferenceIdeal.Value.run (F := Ideal) m ρ)

/-- The feed-forward reference ends, its arguments kept. -/
theorem frame_ffn_reference : Cert.quiescent_FfnRefIdeal (hFfnRefIdeal := Cert.FfnRefIdeal.Gen.facts) :=
  fun m ρ _ => (θ_run Cert.FfnRefIdeal.defs _ _).mono
    (fun r h => ⟨fun c => (h c).2.2.2.2, sem_eq_zero_of_no_sems (by decide) r.2⟩)
    (Cert.FfnRefIdeal.Value.run (F := Ideal) m ρ)

/-- The last feed-forward reference ends, its arguments kept. -/
theorem frame_last_reference : Cert.quiescent_LastRefIdeal (hLastRefIdeal := Cert.LastRefIdeal.Gen.facts) :=
  fun m ρ _ => (θ_run Cert.LastRefIdeal.defs _ _).mono
    (fun r h => ⟨fun c => (h c).2, sem_eq_zero_of_no_sems (by decide) r.2⟩)
    (Cert.LastRefIdeal.Value.run (F := Ideal) m ρ)

/-- The recurrence layers' input projection's reference ends, its arguments kept. -/
theorem frame_odd_in_reference : Cert.quiescent_OddInRefIdeal (hOddInRefIdeal := Cert.OddInRefIdeal.Gen.facts) :=
  fun m ρ _ => (θ_run Cert.OddInRefIdeal.defs _ _).mono
    (fun r h => ⟨fun c => (h c).2.2, sem_eq_zero_of_no_sems (by decide) r.2⟩)
    (Cert.OddInRefIdeal.Value.run (F := Ideal) m ρ)

/-- The recurrence layers' output projection's reference ends, its arguments kept. -/
theorem frame_odd_out_reference : Cert.quiescent_OddOutRefIdeal (hOddOutRefIdeal := Cert.OddOutRefIdeal.Gen.facts) :=
  fun m ρ _ => (θ_run Cert.OddOutRefIdeal.defs _ _).mono
    (fun r h => ⟨fun c => (h c).2, sem_eq_zero_of_no_sems (by decide) r.2⟩)
    (Cert.OddOutRefIdeal.Value.run (F := Ideal) m ρ)

/-- The attention layers' output projection's reference ends, its arguments kept. -/
theorem frame_even_out_reference : Cert.quiescent_EvenOutRefIdeal (hEvenOutRefIdeal := Cert.EvenOutRefIdeal.Gen.facts) :=
  fun m ρ _ => (θ_run Cert.EvenOutRefIdeal.defs _ _).mono
    (fun r h => ⟨fun c => (h c).2, sem_eq_zero_of_no_sems (by decide) r.2⟩)
    (Cert.EvenOutRefIdeal.Value.run (F := Ideal) m ρ)

/-- The attention layers' input projection's reference ends, its arguments kept. -/
theorem frame_even_in_reference : Cert.quiescent_EvenInRefIdeal (hEvenInRefIdeal := Cert.EvenInRefIdeal.Gen.facts) :=
  fun m ρ _ => (θ_run Cert.EvenInRefIdeal.defs _ _).mono
    (fun r h => ⟨fun c => (h c).2.2.2.2, sem_eq_zero_of_no_sems (by decide) r.2⟩)
    (Cert.EvenInRefIdeal.Value.run (F := Ideal) m ρ)

theorem claim : Cert.Claim :=
  ⟨Cert.Kernel.Gen.facts, Cert.KernelIdeal.Gen.facts, Cert.ReferenceIdeal.Gen.facts, Cert.Ffn.Gen.facts,
    Cert.FfnIdeal.Gen.facts, Cert.FfnRefIdeal.Gen.facts,
    Cert.Last.Gen.facts, Cert.LastIdeal.Gen.facts, Cert.LastRefIdeal.Gen.facts,
    Cert.OddIn.Gen.facts, Cert.OddInIdeal.Gen.facts, Cert.OddInRefIdeal.Gen.facts,
    Cert.OddOut.Gen.facts, Cert.OddOutIdeal.Gen.facts, Cert.OddOutRefIdeal.Gen.facts,
    Cert.EvenOut.Gen.facts, Cert.EvenOutIdeal.Gen.facts, Cert.EvenOutRefIdeal.Gen.facts,
    Cert.EvenIn.Gen.facts, Cert.EvenInIdeal.Gen.facts, Cert.EvenInRefIdeal.Gen.facts,
    Cert.Pre_finite.Gen.facts,
    fun m ρ _ => Cert.Kernel.Gen.frame m ρ, fun m ρ _ => Cert.KernelIdeal.Gen.frame m ρ,
    fun m ρ _ => Cert.KernelIdeal.Gen.frame m ρ, frame_reference, fun m ρ _ => frame_reference m ρ trivial,
    fun m ρ _ => Cert.Ffn.Gen.frame m ρ, fun m ρ _ => Cert.FfnIdeal.Gen.frame m ρ, frame_ffn_reference,
    fun m ρ _ => Cert.Last.Gen.frame m ρ, fun m ρ _ => Cert.LastIdeal.Gen.frame m ρ, frame_last_reference,
    fun m ρ _ => Cert.OddIn.Run.frame m ρ, fun m ρ _ => Cert.OddInIdeal.Run.frame m ρ, frame_odd_in_reference,
    fun m ρ _ => Cert.OddOut.Gen.frame m ρ, fun m ρ _ => Cert.OddOutIdeal.Gen.frame m ρ, frame_odd_out_reference,
    fun m ρ _ => Cert.EvenOut.Gen.frame m ρ, fun m ρ _ => Cert.EvenOutIdeal.Gen.frame m ρ, frame_even_out_reference,
    fun m ρ _ => Cert.EvenIn.Gen.frame m ρ, fun m ρ _ => Cert.EvenInIdeal.Gen.frame m ρ, frame_even_in_reference,
    IdealRules.named_const.statement Cert.KernelIdeal.κ "mask" .f32 0xF149F2CA#32 ⊥ rfl,
    Cert.KernelIdeal.Attn.algebraic, trivial,
    Cert.FfnIdeal.Sum.algebraic,
    trivial, Cert.LastIdeal.Sum.algebraic,
    trivial, Cert.OddInIdeal.Proj.algebraic,
    trivial, Cert.OddOutIdeal.Proj.algebraic,
    trivial, Cert.EvenOutIdeal.Proj.algebraic,
    trivial, Cert.EvenInIdeal.Proj.algebraic⟩

end Cert.Proof

end
